-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S8x3 : Shape := ⟨2, ![8, 3]⟩
abbrev S8x3x3x4 : Shape := ⟨4, ![8, 3, 3, 4]⟩
abbrev S_ : Shape := ⟨0, ![]⟩
abbrev S1x3 : Shape := ⟨2, ![1, 3]⟩
abbrev S3 : Shape := ⟨1, ![3]⟩
abbrev S1x3x3x4 : Shape := ⟨4, ![1, 3, 3, 4]⟩
abbrev S3x3x4 : Shape := ⟨3, ![3, 3, 4]⟩
abbrev S8x512x4096 : Shape := ⟨3, ![8, 512, 4096]⟩
abbrev S2x1024x1024 : Shape := ⟨3, ![2, 1024, 1024]⟩
abbrev S2x176x1024 : Shape := ⟨3, ![2, 176, 1024]⟩
abbrev S2 : Shape := ⟨1, ![2]⟩
abbrev S1 : Shape := ⟨1, ![1]⟩
abbrev S1x512x4096 : Shape := ⟨3, ![1, 512, 4096]⟩
abbrev S1x1x1 : Shape := ⟨3, ![1, 1, 1]⟩
abbrev S1x176x4096 : Shape := ⟨3, ![1, 176, 4096]⟩
abbrev S176x4096 : Shape := ⟨2, ![176, 4096]⟩
abbrev S1x160x4096 : Shape := ⟨3, ![1, 160, 4096]⟩
abbrev S160x4096 : Shape := ⟨2, ![160, 4096]⟩
abbrev S1x1024x1024 : Shape := ⟨3, ![1, 1024, 1024]⟩
abbrev S1024x1024 : Shape := ⟨2, ![1024, 1024]⟩
abbrev S176x1024 : Shape := ⟨2, ![176, 1024]⟩
abbrev S1x176x1024 : Shape := ⟨3, ![1, 176, 1024]⟩
abbrev S160x1024 : Shape := ⟨2, ![160, 1024]⟩
abbrev S1x160x1024 : Shape := ⟨3, ![1, 160, 1024]⟩

abbrev nBuf : Space → Nat
  | .hbm => 89
  | .vmem => 5
  | .smem => 3
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S8x3, .i32⟩
  | .hbm, ⟨3, _⟩ => ⟨S8x3x3x4, .i32⟩
  | .hbm, ⟨4, _⟩ => ⟨S8x3x3x4, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x3, .i32⟩
  | .hbm, ⟨25, _⟩ => ⟨S3, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x3x3x4, .i32⟩
  | .hbm, ⟨56, _⟩ => ⟨S3x3x4, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x3x3x4, .i32⟩
  | .hbm, ⟨87, _⟩ => ⟨S3x3x4, .i32⟩
  | .hbm, ⟨88, _⟩ => ⟨S4096x1024, .f32⟩
  | .local _ .vmem, ⟨0, _⟩ => ⟨S512x4096, .f32⟩
  | .local _ .vmem, ⟨1, _⟩ => ⟨S8x512x4096, .bf16⟩
  | .local _ .vmem, ⟨2, _⟩ => ⟨S4096x1024, .bf16⟩
  | .local _ .vmem, ⟨3, _⟩ => ⟨S2x1024x1024, .f32⟩
  | .local _ .vmem, ⟨4, _⟩ => ⟨S2x176x1024, .f32⟩
  | .local _ .smem, ⟨0, _⟩ => ⟨S3, .i32⟩
  | .local _ .smem, ⟨1, _⟩ => ⟨S3x3x4, .i32⟩
  | .local _ .smem, ⟨2, _⟩ => ⟨S3x3x4, .i32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_c_5 : Ref sig .tc := ⟨.hbm, 13, rfl⟩
abbrev main_v6 : Ref sig .tc := ⟨.hbm, 14, rfl⟩
abbrev main_v7 : Ref sig .tc := ⟨.hbm, 15, rfl⟩
abbrev main_c_6 : Ref sig .tc := ⟨.hbm, 16, rfl⟩
abbrev main_c_7 : Ref sig .tc := ⟨.hbm, 17, rfl⟩
abbrev main_v8 : Ref sig .tc := ⟨.hbm, 18, rfl⟩
abbrev main_c_8 : Ref sig .tc := ⟨.hbm, 19, rfl⟩
abbrev main_c_9 : Ref sig .tc := ⟨.hbm, 20, rfl⟩
abbrev main_v9 : Ref sig .tc := ⟨.hbm, 21, rfl⟩
abbrev main_c_10 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_11 : Ref sig .tc := ⟨.hbm, 26, rfl⟩
abbrev main_v13 : Ref sig .tc := ⟨.hbm, 27, rfl⟩
abbrev main_c_12 : Ref sig .tc := ⟨.hbm, 28, rfl⟩
abbrev main_v14 : Ref sig .tc := ⟨.hbm, 29, rfl⟩
abbrev main_v15 : Ref sig .tc := ⟨.hbm, 30, rfl⟩
abbrev main_c_13 : Ref sig .tc := ⟨.hbm, 31, rfl⟩
abbrev main_c_14 : Ref sig .tc := ⟨.hbm, 32, rfl⟩
abbrev main_v16 : Ref sig .tc := ⟨.hbm, 33, rfl⟩
abbrev main_c_15 : Ref sig .tc := ⟨.hbm, 34, rfl⟩
abbrev main_c_16 : Ref sig .tc := ⟨.hbm, 35, rfl⟩
abbrev main_v17 : Ref sig .tc := ⟨.hbm, 36, rfl⟩
abbrev main_c_17 : Ref sig .tc := ⟨.hbm, 37, rfl⟩
abbrev main_v18 : Ref sig .tc := ⟨.hbm, 38, rfl⟩
abbrev main_c_18 : Ref sig .tc := ⟨.hbm, 39, rfl⟩
abbrev main_c_19 : Ref sig .tc := ⟨.hbm, 40, rfl⟩
abbrev main_v19 : Ref sig .tc := ⟨.hbm, 41, rfl⟩
abbrev main_c_20 : Ref sig .tc := ⟨.hbm, 42, rfl⟩
abbrev main_c_21 : Ref sig .tc := ⟨.hbm, 43, rfl⟩
abbrev main_v20 : Ref sig .tc := ⟨.hbm, 44, rfl⟩
abbrev main_c_22 : Ref sig .tc := ⟨.hbm, 45, rfl⟩
abbrev main_v21 : Ref sig .tc := ⟨.hbm, 46, rfl⟩
abbrev main_c_23 : Ref sig .tc := ⟨.hbm, 47, rfl⟩
abbrev main_c_24 : Ref sig .tc := ⟨.hbm, 48, rfl⟩
abbrev main_v22 : Ref sig .tc := ⟨.hbm, 49, rfl⟩
abbrev main_c_25 : Ref sig .tc := ⟨.hbm, 50, rfl⟩
abbrev main_c_26 : Ref sig .tc := ⟨.hbm, 51, rfl⟩
abbrev main_v23 : Ref sig .tc := ⟨.hbm, 52, rfl⟩
abbrev main_c_27 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_28 : Ref sig .tc := ⟨.hbm, 57, rfl⟩
abbrev main_v27 : Ref sig .tc := ⟨.hbm, 58, rfl⟩
abbrev main_c_29 : Ref sig .tc := ⟨.hbm, 59, rfl⟩
abbrev main_v28 : Ref sig .tc := ⟨.hbm, 60, rfl⟩
abbrev main_v29 : Ref sig .tc := ⟨.hbm, 61, rfl⟩
abbrev main_c_30 : Ref sig .tc := ⟨.hbm, 62, rfl⟩
abbrev main_c_31 : Ref sig .tc := ⟨.hbm, 63, rfl⟩
abbrev main_v30 : Ref sig .tc := ⟨.hbm, 64, rfl⟩
abbrev main_c_32 : Ref sig .tc := ⟨.hbm, 65, rfl⟩
abbrev main_c_33 : Ref sig .tc := ⟨.hbm, 66, rfl⟩
abbrev main_v31 : Ref sig .tc := ⟨.hbm, 67, rfl⟩
abbrev main_c_34 : Ref sig .tc := ⟨.hbm, 68, rfl⟩
abbrev main_v32 : Ref sig .tc := ⟨.hbm, 69, rfl⟩
abbrev main_c_35 : Ref sig .tc := ⟨.hbm, 70, rfl⟩
abbrev main_c_36 : Ref sig .tc := ⟨.hbm, 71, rfl⟩
abbrev main_v33 : Ref sig .tc := ⟨.hbm, 72, rfl⟩
abbrev main_c_37 : Ref sig .tc := ⟨.hbm, 73, rfl⟩
abbrev main_c_38 : Ref sig .tc := ⟨.hbm, 74, rfl⟩
abbrev main_v34 : Ref sig .tc := ⟨.hbm, 75, rfl⟩
abbrev main_c_39 : Ref sig .tc := ⟨.hbm, 76, rfl⟩
abbrev main_v35 : Ref sig .tc := ⟨.hbm, 77, rfl⟩
abbrev main_c_40 : Ref sig .tc := ⟨.hbm, 78, rfl⟩
abbrev main_c_41 : Ref sig .tc := ⟨.hbm, 79, rfl⟩
abbrev main_v36 : Ref sig .tc := ⟨.hbm, 80, rfl⟩
abbrev main_c_42 : Ref sig .tc := ⟨.hbm, 81, rfl⟩
abbrev main_c_43 : Ref sig .tc := ⟨.hbm, 82, rfl⟩
abbrev main_v37 : Ref sig .tc := ⟨.hbm, 83, rfl⟩
abbrev main_c_44 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (v4 : BitVec 32) : Nat :=
  let c0_i32 : BitVec 32 := 0#32
  let c1_i32_1 : BitVec 32 := 1#32
  let v5 : BitVec 32 := Scalar.muli v4 c1_i32_1
  let v6 : BitVec 32 := Scalar.addi c0_i32 v5
  v6.toNat

def k0_chk1 (v4 : BitVec 32) : Prop :=
  ((k0_dev1 v4) < nD)
theorem k0_dev1_lt : ∀ (v4 : BitVec 32) (k0_hw1 : k0_chk1 v4), (k0_dev1 v4) < nD := fun v4 k0_hw1 => k0_hw1

def k0_dev2 (v7 : BitVec 32) : Nat :=
  let c0_i32_4 : BitVec 32 := 0#32
  let c1_i32_3 : BitVec 32 := 1#32
  let v8 : BitVec 32 := Scalar.muli v7 c1_i32_3
  let v9 : BitVec 32 := Scalar.addi c0_i32_4 v8
  v9.toNat

def k0_chk2 (v7 : BitVec 32) : Prop :=
  ((k0_dev2 v7) < nD)
theorem k0_dev2_lt : ∀ (v7 : BitVec 32) (k0_hw2 : k0_chk2 v7), (k0_dev2 v7) < nD := fun v7 k0_hw2 => k0_hw2

def k0_dev3 (v10 : BitVec 32) : Nat :=
  let c0_i32_7 : BitVec 32 := 0#32
  let c1_i32_6 : BitVec 32 := 1#32
  let v11 : BitVec 32 := Scalar.muli v10 c1_i32_6
  let v12 : BitVec 32 := Scalar.addi c0_i32_7 v11
  v12.toNat

def k0_chk3 (v10 : BitVec 32) : Prop :=
  ((k0_dev3 v10) < nD)
theorem k0_dev3_lt : ∀ (v10 : BitVec 32) (k0_hw3 : k0_chk3 v10), (k0_dev3 v10) < nD := fun v10 k0_hw3 => k0_hw3

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : Index := Scalar.indexCast v2
  let c0_10 : Index := 0#32
  let c0_11 : Index := 0#32
  ![v16.toNat, 0, 0]
def k0_off2 (v20 : BitVec 32) : Fin 3 → Nat :=
  let c0_i32_24 : BitVec 32 := 0#32
  let c0_i32_25 : BitVec 32 := 0#32
  ![v20.toNat, 0, 0]

def k0_chk4 (v20 : BitVec 32) : Prop :=
  (∀ a, (k0_off2 v20) a + S1x176x4096.size a ≤ S8x512x4096.size a) ∧
  (∀ (hinb : ∀ a, (k0_off2 v20) a + S1x176x4096.size a ≤ S8x512x4096.size a), (Rect.unit (s := S8x512x4096) (k0_off2 v20) S1x176x4096.size hinb).WholeWords (EltTy.packing .bf16))
theorem k0_off2_inb : ∀ (v20 : BitVec 32) (k0_hw4 : k0_chk4 v20), ∀ a, (k0_off2 v20) a + S1x176x4096.size a ≤ S8x512x4096.size a := fun v20 k0_hw4 => k0_hw4.1
theorem k0_off2_wordsbf16 : ∀ (v20 : BitVec 32) (k0_hw4 : k0_chk4 v20), (Rect.unit (s := S8x512x4096) (k0_off2 v20) S1x176x4096.size (k0_off2_inb v20 k0_hw4)).WholeWords (EltTy.packing .bf16) := fun v20 k0_hw4 => k0_hw4.2 (k0_off2_inb v20 k0_hw4)

def k0_dev4 (v21 : BitVec 32) : Nat :=
  let c0_i32_23 : BitVec 32 := 0#32
  let c1_i32_22 : BitVec 32 := 1#32
  let v22 : BitVec 32 := Scalar.muli v21 c1_i32_22
  let v23 : BitVec 32 := Scalar.addi c0_i32_23 v22
  v23.toNat

def k0_chk5 (v21 : BitVec 32) : Prop :=
  ((k0_dev4 v21) < nD)
theorem k0_dev4_lt : ∀ (v21 : BitVec 32) (k0_hw5 : k0_chk5 v21), (k0_dev4 v21) < nD := fun v21 k0_hw5 => k0_hw5

def k0_off3 (v32 : BitVec 32) : Fin 3 → Nat :=
  let c0_i32_40 : BitVec 32 := 0#32
  let c0_i32_41 : BitVec 32 := 0#32
  ![v32.toNat, 0, 0]

def k0_chk6 (v32 : BitVec 32) : Prop :=
  (∀ a, (k0_off3 v32) a + S1x176x4096.size a ≤ S8x512x4096.size a) ∧
  (∀ (hinb : ∀ a, (k0_off3 v32) a + S1x176x4096.size a ≤ S8x512x4096.size a), (Rect.unit (s := S8x512x4096) (k0_off3 v32) S1x176x4096.size hinb).WholeWords (EltTy.packing .bf16))
theorem k0_off3_inb : ∀ (v32 : BitVec 32) (k0_hw6 : k0_chk6 v32), ∀ a, (k0_off3 v32) a + S1x176x4096.size a ≤ S8x512x4096.size a := fun v32 k0_hw6 => k0_hw6.1
theorem k0_off3_wordsbf16 : ∀ (v32 : BitVec 32) (k0_hw6 : k0_chk6 v32), (Rect.unit (s := S8x512x4096) (k0_off3 v32) S1x176x4096.size (k0_off3_inb v32 k0_hw6)).WholeWords (EltTy.packing .bf16) := fun v32 k0_hw6 => k0_hw6.2 (k0_off3_inb v32 k0_hw6)

def k0_dev5 (v33 : BitVec 32) : Nat :=
  let c0_i32_39 : BitVec 32 := 0#32
  let c1_i32_38 : BitVec 32 := 1#32
  let v34 : BitVec 32 := Scalar.muli v33 c1_i32_38
  let v35 : BitVec 32 := Scalar.addi c0_i32_39 v34
  v35.toNat

def k0_chk7 (v33 : BitVec 32) : Prop :=
  ((k0_dev5 v33) < nD)
theorem k0_dev5_lt : ∀ (v33 : BitVec 32) (k0_hw7 : k0_chk7 v33), (k0_dev5 v33) < nD := fun v33 k0_hw7 => k0_hw7

def k0_off4 (v44 : BitVec 32) : Fin 3 → Nat :=
  let c0_i32_55 : BitVec 32 := 0#32
  let c0_i32_56 : BitVec 32 := 0#32
  ![v44.toNat, 0, 0]

def k0_chk8 (v44 : BitVec 32) : Prop :=
  (∀ a, (k0_off4 v44) a + S1x176x4096.size a ≤ S8x512x4096.size a) ∧
  (∀ (hinb : ∀ a, (k0_off4 v44) a + S1x176x4096.size a ≤ S8x512x4096.size a), (Rect.unit (s := S8x512x4096) (k0_off4 v44) S1x176x4096.size hinb).WholeWords (EltTy.packing .bf16))
theorem k0_off4_inb : ∀ (v44 : BitVec 32) (k0_hw8 : k0_chk8 v44), ∀ a, (k0_off4 v44) a + S1x176x4096.size a ≤ S8x512x4096.size a := fun v44 k0_hw8 => k0_hw8.1
theorem k0_off4_wordsbf16 : ∀ (v44 : BitVec 32) (k0_hw8 : k0_chk8 v44), (Rect.unit (s := S8x512x4096) (k0_off4 v44) S1x176x4096.size (k0_off4_inb v44 k0_hw8)).WholeWords (EltTy.packing .bf16) := fun v44 k0_hw8 => k0_hw8.2 (k0_off4_inb v44 k0_hw8)

def k0_dev6 (v45 : BitVec 32) : Nat :=
  let c0_i32_54 : BitVec 32 := 0#32
  let c1_i32_53 : BitVec 32 := 1#32
  let v46 : BitVec 32 := Scalar.muli v45 c1_i32_53
  let v47 : BitVec 32 := Scalar.addi c0_i32_54 v46
  v47.toNat

def k0_chk9 (v45 : BitVec 32) : Prop :=
  ((k0_dev6 v45) < nD)
theorem k0_dev6_lt : ∀ (v45 : BitVec 32) (k0_hw9 : k0_chk9 v45), (k0_dev6 v45) < nD := fun v45 k0_hw9 => k0_hw9

def k0_off5 (v56 : BitVec 32) : Fin 3 → Nat :=
  let c176_i32 : BitVec 32 := 176#32
  let c0_i32_71 : BitVec 32 := 0#32
  ![v56.toNat, 176, 0]

def k0_chk10 (v56 : BitVec 32) : Prop :=
  (∀ a, (k0_off5 v56) a + S1x176x4096.size a ≤ S8x512x4096.size a) ∧
  (∀ (hinb : ∀ a, (k0_off5 v56) a + S1x176x4096.size a ≤ S8x512x4096.size a), (Rect.unit (s := S8x512x4096) (k0_off5 v56) S1x176x4096.size hinb).WholeWords (EltTy.packing .bf16))
theorem k0_off5_inb : ∀ (v56 : BitVec 32) (k0_hw10 : k0_chk10 v56), ∀ a, (k0_off5 v56) a + S1x176x4096.size a ≤ S8x512x4096.size a := fun v56 k0_hw10 => k0_hw10.1
theorem k0_off5_wordsbf16 : ∀ (v56 : BitVec 32) (k0_hw10 : k0_chk10 v56), (Rect.unit (s := S8x512x4096) (k0_off5 v56) S1x176x4096.size (k0_off5_inb v56 k0_hw10)).WholeWords (EltTy.packing .bf16) := fun v56 k0_hw10 => k0_hw10.2 (k0_off5_inb v56 k0_hw10)

def k0_dev7 (v57 : BitVec 32) : Nat :=
  let c0_i32_70 : BitVec 32 := 0#32
  let c1_i32_69 : BitVec 32 := 1#32
  let v58 : BitVec 32 := Scalar.muli v57 c1_i32_69
  let v59 : BitVec 32 := Scalar.addi c0_i32_70 v58
  v59.toNat

def k0_chk11 (v57 : BitVec 32) : Prop :=
  ((k0_dev7 v57) < nD)
theorem k0_dev7_lt : ∀ (v57 : BitVec 32) (k0_hw11 : k0_chk11 v57), (k0_dev7 v57) < nD := fun v57 k0_hw11 => k0_hw11

def k0_off6 (v68 : BitVec 32) : Fin 3 → Nat :=
  let c176_i32_86 : BitVec 32 := 176#32
  let c0_i32_87 : BitVec 32 := 0#32
  ![v68.toNat, 176, 0]

def k0_chk12 (v68 : BitVec 32) : Prop :=
  (∀ a, (k0_off6 v68) a + S1x176x4096.size a ≤ S8x512x4096.size a) ∧
  (∀ (hinb : ∀ a, (k0_off6 v68) a + S1x176x4096.size a ≤ S8x512x4096.size a), (Rect.unit (s := S8x512x4096) (k0_off6 v68) S1x176x4096.size hinb).WholeWords (EltTy.packing .bf16))
theorem k0_off6_inb : ∀ (v68 : BitVec 32) (k0_hw12 : k0_chk12 v68), ∀ a, (k0_off6 v68) a + S1x176x4096.size a ≤ S8x512x4096.size a := fun v68 k0_hw12 => k0_hw12.1
theorem k0_off6_wordsbf16 : ∀ (v68 : BitVec 32) (k0_hw12 : k0_chk12 v68), (Rect.unit (s := S8x512x4096) (k0_off6 v68) S1x176x4096.size (k0_off6_inb v68 k0_hw12)).WholeWords (EltTy.packing .bf16) := fun v68 k0_hw12 => k0_hw12.2 (k0_off6_inb v68 k0_hw12)

def k0_dev8 (v69 : BitVec 32) : Nat :=
  let c0_i32_85 : BitVec 32 := 0#32
  let c1_i32_84 : BitVec 32 := 1#32
  let v70 : BitVec 32 := Scalar.muli v69 c1_i32_84
  let v71 : BitVec 32 := Scalar.addi c0_i32_85 v70
  v71.toNat

def k0_chk13 (v69 : BitVec 32) : Prop :=
  ((k0_dev8 v69) < nD)
theorem k0_dev8_lt : ∀ (v69 : BitVec 32) (k0_hw13 : k0_chk13 v69), (k0_dev8 v69) < nD := fun v69 k0_hw13 => k0_hw13

def k0_off7 (v80 : BitVec 32) : Fin 3 → Nat :=
  let c176_i32_102 : BitVec 32 := 176#32
  let c0_i32_103 : BitVec 32 := 0#32
  ![v80.toNat, 176, 0]

def k0_chk14 (v80 : BitVec 32) : Prop :=
  (∀ a, (k0_off7 v80) a + S1x176x4096.size a ≤ S8x512x4096.size a) ∧
  (∀ (hinb : ∀ a, (k0_off7 v80) a + S1x176x4096.size a ≤ S8x512x4096.size a), (Rect.unit (s := S8x512x4096) (k0_off7 v80) S1x176x4096.size hinb).WholeWords (EltTy.packing .bf16))
theorem k0_off7_inb : ∀ (v80 : BitVec 32) (k0_hw14 : k0_chk14 v80), ∀ a, (k0_off7 v80) a + S1x176x4096.size a ≤ S8x512x4096.size a := fun v80 k0_hw14 => k0_hw14.1
theorem k0_off7_wordsbf16 : ∀ (v80 : BitVec 32) (k0_hw14 : k0_chk14 v80), (Rect.unit (s := S8x512x4096) (k0_off7 v80) S1x176x4096.size (k0_off7_inb v80 k0_hw14)).WholeWords (EltTy.packing .bf16) := fun v80 k0_hw14 => k0_hw14.2 (k0_off7_inb v80 k0_hw14)

def k0_dev9 (v81 : BitVec 32) : Nat :=
  let c0_i32_101 : BitVec 32 := 0#32
  let c1_i32_100 : BitVec 32 := 1#32
  let v82 : BitVec 32 := Scalar.muli v81 c1_i32_100
  let v83 : BitVec 32 := Scalar.addi c0_i32_101 v82
  v83.toNat

def k0_chk15 (v81 : BitVec 32) : Prop :=
  ((k0_dev9 v81) < nD)
theorem k0_dev9_lt : ∀ (v81 : BitVec 32) (k0_hw15 : k0_chk15 v81), (k0_dev9 v81) < nD := fun v81 k0_hw15 => k0_hw15

def k0_off8 (v92 : BitVec 32) : Fin 3 → Nat :=
  let c352_i32 : BitVec 32 := 352#32
  let c0_i32_118 : BitVec 32 := 0#32
  ![v92.toNat, 352, 0]

def k0_chk16 (v92 : BitVec 32) : Prop :=
  (∀ a, (k0_off8 v92) a + S1x160x4096.size a ≤ S8x512x4096.size a) ∧
  (∀ (hinb : ∀ a, (k0_off8 v92) a + S1x160x4096.size a ≤ S8x512x4096.size a), (Rect.unit (s := S8x512x4096) (k0_off8 v92) S1x160x4096.size hinb).WholeWords (EltTy.packing .bf16))
theorem k0_off8_inb : ∀ (v92 : BitVec 32) (k0_hw16 : k0_chk16 v92), ∀ a, (k0_off8 v92) a + S1x160x4096.size a ≤ S8x512x4096.size a := fun v92 k0_hw16 => k0_hw16.1
theorem k0_off8_wordsbf16 : ∀ (v92 : BitVec 32) (k0_hw16 : k0_chk16 v92), (Rect.unit (s := S8x512x4096) (k0_off8 v92) S1x160x4096.size (k0_off8_inb v92 k0_hw16)).WholeWords (EltTy.packing .bf16) := fun v92 k0_hw16 => k0_hw16.2 (k0_off8_inb v92 k0_hw16)

def k0_dev10 (v93 : BitVec 32) : Nat :=
  let c0_i32_117 : BitVec 32 := 0#32
  let c1_i32_116 : BitVec 32 := 1#32
  let v94 : BitVec 32 := Scalar.muli v93 c1_i32_116
  let v95 : BitVec 32 := Scalar.addi c0_i32_117 v94
  v95.toNat

def k0_chk17 (v93 : BitVec 32) : Prop :=
  ((k0_dev10 v93) < nD)
theorem k0_dev10_lt : ∀ (v93 : BitVec 32) (k0_hw17 : k0_chk17 v93), (k0_dev10 v93) < nD := fun v93 k0_hw17 => k0_hw17

def k0_off9 (v104 : BitVec 32) : Fin 3 → Nat :=
  let c352_i32_133 : BitVec 32 := 352#32
  let c0_i32_134 : BitVec 32 := 0#32
  ![v104.toNat, 352, 0]

def k0_chk18 (v104 : BitVec 32) : Prop :=
  (∀ a, (k0_off9 v104) a + S1x160x4096.size a ≤ S8x512x4096.size a) ∧
  (∀ (hinb : ∀ a, (k0_off9 v104) a + S1x160x4096.size a ≤ S8x512x4096.size a), (Rect.unit (s := S8x512x4096) (k0_off9 v104) S1x160x4096.size hinb).WholeWords (EltTy.packing .bf16))
theorem k0_off9_inb : ∀ (v104 : BitVec 32) (k0_hw18 : k0_chk18 v104), ∀ a, (k0_off9 v104) a + S1x160x4096.size a ≤ S8x512x4096.size a := fun v104 k0_hw18 => k0_hw18.1
theorem k0_off9_wordsbf16 : ∀ (v104 : BitVec 32) (k0_hw18 : k0_chk18 v104), (Rect.unit (s := S8x512x4096) (k0_off9 v104) S1x160x4096.size (k0_off9_inb v104 k0_hw18)).WholeWords (EltTy.packing .bf16) := fun v104 k0_hw18 => k0_hw18.2 (k0_off9_inb v104 k0_hw18)

def k0_dev11 (v105 : BitVec 32) : Nat :=
  let c0_i32_132 : BitVec 32 := 0#32
  let c1_i32_131 : BitVec 32 := 1#32
  let v106 : BitVec 32 := Scalar.muli v105 c1_i32_131
  let v107 : BitVec 32 := Scalar.addi c0_i32_132 v106
  v107.toNat

def k0_chk19 (v105 : BitVec 32) : Prop :=
  ((k0_dev11 v105) < nD)
theorem k0_dev11_lt : ∀ (v105 : BitVec 32) (k0_hw19 : k0_chk19 v105), (k0_dev11 v105) < nD := fun v105 k0_hw19 => k0_hw19

def k0_off10 (v116 : BitVec 32) : Fin 3 → Nat :=
  let c352_i32_149 : BitVec 32 := 352#32
  let c0_i32_150 : BitVec 32 := 0#32
  ![v116.toNat, 352, 0]

def k0_chk20 (v116 : BitVec 32) : Prop :=
  (∀ a, (k0_off10 v116) a + S1x160x4096.size a ≤ S8x512x4096.size a) ∧
  (∀ (hinb : ∀ a, (k0_off10 v116) a + S1x160x4096.size a ≤ S8x512x4096.size a), (Rect.unit (s := S8x512x4096) (k0_off10 v116) S1x160x4096.size hinb).WholeWords (EltTy.packing .bf16))
theorem k0_off10_inb : ∀ (v116 : BitVec 32) (k0_hw20 : k0_chk20 v116), ∀ a, (k0_off10 v116) a + S1x160x4096.size a ≤ S8x512x4096.size a := fun v116 k0_hw20 => k0_hw20.1
theorem k0_off10_wordsbf16 : ∀ (v116 : BitVec 32) (k0_hw20 : k0_chk20 v116), (Rect.unit (s := S8x512x4096) (k0_off10 v116) S1x160x4096.size (k0_off10_inb v116 k0_hw20)).WholeWords (EltTy.packing .bf16) := fun v116 k0_hw20 => k0_hw20.2 (k0_off10_inb v116 k0_hw20)

def k0_dev12 (v117 : BitVec 32) : Nat :=
  let c0_i32_148 : BitVec 32 := 0#32
  let c1_i32_147 : BitVec 32 := 1#32
  let v118 : BitVec 32 := Scalar.muli v117 c1_i32_147
  let v119 : BitVec 32 := Scalar.addi c0_i32_148 v118
  v119.toNat

def k0_chk21 (v117 : BitVec 32) : Prop :=
  ((k0_dev12 v117) < nD)
theorem k0_dev12_lt : ∀ (v117 : BitVec 32) (k0_hw21 : k0_chk21 v117), (k0_dev12 v117) < nD := fun v117 k0_hw21 => k0_hw21

def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v192 : Index := Scalar.indexCast v2
  let c0_215 : Index := 0#32
  let c0_216 : Index := 0#32
  ![v192.toNat, 0, 0]
def k0_off12 (d0 : Dev nD) (c0_i32_217 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v195 : BitVec 32 := Scalar.muli v2 c512_i32
  let v196 : BitVec 32 := Scalar.addi v195 c0_i32_217
  let c0_i32_226 : BitVec 32 := 0#32
  ![v196.toNat, 0]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : Index := Scalar.indexCast v2
  let c176 : Index := 176#32
  let c0_229 : Index := 0#32
  ![v209.toNat, 176, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : Index := Scalar.indexCast v2
  let c352 : Index := 352#32
  let c0_244 : Index := 0#32
  ![v226.toNat, 352, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_245 : BitVec 32 := 512#32
  let v229 : BitVec 32 := Scalar.muli v2 c512_i32_245
  let c352_i32_246 : BitVec 32 := 352#32
  let v230 : BitVec 32 := Scalar.addi v229 c352_i32_246
  let c0_i32_261 : BitVec 32 := 0#32
  ![v230.toNat, 0]
def k0_off16 (v248 : BitVec 32) : Fin 3 → Nat :=
  let c0_i32_276 : BitVec 32 := 0#32
  let c0_i32_277 : BitVec 32 := 0#32
  ![v248.toNat, 0, 0]

def k0_chk22 (v248 : BitVec 32) : Prop :=
  (∀ a, (k0_off16 v248) a + S1x176x4096.size a ≤ S8x512x4096.size a) ∧
  (∀ (hinb : ∀ a, (k0_off16 v248) a + S1x176x4096.size a ≤ S8x512x4096.size a), (Rect.unit (s := S8x512x4096) (k0_off16 v248) S1x176x4096.size hinb).WholeWords (EltTy.packing .bf16))
theorem k0_off16_inb : ∀ (v248 : BitVec 32) (k0_hw22 : k0_chk22 v248), ∀ a, (k0_off16 v248) a + S1x176x4096.size a ≤ S8x512x4096.size a := fun v248 k0_hw22 => k0_hw22.1
theorem k0_off16_wordsbf16 : ∀ (v248 : BitVec 32) (k0_hw22 : k0_chk22 v248), (Rect.unit (s := S8x512x4096) (k0_off16 v248) S1x176x4096.size (k0_off16_inb v248 k0_hw22)).WholeWords (EltTy.packing .bf16) := fun v248 k0_hw22 => k0_hw22.2 (k0_off16_inb v248 k0_hw22)

def k0_off17 (v258 : BitVec 32) : Fin 3 → Nat :=
  let c0_i32_292 : BitVec 32 := 0#32
  let c0_i32_293 : BitVec 32 := 0#32
  ![v258.toNat, 0, 0]

def k0_chk23 (v258 : BitVec 32) : Prop :=
  (∀ a, (k0_off17 v258) a + S1x176x4096.size a ≤ S8x512x4096.size a) ∧
  (∀ (hinb : ∀ a, (k0_off17 v258) a + S1x176x4096.size a ≤ S8x512x4096.size a), (Rect.unit (s := S8x512x4096) (k0_off17 v258) S1x176x4096.size hinb).WholeWords (EltTy.packing .bf16))
theorem k0_off17_inb : ∀ (v258 : BitVec 32) (k0_hw23 : k0_chk23 v258), ∀ a, (k0_off17 v258) a + S1x176x4096.size a ≤ S8x512x4096.size a := fun v258 k0_hw23 => k0_hw23.1
theorem k0_off17_wordsbf16 : ∀ (v258 : BitVec 32) (k0_hw23 : k0_chk23 v258), (Rect.unit (s := S8x512x4096) (k0_off17 v258) S1x176x4096.size (k0_off17_inb v258 k0_hw23)).WholeWords (EltTy.packing .bf16) := fun v258 k0_hw23 => k0_hw23.2 (k0_off17_inb v258 k0_hw23)

def k0_dev13 (v259 : BitVec 32) : Nat :=
  let c0_i32_291 : BitVec 32 := 0#32
  let c1_i32_290 : BitVec 32 := 1#32
  let v260 : BitVec 32 := Scalar.muli v259 c1_i32_290
  let v261 : BitVec 32 := Scalar.addi c0_i32_291 v260
  v261.toNat

def k0_chk24 (v259 : BitVec 32) : Prop :=
  ((k0_dev13 v259) < nD)
theorem k0_dev13_lt : ∀ (v259 : BitVec 32) (k0_hw24 : k0_chk24 v259), (k0_dev13 v259) < nD := fun v259 k0_hw24 => k0_hw24

def k0_off18 (v270 : BitVec 32) : Fin 3 → Nat :=
  let c0_i32_308 : BitVec 32 := 0#32
  let c0_i32_309 : BitVec 32 := 0#32
  ![v270.toNat, 0, 0]

def k0_chk25 (v270 : BitVec 32) : Prop :=
  (∀ a, (k0_off18 v270) a + S1x176x4096.size a ≤ S8x512x4096.size a) ∧
  (∀ (hinb : ∀ a, (k0_off18 v270) a + S1x176x4096.size a ≤ S8x512x4096.size a), (Rect.unit (s := S8x512x4096) (k0_off18 v270) S1x176x4096.size hinb).WholeWords (EltTy.packing .bf16))
theorem k0_off18_inb : ∀ (v270 : BitVec 32) (k0_hw25 : k0_chk25 v270), ∀ a, (k0_off18 v270) a + S1x176x4096.size a ≤ S8x512x4096.size a := fun v270 k0_hw25 => k0_hw25.1
theorem k0_off18_wordsbf16 : ∀ (v270 : BitVec 32) (k0_hw25 : k0_chk25 v270), (Rect.unit (s := S8x512x4096) (k0_off18 v270) S1x176x4096.size (k0_off18_inb v270 k0_hw25)).WholeWords (EltTy.packing .bf16) := fun v270 k0_hw25 => k0_hw25.2 (k0_off18_inb v270 k0_hw25)

def k0_dev14 (v271 : BitVec 32) : Nat :=
  let c0_i32_307 : BitVec 32 := 0#32
  let c1_i32_306 : BitVec 32 := 1#32
  let v272 : BitVec 32 := Scalar.muli v271 c1_i32_306
  let v273 : BitVec 32 := Scalar.addi c0_i32_307 v272
  v273.toNat

def k0_chk26 (v271 : BitVec 32) : Prop :=
  ((k0_dev14 v271) < nD)
theorem k0_dev14_lt : ∀ (v271 : BitVec 32) (k0_hw26 : k0_chk26 v271), (k0_dev14 v271) < nD := fun v271 k0_hw26 => k0_hw26

def k0_off19 (v282 : BitVec 32) : Fin 3 → Nat :=
  let c176_i32_324 : BitVec 32 := 176#32
  let c0_i32_325 : BitVec 32 := 0#32
  ![v282.toNat, 176, 0]

def k0_chk27 (v282 : BitVec 32) : Prop :=
  (∀ a, (k0_off19 v282) a + S1x176x4096.size a ≤ S8x512x4096.size a) ∧
  (∀ (hinb : ∀ a, (k0_off19 v282) a + S1x176x4096.size a ≤ S8x512x4096.size a), (Rect.unit (s := S8x512x4096) (k0_off19 v282) S1x176x4096.size hinb).WholeWords (EltTy.packing .bf16))
theorem k0_off19_inb : ∀ (v282 : BitVec 32) (k0_hw27 : k0_chk27 v282), ∀ a, (k0_off19 v282) a + S1x176x4096.size a ≤ S8x512x4096.size a := fun v282 k0_hw27 => k0_hw27.1
theorem k0_off19_wordsbf16 : ∀ (v282 : BitVec 32) (k0_hw27 : k0_chk27 v282), (Rect.unit (s := S8x512x4096) (k0_off19 v282) S1x176x4096.size (k0_off19_inb v282 k0_hw27)).WholeWords (EltTy.packing .bf16) := fun v282 k0_hw27 => k0_hw27.2 (k0_off19_inb v282 k0_hw27)

def k0_off20 (v292 : BitVec 32) : Fin 3 → Nat :=
  let c176_i32_340 : BitVec 32 := 176#32
  let c0_i32_341 : BitVec 32 := 0#32
  ![v292.toNat, 176, 0]

def k0_chk28 (v292 : BitVec 32) : Prop :=
  (∀ a, (k0_off20 v292) a + S1x176x4096.size a ≤ S8x512x4096.size a) ∧
  (∀ (hinb : ∀ a, (k0_off20 v292) a + S1x176x4096.size a ≤ S8x512x4096.size a), (Rect.unit (s := S8x512x4096) (k0_off20 v292) S1x176x4096.size hinb).WholeWords (EltTy.packing .bf16))
theorem k0_off20_inb : ∀ (v292 : BitVec 32) (k0_hw28 : k0_chk28 v292), ∀ a, (k0_off20 v292) a + S1x176x4096.size a ≤ S8x512x4096.size a := fun v292 k0_hw28 => k0_hw28.1
theorem k0_off20_wordsbf16 : ∀ (v292 : BitVec 32) (k0_hw28 : k0_chk28 v292), (Rect.unit (s := S8x512x4096) (k0_off20 v292) S1x176x4096.size (k0_off20_inb v292 k0_hw28)).WholeWords (EltTy.packing .bf16) := fun v292 k0_hw28 => k0_hw28.2 (k0_off20_inb v292 k0_hw28)

def k0_dev15 (v293 : BitVec 32) : Nat :=
  let c0_i32_339 : BitVec 32 := 0#32
  let c1_i32_338 : BitVec 32 := 1#32
  let v294 : BitVec 32 := Scalar.muli v293 c1_i32_338
  let v295 : BitVec 32 := Scalar.addi c0_i32_339 v294
  v295.toNat

def k0_chk29 (v293 : BitVec 32) : Prop :=
  ((k0_dev15 v293) < nD)
theorem k0_dev15_lt : ∀ (v293 : BitVec 32) (k0_hw29 : k0_chk29 v293), (k0_dev15 v293) < nD := fun v293 k0_hw29 => k0_hw29

def k0_off21 (v304 : BitVec 32) : Fin 3 → Nat :=
  let c176_i32_356 : BitVec 32 := 176#32
  let c0_i32_357 : BitVec 32 := 0#32
  ![v304.toNat, 176, 0]

def k0_chk30 (v304 : BitVec 32) : Prop :=
  (∀ a, (k0_off21 v304) a + S1x176x4096.size a ≤ S8x512x4096.size a) ∧
  (∀ (hinb : ∀ a, (k0_off21 v304) a + S1x176x4096.size a ≤ S8x512x4096.size a), (Rect.unit (s := S8x512x4096) (k0_off21 v304) S1x176x4096.size hinb).WholeWords (EltTy.packing .bf16))
theorem k0_off21_inb : ∀ (v304 : BitVec 32) (k0_hw30 : k0_chk30 v304), ∀ a, (k0_off21 v304) a + S1x176x4096.size a ≤ S8x512x4096.size a := fun v304 k0_hw30 => k0_hw30.1
theorem k0_off21_wordsbf16 : ∀ (v304 : BitVec 32) (k0_hw30 : k0_chk30 v304), (Rect.unit (s := S8x512x4096) (k0_off21 v304) S1x176x4096.size (k0_off21_inb v304 k0_hw30)).WholeWords (EltTy.packing .bf16) := fun v304 k0_hw30 => k0_hw30.2 (k0_off21_inb v304 k0_hw30)

def k0_dev16 (v305 : BitVec 32) : Nat :=
  let c0_i32_355 : BitVec 32 := 0#32
  let c1_i32_354 : BitVec 32 := 1#32
  let v306 : BitVec 32 := Scalar.muli v305 c1_i32_354
  let v307 : BitVec 32 := Scalar.addi c0_i32_355 v306
  v307.toNat

def k0_chk31 (v305 : BitVec 32) : Prop :=
  ((k0_dev16 v305) < nD)
theorem k0_dev16_lt : ∀ (v305 : BitVec 32) (k0_hw31 : k0_chk31 v305), (k0_dev16 v305) < nD := fun v305 k0_hw31 => k0_hw31

def k0_off22 (v316 : BitVec 32) : Fin 3 → Nat :=
  let c352_i32_372 : BitVec 32 := 352#32
  let c0_i32_373 : BitVec 32 := 0#32
  ![v316.toNat, 352, 0]

def k0_chk32 (v316 : BitVec 32) : Prop :=
  (∀ a, (k0_off22 v316) a + S1x160x4096.size a ≤ S8x512x4096.size a) ∧
  (∀ (hinb : ∀ a, (k0_off22 v316) a + S1x160x4096.size a ≤ S8x512x4096.size a), (Rect.unit (s := S8x512x4096) (k0_off22 v316) S1x160x4096.size hinb).WholeWords (EltTy.packing .bf16))
theorem k0_off22_inb : ∀ (v316 : BitVec 32) (k0_hw32 : k0_chk32 v316), ∀ a, (k0_off22 v316) a + S1x160x4096.size a ≤ S8x512x4096.size a := fun v316 k0_hw32 => k0_hw32.1
theorem k0_off22_wordsbf16 : ∀ (v316 : BitVec 32) (k0_hw32 : k0_chk32 v316), (Rect.unit (s := S8x512x4096) (k0_off22 v316) S1x160x4096.size (k0_off22_inb v316 k0_hw32)).WholeWords (EltTy.packing .bf16) := fun v316 k0_hw32 => k0_hw32.2 (k0_off22_inb v316 k0_hw32)

def k0_off23 (v326 : BitVec 32) : Fin 3 → Nat :=
  let c352_i32_388 : BitVec 32 := 352#32
  let c0_i32_389 : BitVec 32 := 0#32
  ![v326.toNat, 352, 0]

def k0_chk33 (v326 : BitVec 32) : Prop :=
  (∀ a, (k0_off23 v326) a + S1x160x4096.size a ≤ S8x512x4096.size a) ∧
  (∀ (hinb : ∀ a, (k0_off23 v326) a + S1x160x4096.size a ≤ S8x512x4096.size a), (Rect.unit (s := S8x512x4096) (k0_off23 v326) S1x160x4096.size hinb).WholeWords (EltTy.packing .bf16))
theorem k0_off23_inb : ∀ (v326 : BitVec 32) (k0_hw33 : k0_chk33 v326), ∀ a, (k0_off23 v326) a + S1x160x4096.size a ≤ S8x512x4096.size a := fun v326 k0_hw33 => k0_hw33.1
theorem k0_off23_wordsbf16 : ∀ (v326 : BitVec 32) (k0_hw33 : k0_chk33 v326), (Rect.unit (s := S8x512x4096) (k0_off23 v326) S1x160x4096.size (k0_off23_inb v326 k0_hw33)).WholeWords (EltTy.packing .bf16) := fun v326 k0_hw33 => k0_hw33.2 (k0_off23_inb v326 k0_hw33)

def k0_dev17 (v327 : BitVec 32) : Nat :=
  let c0_i32_387 : BitVec 32 := 0#32
  let c1_i32_386 : BitVec 32 := 1#32
  let v328 : BitVec 32 := Scalar.muli v327 c1_i32_386
  let v329 : BitVec 32 := Scalar.addi c0_i32_387 v328
  v329.toNat

def k0_chk34 (v327 : BitVec 32) : Prop :=
  ((k0_dev17 v327) < nD)
theorem k0_dev17_lt : ∀ (v327 : BitVec 32) (k0_hw34 : k0_chk34 v327), (k0_dev17 v327) < nD := fun v327 k0_hw34 => k0_hw34

def k0_off24 (v338 : BitVec 32) : Fin 3 → Nat :=
  let c352_i32_404 : BitVec 32 := 352#32
  let c0_i32_405 : BitVec 32 := 0#32
  ![v338.toNat, 352, 0]

def k0_chk35 (v338 : BitVec 32) : Prop :=
  (∀ a, (k0_off24 v338) a + S1x160x4096.size a ≤ S8x512x4096.size a) ∧
  (∀ (hinb : ∀ a, (k0_off24 v338) a + S1x160x4096.size a ≤ S8x512x4096.size a), (Rect.unit (s := S8x512x4096) (k0_off24 v338) S1x160x4096.size hinb).WholeWords (EltTy.packing .bf16))
theorem k0_off24_inb : ∀ (v338 : BitVec 32) (k0_hw35 : k0_chk35 v338), ∀ a, (k0_off24 v338) a + S1x160x4096.size a ≤ S8x512x4096.size a := fun v338 k0_hw35 => k0_hw35.1
theorem k0_off24_wordsbf16 : ∀ (v338 : BitVec 32) (k0_hw35 : k0_chk35 v338), (Rect.unit (s := S8x512x4096) (k0_off24 v338) S1x160x4096.size (k0_off24_inb v338 k0_hw35)).WholeWords (EltTy.packing .bf16) := fun v338 k0_hw35 => k0_hw35.2 (k0_off24_inb v338 k0_hw35)

def k0_dev18 (v339 : BitVec 32) : Nat :=
  let c0_i32_403 : BitVec 32 := 0#32
  let c1_i32_402 : BitVec 32 := 1#32
  let v340 : BitVec 32 := Scalar.muli v339 c1_i32_402
  let v341 : BitVec 32 := Scalar.addi c0_i32_403 v340
  v341.toNat

def k0_chk36 (v339 : BitVec 32) : Prop :=
  ((k0_dev18 v339) < nD)
theorem k0_dev18_lt : ∀ (v339 : BitVec 32) (k0_hw36 : k0_chk36 v339), (k0_dev18 v339) < nD := fun v339 k0_hw36 => k0_hw36

def k0_off25 (v350 : BitVec 32) : Fin 3 → Nat :=
  let v351 : Index := Scalar.indexCast v350
  let c0_411 : Index := 0#32
  let c0_412 : Index := 0#32
  ![v351.toNat, 0, 0]

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_230 : BitVec 32 := 512#32
  let v212 : BitVec 32 := Scalar.muli v2 c512_i32_230
  let c176_i32_231 : BitVec 32 := 176#32
  let v213 : BitVec 32 := Scalar.addi v212 c176_i32_231
  let c0_i32_417 : BitVec 32 := 0#32
  ![v213.toNat, 0]
def k0_off27 (v350 : BitVec 32) : Fin 2 → Nat :=
  let c512_i32_413 : BitVec 32 := 512#32
  let v354 : BitVec 32 := Scalar.muli v350 c512_i32_413
  let c0_i32_414 : BitVec 32 := 0#32
  let v355 : BitVec 32 := Scalar.addi v354 c0_i32_414
  let c0_i32_429 : BitVec 32 := 0#32
  ![v355.toNat, 0]
def k0_off28 (v373 : BitVec 32) : Fin 3 → Nat :=
  let v374 : Index := Scalar.indexCast v373
  let c176_435 : Index := 176#32
  let c0_436 : Index := 0#32
  ![v374.toNat, 176, 0]

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_245 : BitVec 32 := 512#32
  let v229 : BitVec 32 := Scalar.muli v2 c512_i32_245
  let c352_i32_246 : BitVec 32 := 352#32
  let v230 : BitVec 32 := Scalar.addi v229 c352_i32_246
  let c0_i32_441 : BitVec 32 := 0#32
  ![v230.toNat, 0]
def k0_off30 (v373 : BitVec 32) : Fin 2 → Nat :=
  let c512_i32_437 : BitVec 32 := 512#32
  let v377 : BitVec 32 := Scalar.muli v373 c512_i32_437
  let c176_i32_438 : BitVec 32 := 176#32
  let v378 : BitVec 32 := Scalar.addi v377 c176_i32_438
  let c0_i32_453 : BitVec 32 := 0#32
  ![v378.toNat, 0]
def k0_off31 (v396 : BitVec 32) : Fin 3 → Nat :=
  let v397 : Index := Scalar.indexCast v396
  let c352_459 : Index := 352#32
  let c0_460 : Index := 0#32
  ![v397.toNat, 352, 0]

def k0_off32 (v350 : BitVec 32) : Fin 2 → Nat :=
  let c512_i32_413 : BitVec 32 := 512#32
  let v354 : BitVec 32 := Scalar.muli v350 c512_i32_413
  let c0_i32_414 : BitVec 32 := 0#32
  let v355 : BitVec 32 := Scalar.addi v354 c0_i32_414
  let c0_i32_465 : BitVec 32 := 0#32
  ![v355.toNat, 0]

def k0_chk37 (v350 : BitVec 32) : Prop :=
  (∀ a, (k0_off25 v350) a + S1x176x4096.size a ≤ S8x512x4096.size a) ∧
  (∀ a, (k0_off27 v350) a + S176x1024.size a ≤ S4096x1024.size a) ∧
  (∀ a, (k0_off32 v350) a + S176x1024.size a ≤ S4096x1024.size a)
theorem k0_off25_inb : ∀ (v350 : BitVec 32) (k0_hw37 : k0_chk37 v350), ∀ a, (k0_off25 v350) a + S1x176x4096.size a ≤ S8x512x4096.size a := fun v350 k0_hw37 => k0_hw37.1
theorem k0_off27_inb : ∀ (v350 : BitVec 32) (k0_hw37 : k0_chk37 v350), ∀ a, (k0_off27 v350) a + S176x1024.size a ≤ S4096x1024.size a := fun v350 k0_hw37 => k0_hw37.2.1
theorem k0_off32_inb : ∀ (v350 : BitVec 32) (k0_hw37 : k0_chk37 v350), ∀ a, (k0_off32 v350) a + S176x1024.size a ≤ S4096x1024.size a := fun v350 k0_hw37 => k0_hw37.2.2

def k0_off33 (v396 : BitVec 32) : Fin 2 → Nat :=
  let c512_i32_461 : BitVec 32 := 512#32
  let v400 : BitVec 32 := Scalar.muli v396 c512_i32_461
  let c352_i32_462 : BitVec 32 := 352#32
  let v401 : BitVec 32 := Scalar.addi v400 c352_i32_462
  let c0_i32_477 : BitVec 32 := 0#32
  ![v401.toNat, 0]
def k0_off34 (v419 : BitVec 32) : Fin 3 → Nat :=
  let c0_i32_492 : BitVec 32 := 0#32
  let c0_i32_493 : BitVec 32 := 0#32
  ![v419.toNat, 0, 0]

def k0_chk40 (v419 : BitVec 32) : Prop :=
  (∀ a, (k0_off34 v419) a + S1x176x4096.size a ≤ S8x512x4096.size a) ∧
  (∀ (hinb : ∀ a, (k0_off34 v419) a + S1x176x4096.size a ≤ S8x512x4096.size a), (Rect.unit (s := S8x512x4096) (k0_off34 v419) S1x176x4096.size hinb).WholeWords (EltTy.packing .bf16))
theorem k0_off34_inb : ∀ (v419 : BitVec 32) (k0_hw40 : k0_chk40 v419), ∀ a, (k0_off34 v419) a + S1x176x4096.size a ≤ S8x512x4096.size a := fun v419 k0_hw40 => k0_hw40.1
theorem k0_off34_wordsbf16 : ∀ (v419 : BitVec 32) (k0_hw40 : k0_chk40 v419), (Rect.unit (s := S8x512x4096) (k0_off34 v419) S1x176x4096.size (k0_off34_inb v419 k0_hw40)).WholeWords (EltTy.packing .bf16) := fun v419 k0_hw40 => k0_hw40.2 (k0_off34_inb v419 k0_hw40)

def k0_off35 (v429 : BitVec 32) : Fin 3 → Nat :=
  let c0_i32_508 : BitVec 32 := 0#32
  let c0_i32_509 : BitVec 32 := 0#32
  ![v429.toNat, 0, 0]

def k0_chk41 (v429 : BitVec 32) : Prop :=
  (∀ a, (k0_off35 v429) a + S1x176x4096.size a ≤ S8x512x4096.size a) ∧
  (∀ (hinb : ∀ a, (k0_off35 v429) a + S1x176x4096.size a ≤ S8x512x4096.size a), (Rect.unit (s := S8x512x4096) (k0_off35 v429) S1x176x4096.size hinb).WholeWords (EltTy.packing .bf16))
theorem k0_off35_inb : ∀ (v429 : BitVec 32) (k0_hw41 : k0_chk41 v429), ∀ a, (k0_off35 v429) a + S1x176x4096.size a ≤ S8x512x4096.size a := fun v429 k0_hw41 => k0_hw41.1
theorem k0_off35_wordsbf16 : ∀ (v429 : BitVec 32) (k0_hw41 : k0_chk41 v429), (Rect.unit (s := S8x512x4096) (k0_off35 v429) S1x176x4096.size (k0_off35_inb v429 k0_hw41)).WholeWords (EltTy.packing .bf16) := fun v429 k0_hw41 => k0_hw41.2 (k0_off35_inb v429 k0_hw41)

def k0_dev19 (v430 : BitVec 32) : Nat :=
  let c0_i32_507 : BitVec 32 := 0#32
  let c1_i32_506 : BitVec 32 := 1#32
  let v431 : BitVec 32 := Scalar.muli v430 c1_i32_506
  let v432 : BitVec 32 := Scalar.addi c0_i32_507 v431
  v432.toNat

def k0_chk42 (v430 : BitVec 32) : Prop :=
  ((k0_dev19 v430) < nD)
theorem k0_dev19_lt : ∀ (v430 : BitVec 32) (k0_hw42 : k0_chk42 v430), (k0_dev19 v430) < nD := fun v430 k0_hw42 => k0_hw42

def k0_off36 (v441 : BitVec 32) : Fin 3 → Nat :=
  let c176_i32_524 : BitVec 32 := 176#32
  let c0_i32_525 : BitVec 32 := 0#32
  ![v441.toNat, 176, 0]

def k0_chk43 (v441 : BitVec 32) : Prop :=
  (∀ a, (k0_off36 v441) a + S1x176x4096.size a ≤ S8x512x4096.size a) ∧
  (∀ (hinb : ∀ a, (k0_off36 v441) a + S1x176x4096.size a ≤ S8x512x4096.size a), (Rect.unit (s := S8x512x4096) (k0_off36 v441) S1x176x4096.size hinb).WholeWords (EltTy.packing .bf16))
theorem k0_off36_inb : ∀ (v441 : BitVec 32) (k0_hw43 : k0_chk43 v441), ∀ a, (k0_off36 v441) a + S1x176x4096.size a ≤ S8x512x4096.size a := fun v441 k0_hw43 => k0_hw43.1
theorem k0_off36_wordsbf16 : ∀ (v441 : BitVec 32) (k0_hw43 : k0_chk43 v441), (Rect.unit (s := S8x512x4096) (k0_off36 v441) S1x176x4096.size (k0_off36_inb v441 k0_hw43)).WholeWords (EltTy.packing .bf16) := fun v441 k0_hw43 => k0_hw43.2 (k0_off36_inb v441 k0_hw43)

def k0_off37 (v451 : BitVec 32) : Fin 3 → Nat :=
  let c176_i32_540 : BitVec 32 := 176#32
  let c0_i32_541 : BitVec 32 := 0#32
  ![v451.toNat, 176, 0]

def k0_chk44 (v451 : BitVec 32) : Prop :=
  (∀ a, (k0_off37 v451) a + S1x176x4096.size a ≤ S8x512x4096.size a) ∧
  (∀ (hinb : ∀ a, (k0_off37 v451) a + S1x176x4096.size a ≤ S8x512x4096.size a), (Rect.unit (s := S8x512x4096) (k0_off37 v451) S1x176x4096.size hinb).WholeWords (EltTy.packing .bf16))
theorem k0_off37_inb : ∀ (v451 : BitVec 32) (k0_hw44 : k0_chk44 v451), ∀ a, (k0_off37 v451) a + S1x176x4096.size a ≤ S8x512x4096.size a := fun v451 k0_hw44 => k0_hw44.1
theorem k0_off37_wordsbf16 : ∀ (v451 : BitVec 32) (k0_hw44 : k0_chk44 v451), (Rect.unit (s := S8x512x4096) (k0_off37 v451) S1x176x4096.size (k0_off37_inb v451 k0_hw44)).WholeWords (EltTy.packing .bf16) := fun v451 k0_hw44 => k0_hw44.2 (k0_off37_inb v451 k0_hw44)

def k0_dev20 (v452 : BitVec 32) : Nat :=
  let c0_i32_539 : BitVec 32 := 0#32
  let c1_i32_538 : BitVec 32 := 1#32
  let v453 : BitVec 32 := Scalar.muli v452 c1_i32_538
  let v454 : BitVec 32 := Scalar.addi c0_i32_539 v453
  v454.toNat

def k0_chk45 (v452 : BitVec 32) : Prop :=
  ((k0_dev20 v452) < nD)
theorem k0_dev20_lt : ∀ (v452 : BitVec 32) (k0_hw45 : k0_chk45 v452), (k0_dev20 v452) < nD := fun v452 k0_hw45 => k0_hw45

def k0_off38 (v463 : BitVec 32) : Fin 3 → Nat :=
  let c352_i32_556 : BitVec 32 := 352#32
  let c0_i32_557 : BitVec 32 := 0#32
  ![v463.toNat, 352, 0]

def k0_chk46 (v463 : BitVec 32) : Prop :=
  (∀ a, (k0_off38 v463) a + S1x160x4096.size a ≤ S8x512x4096.size a) ∧
  (∀ (hinb : ∀ a, (k0_off38 v463) a + S1x160x4096.size a ≤ S8x512x4096.size a), (Rect.unit (s := S8x512x4096) (k0_off38 v463) S1x160x4096.size hinb).WholeWords (EltTy.packing .bf16))
theorem k0_off38_inb : ∀ (v463 : BitVec 32) (k0_hw46 : k0_chk46 v463), ∀ a, (k0_off38 v463) a + S1x160x4096.size a ≤ S8x512x4096.size a := fun v463 k0_hw46 => k0_hw46.1
theorem k0_off38_wordsbf16 : ∀ (v463 : BitVec 32) (k0_hw46 : k0_chk46 v463), (Rect.unit (s := S8x512x4096) (k0_off38 v463) S1x160x4096.size (k0_off38_inb v463 k0_hw46)).WholeWords (EltTy.packing .bf16) := fun v463 k0_hw46 => k0_hw46.2 (k0_off38_inb v463 k0_hw46)

def k0_off39 (v473 : BitVec 32) : Fin 3 → Nat :=
  let c352_i32_572 : BitVec 32 := 352#32
  let c0_i32_573 : BitVec 32 := 0#32
  ![v473.toNat, 352, 0]

def k0_chk47 (v473 : BitVec 32) : Prop :=
  (∀ a, (k0_off39 v473) a + S1x160x4096.size a ≤ S8x512x4096.size a) ∧
  (∀ (hinb : ∀ a, (k0_off39 v473) a + S1x160x4096.size a ≤ S8x512x4096.size a), (Rect.unit (s := S8x512x4096) (k0_off39 v473) S1x160x4096.size hinb).WholeWords (EltTy.packing .bf16))
theorem k0_off39_inb : ∀ (v473 : BitVec 32) (k0_hw47 : k0_chk47 v473), ∀ a, (k0_off39 v473) a + S1x160x4096.size a ≤ S8x512x4096.size a := fun v473 k0_hw47 => k0_hw47.1
theorem k0_off39_wordsbf16 : ∀ (v473 : BitVec 32) (k0_hw47 : k0_chk47 v473), (Rect.unit (s := S8x512x4096) (k0_off39 v473) S1x160x4096.size (k0_off39_inb v473 k0_hw47)).WholeWords (EltTy.packing .bf16) := fun v473 k0_hw47 => k0_hw47.2 (k0_off39_inb v473 k0_hw47)

def k0_dev21 (v474 : BitVec 32) : Nat :=
  let c0_i32_571 : BitVec 32 := 0#32
  let c1_i32_570 : BitVec 32 := 1#32
  let v475 : BitVec 32 := Scalar.muli v474 c1_i32_570
  let v476 : BitVec 32 := Scalar.addi c0_i32_571 v475
  v476.toNat

def k0_chk48 (v474 : BitVec 32) : Prop :=
  ((k0_dev21 v474) < nD)
theorem k0_dev21_lt : ∀ (v474 : BitVec 32) (k0_hw48 : k0_chk48 v474), (k0_dev21 v474) < nD := fun v474 k0_hw48 => k0_hw48

def k0_off40 (v485 : BitVec 32) : Fin 3 → Nat :=
  let c0_i32_588 : BitVec 32 := 0#32
  let c0_i32_589 : BitVec 32 := 0#32
  ![v485.toNat, 0, 0]

def k0_chk49 (v485 : BitVec 32) : Prop :=
  (∀ a, (k0_off40 v485) a + S1x176x4096.size a ≤ S8x512x4096.size a) ∧
  (∀ (hinb : ∀ a, (k0_off40 v485) a + S1x176x4096.size a ≤ S8x512x4096.size a), (Rect.unit (s := S8x512x4096) (k0_off40 v485) S1x176x4096.size hinb).WholeWords (EltTy.packing .bf16))
theorem k0_off40_inb : ∀ (v485 : BitVec 32) (k0_hw49 : k0_chk49 v485), ∀ a, (k0_off40 v485) a + S1x176x4096.size a ≤ S8x512x4096.size a := fun v485 k0_hw49 => k0_hw49.1
theorem k0_off40_wordsbf16 : ∀ (v485 : BitVec 32) (k0_hw49 : k0_chk49 v485), (Rect.unit (s := S8x512x4096) (k0_off40 v485) S1x176x4096.size (k0_off40_inb v485 k0_hw49)).WholeWords (EltTy.packing .bf16) := fun v485 k0_hw49 => k0_hw49.2 (k0_off40_inb v485 k0_hw49)

def k0_off41 (v495 : BitVec 32) : Fin 3 → Nat :=
  let c0_i32_603 : BitVec 32 := 0#32
  let c0_i32_604 : BitVec 32 := 0#32
  ![v495.toNat, 0, 0]

def k0_chk50 (v495 : BitVec 32) : Prop :=
  (∀ a, (k0_off41 v495) a + S1x176x4096.size a ≤ S8x512x4096.size a) ∧
  (∀ (hinb : ∀ a, (k0_off41 v495) a + S1x176x4096.size a ≤ S8x512x4096.size a), (Rect.unit (s := S8x512x4096) (k0_off41 v495) S1x176x4096.size hinb).WholeWords (EltTy.packing .bf16))
theorem k0_off41_inb : ∀ (v495 : BitVec 32) (k0_hw50 : k0_chk50 v495), ∀ a, (k0_off41 v495) a + S1x176x4096.size a ≤ S8x512x4096.size a := fun v495 k0_hw50 => k0_hw50.1
theorem k0_off41_wordsbf16 : ∀ (v495 : BitVec 32) (k0_hw50 : k0_chk50 v495), (Rect.unit (s := S8x512x4096) (k0_off41 v495) S1x176x4096.size (k0_off41_inb v495 k0_hw50)).WholeWords (EltTy.packing .bf16) := fun v495 k0_hw50 => k0_hw50.2 (k0_off41_inb v495 k0_hw50)

def k0_dev22 (v496 : BitVec 32) : Nat :=
  let c0_i32_602 : BitVec 32 := 0#32
  let c1_i32_601 : BitVec 32 := 1#32
  let v497 : BitVec 32 := Scalar.muli v496 c1_i32_601
  let v498 : BitVec 32 := Scalar.addi c0_i32_602 v497
  v498.toNat

def k0_chk51 (v496 : BitVec 32) : Prop :=
  ((k0_dev22 v496) < nD)
theorem k0_dev22_lt : ∀ (v496 : BitVec 32) (k0_hw51 : k0_chk51 v496), (k0_dev22 v496) < nD := fun v496 k0_hw51 => k0_hw51

def k0_off42 (v507 : BitVec 32) : Fin 3 → Nat :=
  let c176_i32_619 : BitVec 32 := 176#32
  let c0_i32_620 : BitVec 32 := 0#32
  ![v507.toNat, 176, 0]

def k0_chk52 (v507 : BitVec 32) : Prop :=
  (∀ a, (k0_off42 v507) a + S1x176x4096.size a ≤ S8x512x4096.size a) ∧
  (∀ (hinb : ∀ a, (k0_off42 v507) a + S1x176x4096.size a ≤ S8x512x4096.size a), (Rect.unit (s := S8x512x4096) (k0_off42 v507) S1x176x4096.size hinb).WholeWords (EltTy.packing .bf16))
theorem k0_off42_inb : ∀ (v507 : BitVec 32) (k0_hw52 : k0_chk52 v507), ∀ a, (k0_off42 v507) a + S1x176x4096.size a ≤ S8x512x4096.size a := fun v507 k0_hw52 => k0_hw52.1
theorem k0_off42_wordsbf16 : ∀ (v507 : BitVec 32) (k0_hw52 : k0_chk52 v507), (Rect.unit (s := S8x512x4096) (k0_off42 v507) S1x176x4096.size (k0_off42_inb v507 k0_hw52)).WholeWords (EltTy.packing .bf16) := fun v507 k0_hw52 => k0_hw52.2 (k0_off42_inb v507 k0_hw52)

def k0_off43 (v517 : BitVec 32) : Fin 3 → Nat :=
  let c176_i32_635 : BitVec 32 := 176#32
  let c0_i32_636 : BitVec 32 := 0#32
  ![v517.toNat, 176, 0]

def k0_chk53 (v517 : BitVec 32) : Prop :=
  (∀ a, (k0_off43 v517) a + S1x176x4096.size a ≤ S8x512x4096.size a) ∧
  (∀ (hinb : ∀ a, (k0_off43 v517) a + S1x176x4096.size a ≤ S8x512x4096.size a), (Rect.unit (s := S8x512x4096) (k0_off43 v517) S1x176x4096.size hinb).WholeWords (EltTy.packing .bf16))
theorem k0_off43_inb : ∀ (v517 : BitVec 32) (k0_hw53 : k0_chk53 v517), ∀ a, (k0_off43 v517) a + S1x176x4096.size a ≤ S8x512x4096.size a := fun v517 k0_hw53 => k0_hw53.1
theorem k0_off43_wordsbf16 : ∀ (v517 : BitVec 32) (k0_hw53 : k0_chk53 v517), (Rect.unit (s := S8x512x4096) (k0_off43 v517) S1x176x4096.size (k0_off43_inb v517 k0_hw53)).WholeWords (EltTy.packing .bf16) := fun v517 k0_hw53 => k0_hw53.2 (k0_off43_inb v517 k0_hw53)

def k0_dev23 (v518 : BitVec 32) : Nat :=
  let c0_i32_634 : BitVec 32 := 0#32
  let c1_i32_633 : BitVec 32 := 1#32
  let v519 : BitVec 32 := Scalar.muli v518 c1_i32_633
  let v520 : BitVec 32 := Scalar.addi c0_i32_634 v519
  v520.toNat

def k0_chk54 (v518 : BitVec 32) : Prop :=
  ((k0_dev23 v518) < nD)
theorem k0_dev23_lt : ∀ (v518 : BitVec 32) (k0_hw54 : k0_chk54 v518), (k0_dev23 v518) < nD := fun v518 k0_hw54 => k0_hw54

def k0_off44 (v529 : BitVec 32) : Fin 3 → Nat :=
  let c352_i32_651 : BitVec 32 := 352#32
  let c0_i32_652 : BitVec 32 := 0#32
  ![v529.toNat, 352, 0]

def k0_chk55 (v529 : BitVec 32) : Prop :=
  (∀ a, (k0_off44 v529) a + S1x160x4096.size a ≤ S8x512x4096.size a) ∧
  (∀ (hinb : ∀ a, (k0_off44 v529) a + S1x160x4096.size a ≤ S8x512x4096.size a), (Rect.unit (s := S8x512x4096) (k0_off44 v529) S1x160x4096.size hinb).WholeWords (EltTy.packing .bf16))
theorem k0_off44_inb : ∀ (v529 : BitVec 32) (k0_hw55 : k0_chk55 v529), ∀ a, (k0_off44 v529) a + S1x160x4096.size a ≤ S8x512x4096.size a := fun v529 k0_hw55 => k0_hw55.1
theorem k0_off44_wordsbf16 : ∀ (v529 : BitVec 32) (k0_hw55 : k0_chk55 v529), (Rect.unit (s := S8x512x4096) (k0_off44 v529) S1x160x4096.size (k0_off44_inb v529 k0_hw55)).WholeWords (EltTy.packing .bf16) := fun v529 k0_hw55 => k0_hw55.2 (k0_off44_inb v529 k0_hw55)

def k0_off45 (v539 : BitVec 32) : Fin 3 → Nat :=
  let c352_i32_667 : BitVec 32 := 352#32
  let c0_i32_668 : BitVec 32 := 0#32
  ![v539.toNat, 352, 0]

def k0_chk56 (v539 : BitVec 32) : Prop :=
  (∀ a, (k0_off45 v539) a + S1x160x4096.size a ≤ S8x512x4096.size a) ∧
  (∀ (hinb : ∀ a, (k0_off45 v539) a + S1x160x4096.size a ≤ S8x512x4096.size a), (Rect.unit (s := S8x512x4096) (k0_off45 v539) S1x160x4096.size hinb).WholeWords (EltTy.packing .bf16))
theorem k0_off45_inb : ∀ (v539 : BitVec 32) (k0_hw56 : k0_chk56 v539), ∀ a, (k0_off45 v539) a + S1x160x4096.size a ≤ S8x512x4096.size a := fun v539 k0_hw56 => k0_hw56.1
theorem k0_off45_wordsbf16 : ∀ (v539 : BitVec 32) (k0_hw56 : k0_chk56 v539), (Rect.unit (s := S8x512x4096) (k0_off45 v539) S1x160x4096.size (k0_off45_inb v539 k0_hw56)).WholeWords (EltTy.packing .bf16) := fun v539 k0_hw56 => k0_hw56.2 (k0_off45_inb v539 k0_hw56)

def k0_dev24 (v540 : BitVec 32) : Nat :=
  let c0_i32_666 : BitVec 32 := 0#32
  let c1_i32_665 : BitVec 32 := 1#32
  let v541 : BitVec 32 := Scalar.muli v540 c1_i32_665
  let v542 : BitVec 32 := Scalar.addi c0_i32_666 v541
  v542.toNat

def k0_chk57 (v540 : BitVec 32) : Prop :=
  ((k0_dev24 v540) < nD)
theorem k0_dev24_lt : ∀ (v540 : BitVec 32) (k0_hw57 : k0_chk57 v540), (k0_dev24 v540) < nD := fun v540 k0_hw57 => k0_hw57

def k0_off46 (v551 : BitVec 32) : Fin 3 → Nat :=
  let v552 : Index := Scalar.indexCast v551
  let c0_674 : Index := 0#32
  let c0_675 : Index := 0#32
  ![v552.toNat, 0, 0]

def k0_off47 (v373 : BitVec 32) : Fin 2 → Nat :=
  let c512_i32_437 : BitVec 32 := 512#32
  let v377 : BitVec 32 := Scalar.muli v373 c512_i32_437
  let c176_i32_438 : BitVec 32 := 176#32
  let v378 : BitVec 32 := Scalar.addi v377 c176_i32_438
  let c0_i32_680 : BitVec 32 := 0#32
  ![v378.toNat, 0]

def k0_chk38 (v373 : BitVec 32) : Prop :=
  (∀ a, (k0_off28 v373) a + S1x176x4096.size a ≤ S8x512x4096.size a) ∧
  (∀ a, (k0_off30 v373) a + S176x1024.size a ≤ S4096x1024.size a) ∧
  (∀ a, (k0_off47 v373) a + S176x1024.size a ≤ S4096x1024.size a)
theorem k0_off28_inb : ∀ (v373 : BitVec 32) (k0_hw38 : k0_chk38 v373), ∀ a, (k0_off28 v373) a + S1x176x4096.size a ≤ S8x512x4096.size a := fun v373 k0_hw38 => k0_hw38.1
theorem k0_off30_inb : ∀ (v373 : BitVec 32) (k0_hw38 : k0_chk38 v373), ∀ a, (k0_off30 v373) a + S176x1024.size a ≤ S4096x1024.size a := fun v373 k0_hw38 => k0_hw38.2.1
theorem k0_off47_inb : ∀ (v373 : BitVec 32) (k0_hw38 : k0_chk38 v373), ∀ a, (k0_off47 v373) a + S176x1024.size a ≤ S4096x1024.size a := fun v373 k0_hw38 => k0_hw38.2.2

def k0_off48 (v551 : BitVec 32) : Fin 2 → Nat :=
  let c512_i32_676 : BitVec 32 := 512#32
  let v555 : BitVec 32 := Scalar.muli v551 c512_i32_676
  let c0_i32_677 : BitVec 32 := 0#32
  let v556 : BitVec 32 := Scalar.addi v555 c0_i32_677
  let c0_i32_692 : BitVec 32 := 0#32
  ![v556.toNat, 0]
def k0_off49 (v574 : BitVec 32) : Fin 3 → Nat :=
  let v575 : Index := Scalar.indexCast v574
  let c0_698 : Index := 0#32
  let c0_699 : Index := 0#32
  ![v575.toNat, 0, 0]

def k0_off50 (v396 : BitVec 32) : Fin 2 → Nat :=
  let c512_i32_461 : BitVec 32 := 512#32
  let v400 : BitVec 32 := Scalar.muli v396 c512_i32_461
  let c352_i32_462 : BitVec 32 := 352#32
  let v401 : BitVec 32 := Scalar.addi v400 c352_i32_462
  let c0_i32_704 : BitVec 32 := 0#32
  ![v401.toNat, 0]

def k0_chk39 (v396 : BitVec 32) : Prop :=
  (∀ a, (k0_off31 v396) a + S1x160x4096.size a ≤ S8x512x4096.size a) ∧
  (∀ a, (k0_off33 v396) a + S160x1024.size a ≤ S4096x1024.size a) ∧
  (∀ a, (k0_off50 v396) a + S160x1024.size a ≤ S4096x1024.size a)
theorem k0_off31_inb : ∀ (v396 : BitVec 32) (k0_hw39 : k0_chk39 v396), ∀ a, (k0_off31 v396) a + S1x160x4096.size a ≤ S8x512x4096.size a := fun v396 k0_hw39 => k0_hw39.1
theorem k0_off33_inb : ∀ (v396 : BitVec 32) (k0_hw39 : k0_chk39 v396), ∀ a, (k0_off33 v396) a + S160x1024.size a ≤ S4096x1024.size a := fun v396 k0_hw39 => k0_hw39.2.1
theorem k0_off50_inb : ∀ (v396 : BitVec 32) (k0_hw39 : k0_chk39 v396), ∀ a, (k0_off50 v396) a + S160x1024.size a ≤ S4096x1024.size a := fun v396 k0_hw39 => k0_hw39.2.2

def k0_off51 (v574 : BitVec 32) : Fin 2 → Nat :=
  let c512_i32_700 : BitVec 32 := 512#32
  let v578 : BitVec 32 := Scalar.muli v574 c512_i32_700
  let c0_i32_701 : BitVec 32 := 0#32
  let v579 : BitVec 32 := Scalar.addi v578 c0_i32_701
  let c0_i32_716 : BitVec 32 := 0#32
  ![v579.toNat, 0]
def k0_off52 (v597 : BitVec 32) : Fin 3 → Nat :=
  let v598 : Index := Scalar.indexCast v597
  let c176_722 : Index := 176#32
  let c0_723 : Index := 0#32
  ![v598.toNat, 176, 0]

def k0_off53 (v551 : BitVec 32) : Fin 2 → Nat :=
  let c512_i32_676 : BitVec 32 := 512#32
  let v555 : BitVec 32 := Scalar.muli v551 c512_i32_676
  let c0_i32_677 : BitVec 32 := 0#32
  let v556 : BitVec 32 := Scalar.addi v555 c0_i32_677
  let c0_i32_728 : BitVec 32 := 0#32
  ![v556.toNat, 0]

def k0_chk58 (v551 : BitVec 32) : Prop :=
  (∀ a, (k0_off46 v551) a + S1x176x4096.size a ≤ S8x512x4096.size a) ∧
  (∀ a, (k0_off48 v551) a + S176x1024.size a ≤ S4096x1024.size a) ∧
  (∀ a, (k0_off53 v551) a + S176x1024.size a ≤ S4096x1024.size a)
theorem k0_off46_inb : ∀ (v551 : BitVec 32) (k0_hw58 : k0_chk58 v551), ∀ a, (k0_off46 v551) a + S1x176x4096.size a ≤ S8x512x4096.size a := fun v551 k0_hw58 => k0_hw58.1
theorem k0_off48_inb : ∀ (v551 : BitVec 32) (k0_hw58 : k0_chk58 v551), ∀ a, (k0_off48 v551) a + S176x1024.size a ≤ S4096x1024.size a := fun v551 k0_hw58 => k0_hw58.2.1
theorem k0_off53_inb : ∀ (v551 : BitVec 32) (k0_hw58 : k0_chk58 v551), ∀ a, (k0_off53 v551) a + S176x1024.size a ≤ S4096x1024.size a := fun v551 k0_hw58 => k0_hw58.2.2

def k0_off54 (v597 : BitVec 32) : Fin 2 → Nat :=
  let c512_i32_724 : BitVec 32 := 512#32
  let v601 : BitVec 32 := Scalar.muli v597 c512_i32_724
  let c176_i32_725 : BitVec 32 := 176#32
  let v602 : BitVec 32 := Scalar.addi v601 c176_i32_725
  let c0_i32_740 : BitVec 32 := 0#32
  ![v602.toNat, 0]
def k0_off55 (v620 : BitVec 32) : Fin 3 → Nat :=
  let v621 : Index := Scalar.indexCast v620
  let c176_746 : Index := 176#32
  let c0_747 : Index := 0#32
  ![v621.toNat, 176, 0]

def k0_off56 (v574 : BitVec 32) : Fin 2 → Nat :=
  let c512_i32_700 : BitVec 32 := 512#32
  let v578 : BitVec 32 := Scalar.muli v574 c512_i32_700
  let c0_i32_701 : BitVec 32 := 0#32
  let v579 : BitVec 32 := Scalar.addi v578 c0_i32_701
  let c0_i32_752 : BitVec 32 := 0#32
  ![v579.toNat, 0]

def k0_chk59 (v574 : BitVec 32) : Prop :=
  (∀ a, (k0_off49 v574) a + S1x176x4096.size a ≤ S8x512x4096.size a) ∧
  (∀ a, (k0_off51 v574) a + S176x1024.size a ≤ S4096x1024.size a) ∧
  (∀ a, (k0_off56 v574) a + S176x1024.size a ≤ S4096x1024.size a)
theorem k0_off49_inb : ∀ (v574 : BitVec 32) (k0_hw59 : k0_chk59 v574), ∀ a, (k0_off49 v574) a + S1x176x4096.size a ≤ S8x512x4096.size a := fun v574 k0_hw59 => k0_hw59.1
theorem k0_off51_inb : ∀ (v574 : BitVec 32) (k0_hw59 : k0_chk59 v574), ∀ a, (k0_off51 v574) a + S176x1024.size a ≤ S4096x1024.size a := fun v574 k0_hw59 => k0_hw59.2.1
theorem k0_off56_inb : ∀ (v574 : BitVec 32) (k0_hw59 : k0_chk59 v574), ∀ a, (k0_off56 v574) a + S176x1024.size a ≤ S4096x1024.size a := fun v574 k0_hw59 => k0_hw59.2.2

def k0_off57 (v620 : BitVec 32) : Fin 2 → Nat :=
  let c512_i32_748 : BitVec 32 := 512#32
  let v624 : BitVec 32 := Scalar.muli v620 c512_i32_748
  let c176_i32_749 : BitVec 32 := 176#32
  let v625 : BitVec 32 := Scalar.addi v624 c176_i32_749
  let c0_i32_764 : BitVec 32 := 0#32
  ![v625.toNat, 0]
def k0_off58 (v643 : BitVec 32) : Fin 3 → Nat :=
  let v644 : Index := Scalar.indexCast v643
  let c352_770 : Index := 352#32
  let c0_771 : Index := 0#32
  ![v644.toNat, 352, 0]

def k0_off59 (v597 : BitVec 32) : Fin 2 → Nat :=
  let c512_i32_724 : BitVec 32 := 512#32
  let v601 : BitVec 32 := Scalar.muli v597 c512_i32_724
  let c176_i32_725 : BitVec 32 := 176#32
  let v602 : BitVec 32 := Scalar.addi v601 c176_i32_725
  let c0_i32_776 : BitVec 32 := 0#32
  ![v602.toNat, 0]

def k0_chk60 (v597 : BitVec 32) : Prop :=
  (∀ a, (k0_off52 v597) a + S1x176x4096.size a ≤ S8x512x4096.size a) ∧
  (∀ a, (k0_off54 v597) a + S176x1024.size a ≤ S4096x1024.size a) ∧
  (∀ a, (k0_off59 v597) a + S176x1024.size a ≤ S4096x1024.size a)
theorem k0_off52_inb : ∀ (v597 : BitVec 32) (k0_hw60 : k0_chk60 v597), ∀ a, (k0_off52 v597) a + S1x176x4096.size a ≤ S8x512x4096.size a := fun v597 k0_hw60 => k0_hw60.1
theorem k0_off54_inb : ∀ (v597 : BitVec 32) (k0_hw60 : k0_chk60 v597), ∀ a, (k0_off54 v597) a + S176x1024.size a ≤ S4096x1024.size a := fun v597 k0_hw60 => k0_hw60.2.1
theorem k0_off59_inb : ∀ (v597 : BitVec 32) (k0_hw60 : k0_chk60 v597), ∀ a, (k0_off59 v597) a + S176x1024.size a ≤ S4096x1024.size a := fun v597 k0_hw60 => k0_hw60.2.2

def k0_off60 (v643 : BitVec 32) : Fin 2 → Nat :=
  let c512_i32_772 : BitVec 32 := 512#32
  let v647 : BitVec 32 := Scalar.muli v643 c512_i32_772
  let c352_i32_773 : BitVec 32 := 352#32
  let v648 : BitVec 32 := Scalar.addi v647 c352_i32_773
  let c0_i32_788 : BitVec 32 := 0#32
  ![v648.toNat, 0]
def k0_off61 (v666 : BitVec 32) : Fin 3 → Nat :=
  let v667 : Index := Scalar.indexCast v666
  let c352_794 : Index := 352#32
  let c0_795 : Index := 0#32
  ![v667.toNat, 352, 0]

def k0_off62 (v620 : BitVec 32) : Fin 2 → Nat :=
  let c512_i32_748 : BitVec 32 := 512#32
  let v624 : BitVec 32 := Scalar.muli v620 c512_i32_748
  let c176_i32_749 : BitVec 32 := 176#32
  let v625 : BitVec 32 := Scalar.addi v624 c176_i32_749
  let c0_i32_800 : BitVec 32 := 0#32
  ![v625.toNat, 0]

def k0_chk61 (v620 : BitVec 32) : Prop :=
  (∀ a, (k0_off55 v620) a + S1x176x4096.size a ≤ S8x512x4096.size a) ∧
  (∀ a, (k0_off57 v620) a + S176x1024.size a ≤ S4096x1024.size a) ∧
  (∀ a, (k0_off62 v620) a + S176x1024.size a ≤ S4096x1024.size a)
theorem k0_off55_inb : ∀ (v620 : BitVec 32) (k0_hw61 : k0_chk61 v620), ∀ a, (k0_off55 v620) a + S1x176x4096.size a ≤ S8x512x4096.size a := fun v620 k0_hw61 => k0_hw61.1
theorem k0_off57_inb : ∀ (v620 : BitVec 32) (k0_hw61 : k0_chk61 v620), ∀ a, (k0_off57 v620) a + S176x1024.size a ≤ S4096x1024.size a := fun v620 k0_hw61 => k0_hw61.2.1
theorem k0_off62_inb : ∀ (v620 : BitVec 32) (k0_hw61 : k0_chk61 v620), ∀ a, (k0_off62 v620) a + S176x1024.size a ≤ S4096x1024.size a := fun v620 k0_hw61 => k0_hw61.2.2

def k0_off63 (v666 : BitVec 32) : Fin 2 → Nat :=
  let c512_i32_796 : BitVec 32 := 512#32
  let v670 : BitVec 32 := Scalar.muli v666 c512_i32_796
  let c352_i32_797 : BitVec 32 := 352#32
  let v671 : BitVec 32 := Scalar.addi v670 c352_i32_797
  let c0_i32_812 : BitVec 32 := 0#32
  ![v671.toNat, 0]
def k0_off64 (v689 : BitVec 32) : Fin 3 → Nat :=
  let c0_i32_827 : BitVec 32 := 0#32
  let c0_i32_828 : BitVec 32 := 0#32
  ![v689.toNat, 0, 0]

def k0_chk64 (v689 : BitVec 32) : Prop :=
  (∀ a, (k0_off64 v689) a + S1x176x4096.size a ≤ S8x512x4096.size a) ∧
  (∀ (hinb : ∀ a, (k0_off64 v689) a + S1x176x4096.size a ≤ S8x512x4096.size a), (Rect.unit (s := S8x512x4096) (k0_off64 v689) S1x176x4096.size hinb).WholeWords (EltTy.packing .bf16))
theorem k0_off64_inb : ∀ (v689 : BitVec 32) (k0_hw64 : k0_chk64 v689), ∀ a, (k0_off64 v689) a + S1x176x4096.size a ≤ S8x512x4096.size a := fun v689 k0_hw64 => k0_hw64.1
theorem k0_off64_wordsbf16 : ∀ (v689 : BitVec 32) (k0_hw64 : k0_chk64 v689), (Rect.unit (s := S8x512x4096) (k0_off64 v689) S1x176x4096.size (k0_off64_inb v689 k0_hw64)).WholeWords (EltTy.packing .bf16) := fun v689 k0_hw64 => k0_hw64.2 (k0_off64_inb v689 k0_hw64)

def k0_off65 (v699 : BitVec 32) : Fin 3 → Nat :=
  let v700 : Index := Scalar.indexCast v699
  let c0_834 : Index := 0#32
  let c0_835 : Index := 0#32
  ![v700.toNat, 0, 0]

def k0_off66 (v643 : BitVec 32) : Fin 2 → Nat :=
  let c512_i32_772 : BitVec 32 := 512#32
  let v647 : BitVec 32 := Scalar.muli v643 c512_i32_772
  let c352_i32_773 : BitVec 32 := 352#32
  let v648 : BitVec 32 := Scalar.addi v647 c352_i32_773
  let c0_i32_840 : BitVec 32 := 0#32
  ![v648.toNat, 0]

def k0_chk62 (v643 : BitVec 32) : Prop :=
  (∀ a, (k0_off58 v643) a + S1x160x4096.size a ≤ S8x512x4096.size a) ∧
  (∀ a, (k0_off60 v643) a + S160x1024.size a ≤ S4096x1024.size a) ∧
  (∀ a, (k0_off66 v643) a + S160x1024.size a ≤ S4096x1024.size a)
theorem k0_off58_inb : ∀ (v643 : BitVec 32) (k0_hw62 : k0_chk62 v643), ∀ a, (k0_off58 v643) a + S1x160x4096.size a ≤ S8x512x4096.size a := fun v643 k0_hw62 => k0_hw62.1
theorem k0_off60_inb : ∀ (v643 : BitVec 32) (k0_hw62 : k0_chk62 v643), ∀ a, (k0_off60 v643) a + S160x1024.size a ≤ S4096x1024.size a := fun v643 k0_hw62 => k0_hw62.2.1
theorem k0_off66_inb : ∀ (v643 : BitVec 32) (k0_hw62 : k0_chk62 v643), ∀ a, (k0_off66 v643) a + S160x1024.size a ≤ S4096x1024.size a := fun v643 k0_hw62 => k0_hw62.2.2

def k0_off67 (v699 : BitVec 32) : Fin 2 → Nat :=
  let c512_i32_836 : BitVec 32 := 512#32
  let v703 : BitVec 32 := Scalar.muli v699 c512_i32_836
  let c0_i32_837 : BitVec 32 := 0#32
  let v704 : BitVec 32 := Scalar.addi v703 c0_i32_837
  let c0_i32_852 : BitVec 32 := 0#32
  ![v704.toNat, 0]
def k0_off68 (v722 : BitVec 32) : Fin 3 → Nat :=
  let c176_i32_867 : BitVec 32 := 176#32
  let c0_i32_868 : BitVec 32 := 0#32
  ![v722.toNat, 176, 0]

def k0_chk66 (v722 : BitVec 32) : Prop :=
  (∀ a, (k0_off68 v722) a + S1x176x4096.size a ≤ S8x512x4096.size a) ∧
  (∀ (hinb : ∀ a, (k0_off68 v722) a + S1x176x4096.size a ≤ S8x512x4096.size a), (Rect.unit (s := S8x512x4096) (k0_off68 v722) S1x176x4096.size hinb).WholeWords (EltTy.packing .bf16))
theorem k0_off68_inb : ∀ (v722 : BitVec 32) (k0_hw66 : k0_chk66 v722), ∀ a, (k0_off68 v722) a + S1x176x4096.size a ≤ S8x512x4096.size a := fun v722 k0_hw66 => k0_hw66.1
theorem k0_off68_wordsbf16 : ∀ (v722 : BitVec 32) (k0_hw66 : k0_chk66 v722), (Rect.unit (s := S8x512x4096) (k0_off68 v722) S1x176x4096.size (k0_off68_inb v722 k0_hw66)).WholeWords (EltTy.packing .bf16) := fun v722 k0_hw66 => k0_hw66.2 (k0_off68_inb v722 k0_hw66)

def k0_off69 (v732 : BitVec 32) : Fin 3 → Nat :=
  let v733 : Index := Scalar.indexCast v732
  let c176_874 : Index := 176#32
  let c0_875 : Index := 0#32
  ![v733.toNat, 176, 0]

def k0_off70 (v666 : BitVec 32) : Fin 2 → Nat :=
  let c512_i32_796 : BitVec 32 := 512#32
  let v670 : BitVec 32 := Scalar.muli v666 c512_i32_796
  let c352_i32_797 : BitVec 32 := 352#32
  let v671 : BitVec 32 := Scalar.addi v670 c352_i32_797
  let c0_i32_880 : BitVec 32 := 0#32
  ![v671.toNat, 0]

def k0_chk63 (v666 : BitVec 32) : Prop :=
  (∀ a, (k0_off61 v666) a + S1x160x4096.size a ≤ S8x512x4096.size a) ∧
  (∀ a, (k0_off63 v666) a + S160x1024.size a ≤ S4096x1024.size a) ∧
  (∀ a, (k0_off70 v666) a + S160x1024.size a ≤ S4096x1024.size a)
theorem k0_off61_inb : ∀ (v666 : BitVec 32) (k0_hw63 : k0_chk63 v666), ∀ a, (k0_off61 v666) a + S1x160x4096.size a ≤ S8x512x4096.size a := fun v666 k0_hw63 => k0_hw63.1
theorem k0_off63_inb : ∀ (v666 : BitVec 32) (k0_hw63 : k0_chk63 v666), ∀ a, (k0_off63 v666) a + S160x1024.size a ≤ S4096x1024.size a := fun v666 k0_hw63 => k0_hw63.2.1
theorem k0_off70_inb : ∀ (v666 : BitVec 32) (k0_hw63 : k0_chk63 v666), ∀ a, (k0_off70 v666) a + S160x1024.size a ≤ S4096x1024.size a := fun v666 k0_hw63 => k0_hw63.2.2

def k0_off71 (v732 : BitVec 32) : Fin 2 → Nat :=
  let c512_i32_876 : BitVec 32 := 512#32
  let v736 : BitVec 32 := Scalar.muli v732 c512_i32_876
  let c176_i32_877 : BitVec 32 := 176#32
  let v737 : BitVec 32 := Scalar.addi v736 c176_i32_877
  let c0_i32_892 : BitVec 32 := 0#32
  ![v737.toNat, 0]
def k0_off72 (v755 : BitVec 32) : Fin 3 → Nat :=
  let c352_i32_907 : BitVec 32 := 352#32
  let c0_i32_908 : BitVec 32 := 0#32
  ![v755.toNat, 352, 0]

def k0_chk68 (v755 : BitVec 32) : Prop :=
  (∀ a, (k0_off72 v755) a + S1x160x4096.size a ≤ S8x512x4096.size a) ∧
  (∀ (hinb : ∀ a, (k0_off72 v755) a + S1x160x4096.size a ≤ S8x512x4096.size a), (Rect.unit (s := S8x512x4096) (k0_off72 v755) S1x160x4096.size hinb).WholeWords (EltTy.packing .bf16))
theorem k0_off72_inb : ∀ (v755 : BitVec 32) (k0_hw68 : k0_chk68 v755), ∀ a, (k0_off72 v755) a + S1x160x4096.size a ≤ S8x512x4096.size a := fun v755 k0_hw68 => k0_hw68.1
theorem k0_off72_wordsbf16 : ∀ (v755 : BitVec 32) (k0_hw68 : k0_chk68 v755), (Rect.unit (s := S8x512x4096) (k0_off72 v755) S1x160x4096.size (k0_off72_inb v755 k0_hw68)).WholeWords (EltTy.packing .bf16) := fun v755 k0_hw68 => k0_hw68.2 (k0_off72_inb v755 k0_hw68)

def k0_off73 (v765 : BitVec 32) : Fin 3 → Nat :=
  let v766 : Index := Scalar.indexCast v765
  let c352_914 : Index := 352#32
  let c0_915 : Index := 0#32
  ![v766.toNat, 352, 0]

def k0_off74 (v699 : BitVec 32) : Fin 2 → Nat :=
  let c512_i32_836 : BitVec 32 := 512#32
  let v703 : BitVec 32 := Scalar.muli v699 c512_i32_836
  let c0_i32_837 : BitVec 32 := 0#32
  let v704 : BitVec 32 := Scalar.addi v703 c0_i32_837
  let c0_i32_920 : BitVec 32 := 0#32
  ![v704.toNat, 0]

def k0_chk65 (v699 : BitVec 32) : Prop :=
  (∀ a, (k0_off65 v699) a + S1x176x4096.size a ≤ S8x512x4096.size a) ∧
  (∀ a, (k0_off67 v699) a + S176x1024.size a ≤ S4096x1024.size a) ∧
  (∀ a, (k0_off74 v699) a + S176x1024.size a ≤ S4096x1024.size a)
theorem k0_off65_inb : ∀ (v699 : BitVec 32) (k0_hw65 : k0_chk65 v699), ∀ a, (k0_off65 v699) a + S1x176x4096.size a ≤ S8x512x4096.size a := fun v699 k0_hw65 => k0_hw65.1
theorem k0_off67_inb : ∀ (v699 : BitVec 32) (k0_hw65 : k0_chk65 v699), ∀ a, (k0_off67 v699) a + S176x1024.size a ≤ S4096x1024.size a := fun v699 k0_hw65 => k0_hw65.2.1
theorem k0_off74_inb : ∀ (v699 : BitVec 32) (k0_hw65 : k0_chk65 v699), ∀ a, (k0_off74 v699) a + S176x1024.size a ≤ S4096x1024.size a := fun v699 k0_hw65 => k0_hw65.2.2

def k0_off75 (v765 : BitVec 32) : Fin 2 → Nat :=
  let c512_i32_916 : BitVec 32 := 512#32
  let v769 : BitVec 32 := Scalar.muli v765 c512_i32_916
  let c352_i32_917 : BitVec 32 := 352#32
  let v770 : BitVec 32 := Scalar.addi v769 c352_i32_917
  let c0_i32_932 : BitVec 32 := 0#32
  ![v770.toNat, 0]
def k0_off76 (v788 : BitVec 32) : Fin 3 → Nat :=
  let c0_i32_947 : BitVec 32 := 0#32
  let c0_i32_948 : BitVec 32 := 0#32
  ![v788.toNat, 0, 0]

def k0_chk70 (v788 : BitVec 32) : Prop :=
  (∀ a, (k0_off76 v788) a + S1x176x4096.size a ≤ S8x512x4096.size a) ∧
  (∀ (hinb : ∀ a, (k0_off76 v788) a + S1x176x4096.size a ≤ S8x512x4096.size a), (Rect.unit (s := S8x512x4096) (k0_off76 v788) S1x176x4096.size hinb).WholeWords (EltTy.packing .bf16))
theorem k0_off76_inb : ∀ (v788 : BitVec 32) (k0_hw70 : k0_chk70 v788), ∀ a, (k0_off76 v788) a + S1x176x4096.size a ≤ S8x512x4096.size a := fun v788 k0_hw70 => k0_hw70.1
theorem k0_off76_wordsbf16 : ∀ (v788 : BitVec 32) (k0_hw70 : k0_chk70 v788), (Rect.unit (s := S8x512x4096) (k0_off76 v788) S1x176x4096.size (k0_off76_inb v788 k0_hw70)).WholeWords (EltTy.packing .bf16) := fun v788 k0_hw70 => k0_hw70.2 (k0_off76_inb v788 k0_hw70)

def k0_off77 (v798 : BitVec 32) : Fin 3 → Nat :=
  let v799 : Index := Scalar.indexCast v798
  let c0_954 : Index := 0#32
  let c0_955 : Index := 0#32
  ![v799.toNat, 0, 0]

def k0_off78 (v732 : BitVec 32) : Fin 2 → Nat :=
  let c512_i32_876 : BitVec 32 := 512#32
  let v736 : BitVec 32 := Scalar.muli v732 c512_i32_876
  let c176_i32_877 : BitVec 32 := 176#32
  let v737 : BitVec 32 := Scalar.addi v736 c176_i32_877
  let c0_i32_960 : BitVec 32 := 0#32
  ![v737.toNat, 0]

def k0_chk67 (v732 : BitVec 32) : Prop :=
  (∀ a, (k0_off69 v732) a + S1x176x4096.size a ≤ S8x512x4096.size a) ∧
  (∀ a, (k0_off71 v732) a + S176x1024.size a ≤ S4096x1024.size a) ∧
  (∀ a, (k0_off78 v732) a + S176x1024.size a ≤ S4096x1024.size a)
theorem k0_off69_inb : ∀ (v732 : BitVec 32) (k0_hw67 : k0_chk67 v732), ∀ a, (k0_off69 v732) a + S1x176x4096.size a ≤ S8x512x4096.size a := fun v732 k0_hw67 => k0_hw67.1
theorem k0_off71_inb : ∀ (v732 : BitVec 32) (k0_hw67 : k0_chk67 v732), ∀ a, (k0_off71 v732) a + S176x1024.size a ≤ S4096x1024.size a := fun v732 k0_hw67 => k0_hw67.2.1
theorem k0_off78_inb : ∀ (v732 : BitVec 32) (k0_hw67 : k0_chk67 v732), ∀ a, (k0_off78 v732) a + S176x1024.size a ≤ S4096x1024.size a := fun v732 k0_hw67 => k0_hw67.2.2

def k0_off79 (v798 : BitVec 32) : Fin 2 → Nat :=
  let c512_i32_956 : BitVec 32 := 512#32
  let v802 : BitVec 32 := Scalar.muli v798 c512_i32_956
  let c0_i32_957 : BitVec 32 := 0#32
  let v803 : BitVec 32 := Scalar.addi v802 c0_i32_957
  let c0_i32_972 : BitVec 32 := 0#32
  ![v803.toNat, 0]
def k0_off80 (v821 : BitVec 32) : Fin 3 → Nat :=
  let c176_i32_987 : BitVec 32 := 176#32
  let c0_i32_988 : BitVec 32 := 0#32
  ![v821.toNat, 176, 0]

def k0_chk72 (v821 : BitVec 32) : Prop :=
  (∀ a, (k0_off80 v821) a + S1x176x4096.size a ≤ S8x512x4096.size a) ∧
  (∀ (hinb : ∀ a, (k0_off80 v821) a + S1x176x4096.size a ≤ S8x512x4096.size a), (Rect.unit (s := S8x512x4096) (k0_off80 v821) S1x176x4096.size hinb).WholeWords (EltTy.packing .bf16))
theorem k0_off80_inb : ∀ (v821 : BitVec 32) (k0_hw72 : k0_chk72 v821), ∀ a, (k0_off80 v821) a + S1x176x4096.size a ≤ S8x512x4096.size a := fun v821 k0_hw72 => k0_hw72.1
theorem k0_off80_wordsbf16 : ∀ (v821 : BitVec 32) (k0_hw72 : k0_chk72 v821), (Rect.unit (s := S8x512x4096) (k0_off80 v821) S1x176x4096.size (k0_off80_inb v821 k0_hw72)).WholeWords (EltTy.packing .bf16) := fun v821 k0_hw72 => k0_hw72.2 (k0_off80_inb v821 k0_hw72)

def k0_off81 (v831 : BitVec 32) : Fin 3 → Nat :=
  let v832 : Index := Scalar.indexCast v831
  let c176_994 : Index := 176#32
  let c0_995 : Index := 0#32
  ![v832.toNat, 176, 0]

def k0_off82 (v765 : BitVec 32) : Fin 2 → Nat :=
  let c512_i32_916 : BitVec 32 := 512#32
  let v769 : BitVec 32 := Scalar.muli v765 c512_i32_916
  let c352_i32_917 : BitVec 32 := 352#32
  let v770 : BitVec 32 := Scalar.addi v769 c352_i32_917
  let c0_i32_1000 : BitVec 32 := 0#32
  ![v770.toNat, 0]

def k0_chk69 (v765 : BitVec 32) : Prop :=
  (∀ a, (k0_off73 v765) a + S1x160x4096.size a ≤ S8x512x4096.size a) ∧
  (∀ a, (k0_off75 v765) a + S160x1024.size a ≤ S4096x1024.size a) ∧
  (∀ a, (k0_off82 v765) a + S160x1024.size a ≤ S4096x1024.size a)
theorem k0_off73_inb : ∀ (v765 : BitVec 32) (k0_hw69 : k0_chk69 v765), ∀ a, (k0_off73 v765) a + S1x160x4096.size a ≤ S8x512x4096.size a := fun v765 k0_hw69 => k0_hw69.1
theorem k0_off75_inb : ∀ (v765 : BitVec 32) (k0_hw69 : k0_chk69 v765), ∀ a, (k0_off75 v765) a + S160x1024.size a ≤ S4096x1024.size a := fun v765 k0_hw69 => k0_hw69.2.1
theorem k0_off82_inb : ∀ (v765 : BitVec 32) (k0_hw69 : k0_chk69 v765), ∀ a, (k0_off82 v765) a + S160x1024.size a ≤ S4096x1024.size a := fun v765 k0_hw69 => k0_hw69.2.2

def k0_off83 (v831 : BitVec 32) : Fin 2 → Nat :=
  let c512_i32_996 : BitVec 32 := 512#32
  let v835 : BitVec 32 := Scalar.muli v831 c512_i32_996
  let c176_i32_997 : BitVec 32 := 176#32
  let v836 : BitVec 32 := Scalar.addi v835 c176_i32_997
  let c0_i32_1012 : BitVec 32 := 0#32
  ![v836.toNat, 0]
def k0_off84 (v854 : BitVec 32) : Fin 3 → Nat :=
  let c352_i32_1027 : BitVec 32 := 352#32
  let c0_i32_1028 : BitVec 32 := 0#32
  ![v854.toNat, 352, 0]

def k0_chk74 (v854 : BitVec 32) : Prop :=
  (∀ a, (k0_off84 v854) a + S1x160x4096.size a ≤ S8x512x4096.size a) ∧
  (∀ (hinb : ∀ a, (k0_off84 v854) a + S1x160x4096.size a ≤ S8x512x4096.size a), (Rect.unit (s := S8x512x4096) (k0_off84 v854) S1x160x4096.size hinb).WholeWords (EltTy.packing .bf16))
theorem k0_off84_inb : ∀ (v854 : BitVec 32) (k0_hw74 : k0_chk74 v854), ∀ a, (k0_off84 v854) a + S1x160x4096.size a ≤ S8x512x4096.size a := fun v854 k0_hw74 => k0_hw74.1
theorem k0_off84_wordsbf16 : ∀ (v854 : BitVec 32) (k0_hw74 : k0_chk74 v854), (Rect.unit (s := S8x512x4096) (k0_off84 v854) S1x160x4096.size (k0_off84_inb v854 k0_hw74)).WholeWords (EltTy.packing .bf16) := fun v854 k0_hw74 => k0_hw74.2 (k0_off84_inb v854 k0_hw74)

def k0_off85 (v864 : BitVec 32) : Fin 3 → Nat :=
  let v865 : Index := Scalar.indexCast v864
  let c352_1034 : Index := 352#32
  let c0_1035 : Index := 0#32
  ![v865.toNat, 352, 0]

def k0_off86 (v798 : BitVec 32) : Fin 2 → Nat :=
  let c512_i32_956 : BitVec 32 := 512#32
  let v802 : BitVec 32 := Scalar.muli v798 c512_i32_956
  let c0_i32_957 : BitVec 32 := 0#32
  let v803 : BitVec 32 := Scalar.addi v802 c0_i32_957
  let c0_i32_1040 : BitVec 32 := 0#32
  ![v803.toNat, 0]

def k0_chk71 (v798 : BitVec 32) : Prop :=
  (∀ a, (k0_off77 v798) a + S1x176x4096.size a ≤ S8x512x4096.size a) ∧
  (∀ a, (k0_off79 v798) a + S176x1024.size a ≤ S4096x1024.size a) ∧
  (∀ a, (k0_off86 v798) a + S176x1024.size a ≤ S4096x1024.size a)
theorem k0_off77_inb : ∀ (v798 : BitVec 32) (k0_hw71 : k0_chk71 v798), ∀ a, (k0_off77 v798) a + S1x176x4096.size a ≤ S8x512x4096.size a := fun v798 k0_hw71 => k0_hw71.1
theorem k0_off79_inb : ∀ (v798 : BitVec 32) (k0_hw71 : k0_chk71 v798), ∀ a, (k0_off79 v798) a + S176x1024.size a ≤ S4096x1024.size a := fun v798 k0_hw71 => k0_hw71.2.1
theorem k0_off86_inb : ∀ (v798 : BitVec 32) (k0_hw71 : k0_chk71 v798), ∀ a, (k0_off86 v798) a + S176x1024.size a ≤ S4096x1024.size a := fun v798 k0_hw71 => k0_hw71.2.2

def k0_off87 (v864 : BitVec 32) : Fin 2 → Nat :=
  let c512_i32_1036 : BitVec 32 := 512#32
  let v868 : BitVec 32 := Scalar.muli v864 c512_i32_1036
  let c352_i32_1037 : BitVec 32 := 352#32
  let v869 : BitVec 32 := Scalar.addi v868 c352_i32_1037
  let c0_i32_1052 : BitVec 32 := 0#32
  ![v869.toNat, 0]
def k0_off88 (v887 : BitVec 32) : Fin 3 → Nat :=
  let c0_i32_1067 : BitVec 32 := 0#32
  let c0_i32_1068 : BitVec 32 := 0#32
  ![v887.toNat, 0, 0]

def k0_chk76 (v887 : BitVec 32) : Prop :=
  (∀ a, (k0_off88 v887) a + S1x176x4096.size a ≤ S8x512x4096.size a) ∧
  (∀ (hinb : ∀ a, (k0_off88 v887) a + S1x176x4096.size a ≤ S8x512x4096.size a), (Rect.unit (s := S8x512x4096) (k0_off88 v887) S1x176x4096.size hinb).WholeWords (EltTy.packing .bf16))
theorem k0_off88_inb : ∀ (v887 : BitVec 32) (k0_hw76 : k0_chk76 v887), ∀ a, (k0_off88 v887) a + S1x176x4096.size a ≤ S8x512x4096.size a := fun v887 k0_hw76 => k0_hw76.1
theorem k0_off88_wordsbf16 : ∀ (v887 : BitVec 32) (k0_hw76 : k0_chk76 v887), (Rect.unit (s := S8x512x4096) (k0_off88 v887) S1x176x4096.size (k0_off88_inb v887 k0_hw76)).WholeWords (EltTy.packing .bf16) := fun v887 k0_hw76 => k0_hw76.2 (k0_off88_inb v887 k0_hw76)

def k0_off89 (v897 : BitVec 32) : Fin 3 → Nat :=
  let v898 : Index := Scalar.indexCast v897
  let c0_1074 : Index := 0#32
  let c0_1075 : Index := 0#32
  ![v898.toNat, 0, 0]

def k0_off90 (v831 : BitVec 32) : Fin 2 → Nat :=
  let c512_i32_996 : BitVec 32 := 512#32
  let v835 : BitVec 32 := Scalar.muli v831 c512_i32_996
  let c176_i32_997 : BitVec 32 := 176#32
  let v836 : BitVec 32 := Scalar.addi v835 c176_i32_997
  let c0_i32_1080 : BitVec 32 := 0#32
  ![v836.toNat, 0]

def k0_chk73 (v831 : BitVec 32) : Prop :=
  (∀ a, (k0_off81 v831) a + S1x176x4096.size a ≤ S8x512x4096.size a) ∧
  (∀ a, (k0_off83 v831) a + S176x1024.size a ≤ S4096x1024.size a) ∧
  (∀ a, (k0_off90 v831) a + S176x1024.size a ≤ S4096x1024.size a)
theorem k0_off81_inb : ∀ (v831 : BitVec 32) (k0_hw73 : k0_chk73 v831), ∀ a, (k0_off81 v831) a + S1x176x4096.size a ≤ S8x512x4096.size a := fun v831 k0_hw73 => k0_hw73.1
theorem k0_off83_inb : ∀ (v831 : BitVec 32) (k0_hw73 : k0_chk73 v831), ∀ a, (k0_off83 v831) a + S176x1024.size a ≤ S4096x1024.size a := fun v831 k0_hw73 => k0_hw73.2.1
theorem k0_off90_inb : ∀ (v831 : BitVec 32) (k0_hw73 : k0_chk73 v831), ∀ a, (k0_off90 v831) a + S176x1024.size a ≤ S4096x1024.size a := fun v831 k0_hw73 => k0_hw73.2.2

def k0_off91 (v897 : BitVec 32) : Fin 2 → Nat :=
  let c512_i32_1076 : BitVec 32 := 512#32
  let v901 : BitVec 32 := Scalar.muli v897 c512_i32_1076
  let c0_i32_1077 : BitVec 32 := 0#32
  let v902 : BitVec 32 := Scalar.addi v901 c0_i32_1077
  let c0_i32_1092 : BitVec 32 := 0#32
  ![v902.toNat, 0]
def k0_off92 (v920 : BitVec 32) : Fin 3 → Nat :=
  let c176_i32_1107 : BitVec 32 := 176#32
  let c0_i32_1108 : BitVec 32 := 0#32
  ![v920.toNat, 176, 0]

def k0_chk78 (v920 : BitVec 32) : Prop :=
  (∀ a, (k0_off92 v920) a + S1x176x4096.size a ≤ S8x512x4096.size a) ∧
  (∀ (hinb : ∀ a, (k0_off92 v920) a + S1x176x4096.size a ≤ S8x512x4096.size a), (Rect.unit (s := S8x512x4096) (k0_off92 v920) S1x176x4096.size hinb).WholeWords (EltTy.packing .bf16))
theorem k0_off92_inb : ∀ (v920 : BitVec 32) (k0_hw78 : k0_chk78 v920), ∀ a, (k0_off92 v920) a + S1x176x4096.size a ≤ S8x512x4096.size a := fun v920 k0_hw78 => k0_hw78.1
theorem k0_off92_wordsbf16 : ∀ (v920 : BitVec 32) (k0_hw78 : k0_chk78 v920), (Rect.unit (s := S8x512x4096) (k0_off92 v920) S1x176x4096.size (k0_off92_inb v920 k0_hw78)).WholeWords (EltTy.packing .bf16) := fun v920 k0_hw78 => k0_hw78.2 (k0_off92_inb v920 k0_hw78)

def k0_off93 (v930 : BitVec 32) : Fin 3 → Nat :=
  let v931 : Index := Scalar.indexCast v930
  let c176_1114 : Index := 176#32
  let c0_1115 : Index := 0#32
  ![v931.toNat, 176, 0]

def k0_off94 (v864 : BitVec 32) : Fin 2 → Nat :=
  let c512_i32_1036 : BitVec 32 := 512#32
  let v868 : BitVec 32 := Scalar.muli v864 c512_i32_1036
  let c352_i32_1037 : BitVec 32 := 352#32
  let v869 : BitVec 32 := Scalar.addi v868 c352_i32_1037
  let c0_i32_1120 : BitVec 32 := 0#32
  ![v869.toNat, 0]

def k0_chk75 (v864 : BitVec 32) : Prop :=
  (∀ a, (k0_off85 v864) a + S1x160x4096.size a ≤ S8x512x4096.size a) ∧
  (∀ a, (k0_off87 v864) a + S160x1024.size a ≤ S4096x1024.size a) ∧
  (∀ a, (k0_off94 v864) a + S160x1024.size a ≤ S4096x1024.size a)
theorem k0_off85_inb : ∀ (v864 : BitVec 32) (k0_hw75 : k0_chk75 v864), ∀ a, (k0_off85 v864) a + S1x160x4096.size a ≤ S8x512x4096.size a := fun v864 k0_hw75 => k0_hw75.1
theorem k0_off87_inb : ∀ (v864 : BitVec 32) (k0_hw75 : k0_chk75 v864), ∀ a, (k0_off87 v864) a + S160x1024.size a ≤ S4096x1024.size a := fun v864 k0_hw75 => k0_hw75.2.1
theorem k0_off94_inb : ∀ (v864 : BitVec 32) (k0_hw75 : k0_chk75 v864), ∀ a, (k0_off94 v864) a + S160x1024.size a ≤ S4096x1024.size a := fun v864 k0_hw75 => k0_hw75.2.2

def k0_off95 (v930 : BitVec 32) : Fin 2 → Nat :=
  let c512_i32_1116 : BitVec 32 := 512#32
  let v934 : BitVec 32 := Scalar.muli v930 c512_i32_1116
  let c176_i32_1117 : BitVec 32 := 176#32
  let v935 : BitVec 32 := Scalar.addi v934 c176_i32_1117
  let c0_i32_1132 : BitVec 32 := 0#32
  ![v935.toNat, 0]
def k0_off96 (v953 : BitVec 32) : Fin 3 → Nat :=
  let c352_i32_1147 : BitVec 32 := 352#32
  let c0_i32_1148 : BitVec 32 := 0#32
  ![v953.toNat, 352, 0]

def k0_chk80 (v953 : BitVec 32) : Prop :=
  (∀ a, (k0_off96 v953) a + S1x160x4096.size a ≤ S8x512x4096.size a) ∧
  (∀ (hinb : ∀ a, (k0_off96 v953) a + S1x160x4096.size a ≤ S8x512x4096.size a), (Rect.unit (s := S8x512x4096) (k0_off96 v953) S1x160x4096.size hinb).WholeWords (EltTy.packing .bf16))
theorem k0_off96_inb : ∀ (v953 : BitVec 32) (k0_hw80 : k0_chk80 v953), ∀ a, (k0_off96 v953) a + S1x160x4096.size a ≤ S8x512x4096.size a := fun v953 k0_hw80 => k0_hw80.1
theorem k0_off96_wordsbf16 : ∀ (v953 : BitVec 32) (k0_hw80 : k0_chk80 v953), (Rect.unit (s := S8x512x4096) (k0_off96 v953) S1x160x4096.size (k0_off96_inb v953 k0_hw80)).WholeWords (EltTy.packing .bf16) := fun v953 k0_hw80 => k0_hw80.2 (k0_off96_inb v953 k0_hw80)

def k0_off97 (v963 : BitVec 32) : Fin 3 → Nat :=
  let v964 : Index := Scalar.indexCast v963
  let c352_1154 : Index := 352#32
  let c0_1155 : Index := 0#32
  ![v964.toNat, 352, 0]

def k0_off98 (v897 : BitVec 32) : Fin 2 → Nat :=
  let c512_i32_1076 : BitVec 32 := 512#32
  let v901 : BitVec 32 := Scalar.muli v897 c512_i32_1076
  let c0_i32_1077 : BitVec 32 := 0#32
  let v902 : BitVec 32 := Scalar.addi v901 c0_i32_1077
  let c0_i32_1160 : BitVec 32 := 0#32
  ![v902.toNat, 0]

def k0_chk77 (v897 : BitVec 32) : Prop :=
  (∀ a, (k0_off89 v897) a + S1x176x4096.size a ≤ S8x512x4096.size a) ∧
  (∀ a, (k0_off91 v897) a + S176x1024.size a ≤ S4096x1024.size a) ∧
  (∀ a, (k0_off98 v897) a + S176x1024.size a ≤ S4096x1024.size a)
theorem k0_off89_inb : ∀ (v897 : BitVec 32) (k0_hw77 : k0_chk77 v897), ∀ a, (k0_off89 v897) a + S1x176x4096.size a ≤ S8x512x4096.size a := fun v897 k0_hw77 => k0_hw77.1
theorem k0_off91_inb : ∀ (v897 : BitVec 32) (k0_hw77 : k0_chk77 v897), ∀ a, (k0_off91 v897) a + S176x1024.size a ≤ S4096x1024.size a := fun v897 k0_hw77 => k0_hw77.2.1
theorem k0_off98_inb : ∀ (v897 : BitVec 32) (k0_hw77 : k0_chk77 v897), ∀ a, (k0_off98 v897) a + S176x1024.size a ≤ S4096x1024.size a := fun v897 k0_hw77 => k0_hw77.2.2

def k0_off99 (v963 : BitVec 32) : Fin 2 → Nat :=
  let c512_i32_1156 : BitVec 32 := 512#32
  let v967 : BitVec 32 := Scalar.muli v963 c512_i32_1156
  let c352_i32_1157 : BitVec 32 := 352#32
  let v968 : BitVec 32 := Scalar.addi v967 c352_i32_1157
  let c0_i32_1172 : BitVec 32 := 0#32
  ![v968.toNat, 0]
def k0_off100 (v986 : BitVec 32) : Fin 3 → Nat :=
  let c0_i32_1187 : BitVec 32 := 0#32
  let c0_i32_1188 : BitVec 32 := 0#32
  ![v986.toNat, 0, 0]

def k0_chk82 (v986 : BitVec 32) : Prop :=
  (∀ a, (k0_off100 v986) a + S1x176x4096.size a ≤ S8x512x4096.size a) ∧
  (∀ (hinb : ∀ a, (k0_off100 v986) a + S1x176x4096.size a ≤ S8x512x4096.size a), (Rect.unit (s := S8x512x4096) (k0_off100 v986) S1x176x4096.size hinb).WholeWords (EltTy.packing .bf16))
theorem k0_off100_inb : ∀ (v986 : BitVec 32) (k0_hw82 : k0_chk82 v986), ∀ a, (k0_off100 v986) a + S1x176x4096.size a ≤ S8x512x4096.size a := fun v986 k0_hw82 => k0_hw82.1
theorem k0_off100_wordsbf16 : ∀ (v986 : BitVec 32) (k0_hw82 : k0_chk82 v986), (Rect.unit (s := S8x512x4096) (k0_off100 v986) S1x176x4096.size (k0_off100_inb v986 k0_hw82)).WholeWords (EltTy.packing .bf16) := fun v986 k0_hw82 => k0_hw82.2 (k0_off100_inb v986 k0_hw82)

def k0_off101 (v996 : BitVec 32) : Fin 3 → Nat :=
  let v997 : Index := Scalar.indexCast v996
  let c0_1194 : Index := 0#32
  let c0_1195 : Index := 0#32
  ![v997.toNat, 0, 0]

def k0_off102 (v930 : BitVec 32) : Fin 2 → Nat :=
  let c512_i32_1116 : BitVec 32 := 512#32
  let v934 : BitVec 32 := Scalar.muli v930 c512_i32_1116
  let c176_i32_1117 : BitVec 32 := 176#32
  let v935 : BitVec 32 := Scalar.addi v934 c176_i32_1117
  let c0_i32_1200 : BitVec 32 := 0#32
  ![v935.toNat, 0]

def k0_chk79 (v930 : BitVec 32) : Prop :=
  (∀ a, (k0_off93 v930) a + S1x176x4096.size a ≤ S8x512x4096.size a) ∧
  (∀ a, (k0_off95 v930) a + S176x1024.size a ≤ S4096x1024.size a) ∧
  (∀ a, (k0_off102 v930) a + S176x1024.size a ≤ S4096x1024.size a)
theorem k0_off93_inb : ∀ (v930 : BitVec 32) (k0_hw79 : k0_chk79 v930), ∀ a, (k0_off93 v930) a + S1x176x4096.size a ≤ S8x512x4096.size a := fun v930 k0_hw79 => k0_hw79.1
theorem k0_off95_inb : ∀ (v930 : BitVec 32) (k0_hw79 : k0_chk79 v930), ∀ a, (k0_off95 v930) a + S176x1024.size a ≤ S4096x1024.size a := fun v930 k0_hw79 => k0_hw79.2.1
theorem k0_off102_inb : ∀ (v930 : BitVec 32) (k0_hw79 : k0_chk79 v930), ∀ a, (k0_off102 v930) a + S176x1024.size a ≤ S4096x1024.size a := fun v930 k0_hw79 => k0_hw79.2.2

def k0_off103 (v996 : BitVec 32) : Fin 2 → Nat :=
  let c512_i32_1196 : BitVec 32 := 512#32
  let v1000 : BitVec 32 := Scalar.muli v996 c512_i32_1196
  let c0_i32_1197 : BitVec 32 := 0#32
  let v1001 : BitVec 32 := Scalar.addi v1000 c0_i32_1197
  let c0_i32_1212 : BitVec 32 := 0#32
  ![v1001.toNat, 0]
def k0_off104 (v1019 : BitVec 32) : Fin 3 → Nat :=
  let c176_i32_1227 : BitVec 32 := 176#32
  let c0_i32_1228 : BitVec 32 := 0#32
  ![v1019.toNat, 176, 0]

def k0_chk84 (v1019 : BitVec 32) : Prop :=
  (∀ a, (k0_off104 v1019) a + S1x176x4096.size a ≤ S8x512x4096.size a) ∧
  (∀ (hinb : ∀ a, (k0_off104 v1019) a + S1x176x4096.size a ≤ S8x512x4096.size a), (Rect.unit (s := S8x512x4096) (k0_off104 v1019) S1x176x4096.size hinb).WholeWords (EltTy.packing .bf16))
theorem k0_off104_inb : ∀ (v1019 : BitVec 32) (k0_hw84 : k0_chk84 v1019), ∀ a, (k0_off104 v1019) a + S1x176x4096.size a ≤ S8x512x4096.size a := fun v1019 k0_hw84 => k0_hw84.1
theorem k0_off104_wordsbf16 : ∀ (v1019 : BitVec 32) (k0_hw84 : k0_chk84 v1019), (Rect.unit (s := S8x512x4096) (k0_off104 v1019) S1x176x4096.size (k0_off104_inb v1019 k0_hw84)).WholeWords (EltTy.packing .bf16) := fun v1019 k0_hw84 => k0_hw84.2 (k0_off104_inb v1019 k0_hw84)

def k0_off105 (v1029 : BitVec 32) : Fin 3 → Nat :=
  let v1030 : Index := Scalar.indexCast v1029
  let c176_1234 : Index := 176#32
  let c0_1235 : Index := 0#32
  ![v1030.toNat, 176, 0]

def k0_off106 (v963 : BitVec 32) : Fin 2 → Nat :=
  let c512_i32_1156 : BitVec 32 := 512#32
  let v967 : BitVec 32 := Scalar.muli v963 c512_i32_1156
  let c352_i32_1157 : BitVec 32 := 352#32
  let v968 : BitVec 32 := Scalar.addi v967 c352_i32_1157
  let c0_i32_1240 : BitVec 32 := 0#32
  ![v968.toNat, 0]

def k0_chk81 (v963 : BitVec 32) : Prop :=
  (∀ a, (k0_off97 v963) a + S1x160x4096.size a ≤ S8x512x4096.size a) ∧
  (∀ a, (k0_off99 v963) a + S160x1024.size a ≤ S4096x1024.size a) ∧
  (∀ a, (k0_off106 v963) a + S160x1024.size a ≤ S4096x1024.size a)
theorem k0_off97_inb : ∀ (v963 : BitVec 32) (k0_hw81 : k0_chk81 v963), ∀ a, (k0_off97 v963) a + S1x160x4096.size a ≤ S8x512x4096.size a := fun v963 k0_hw81 => k0_hw81.1
theorem k0_off99_inb : ∀ (v963 : BitVec 32) (k0_hw81 : k0_chk81 v963), ∀ a, (k0_off99 v963) a + S160x1024.size a ≤ S4096x1024.size a := fun v963 k0_hw81 => k0_hw81.2.1
theorem k0_off106_inb : ∀ (v963 : BitVec 32) (k0_hw81 : k0_chk81 v963), ∀ a, (k0_off106 v963) a + S160x1024.size a ≤ S4096x1024.size a := fun v963 k0_hw81 => k0_hw81.2.2

def k0_off107 (v1029 : BitVec 32) : Fin 2 → Nat :=
  let c512_i32_1236 : BitVec 32 := 512#32
  let v1033 : BitVec 32 := Scalar.muli v1029 c512_i32_1236
  let c176_i32_1237 : BitVec 32 := 176#32
  let v1034 : BitVec 32 := Scalar.addi v1033 c176_i32_1237
  let c0_i32_1252 : BitVec 32 := 0#32
  ![v1034.toNat, 0]
def k0_off108 (v1052 : BitVec 32) : Fin 3 → Nat :=
  let c352_i32_1267 : BitVec 32 := 352#32
  let c0_i32_1268 : BitVec 32 := 0#32
  ![v1052.toNat, 352, 0]

def k0_chk86 (v1052 : BitVec 32) : Prop :=
  (∀ a, (k0_off108 v1052) a + S1x160x4096.size a ≤ S8x512x4096.size a) ∧
  (∀ (hinb : ∀ a, (k0_off108 v1052) a + S1x160x4096.size a ≤ S8x512x4096.size a), (Rect.unit (s := S8x512x4096) (k0_off108 v1052) S1x160x4096.size hinb).WholeWords (EltTy.packing .bf16))
theorem k0_off108_inb : ∀ (v1052 : BitVec 32) (k0_hw86 : k0_chk86 v1052), ∀ a, (k0_off108 v1052) a + S1x160x4096.size a ≤ S8x512x4096.size a := fun v1052 k0_hw86 => k0_hw86.1
theorem k0_off108_wordsbf16 : ∀ (v1052 : BitVec 32) (k0_hw86 : k0_chk86 v1052), (Rect.unit (s := S8x512x4096) (k0_off108 v1052) S1x160x4096.size (k0_off108_inb v1052 k0_hw86)).WholeWords (EltTy.packing .bf16) := fun v1052 k0_hw86 => k0_hw86.2 (k0_off108_inb v1052 k0_hw86)

def k0_off109 (v1062 : BitVec 32) : Fin 3 → Nat :=
  let v1063 : Index := Scalar.indexCast v1062
  let c352_1274 : Index := 352#32
  let c0_1275 : Index := 0#32
  ![v1063.toNat, 352, 0]

def k0_off110 (v996 : BitVec 32) : Fin 2 → Nat :=
  let c512_i32_1196 : BitVec 32 := 512#32
  let v1000 : BitVec 32 := Scalar.muli v996 c512_i32_1196
  let c0_i32_1197 : BitVec 32 := 0#32
  let v1001 : BitVec 32 := Scalar.addi v1000 c0_i32_1197
  let c0_i32_1280 : BitVec 32 := 0#32
  ![v1001.toNat, 0]

def k0_chk83 (v996 : BitVec 32) : Prop :=
  (∀ a, (k0_off101 v996) a + S1x176x4096.size a ≤ S8x512x4096.size a) ∧
  (∀ a, (k0_off103 v996) a + S176x1024.size a ≤ S4096x1024.size a) ∧
  (∀ a, (k0_off110 v996) a + S176x1024.size a ≤ S4096x1024.size a)
theorem k0_off101_inb : ∀ (v996 : BitVec 32) (k0_hw83 : k0_chk83 v996), ∀ a, (k0_off101 v996) a + S1x176x4096.size a ≤ S8x512x4096.size a := fun v996 k0_hw83 => k0_hw83.1
theorem k0_off103_inb : ∀ (v996 : BitVec 32) (k0_hw83 : k0_chk83 v996), ∀ a, (k0_off103 v996) a + S176x1024.size a ≤ S4096x1024.size a := fun v996 k0_hw83 => k0_hw83.2.1
theorem k0_off110_inb : ∀ (v996 : BitVec 32) (k0_hw83 : k0_chk83 v996), ∀ a, (k0_off110 v996) a + S176x1024.size a ≤ S4096x1024.size a := fun v996 k0_hw83 => k0_hw83.2.2

def k0_off111 (v1062 : BitVec 32) : Fin 2 → Nat :=
  let c512_i32_1276 : BitVec 32 := 512#32
  let v1066 : BitVec 32 := Scalar.muli v1062 c512_i32_1276
  let c352_i32_1277 : BitVec 32 := 352#32
  let v1067 : BitVec 32 := Scalar.addi v1066 c352_i32_1277
  let c0_i32_1292 : BitVec 32 := 0#32
  ![v1067.toNat, 0]

def k0_chk87 (v1062 : BitVec 32) : Prop :=
  (∀ a, (k0_off109 v1062) a + S1x160x4096.size a ≤ S8x512x4096.size a) ∧
  (∀ a, (k0_off111 v1062) a + S160x1024.size a ≤ S4096x1024.size a)
theorem k0_off109_inb : ∀ (v1062 : BitVec 32) (k0_hw87 : k0_chk87 v1062), ∀ a, (k0_off109 v1062) a + S1x160x4096.size a ≤ S8x512x4096.size a := fun v1062 k0_hw87 => k0_hw87.1
theorem k0_off111_inb : ∀ (v1062 : BitVec 32) (k0_hw87 : k0_chk87 v1062), ∀ a, (k0_off111 v1062) a + S160x1024.size a ≤ S4096x1024.size a := fun v1062 k0_hw87 => k0_hw87.2

def k0_off112 (v1029 : BitVec 32) : Fin 2 → Nat :=
  let c512_i32_1236 : BitVec 32 := 512#32
  let v1033 : BitVec 32 := Scalar.muli v1029 c512_i32_1236
  let c176_i32_1237 : BitVec 32 := 176#32
  let v1034 : BitVec 32 := Scalar.addi v1033 c176_i32_1237
  let c0_i32_1297 : BitVec 32 := 0#32
  ![v1034.toNat, 0]

def k0_chk85 (v1029 : BitVec 32) : Prop :=
  (∀ a, (k0_off105 v1029) a + S1x176x4096.size a ≤ S8x512x4096.size a) ∧
  (∀ a, (k0_off107 v1029) a + S176x1024.size a ≤ S4096x1024.size a) ∧
  (∀ a, (k0_off112 v1029) a + S176x1024.size a ≤ S4096x1024.size a)
theorem k0_off105_inb : ∀ (v1029 : BitVec 32) (k0_hw85 : k0_chk85 v1029), ∀ a, (k0_off105 v1029) a + S1x176x4096.size a ≤ S8x512x4096.size a := fun v1029 k0_hw85 => k0_hw85.1
theorem k0_off107_inb : ∀ (v1029 : BitVec 32) (k0_hw85 : k0_chk85 v1029), ∀ a, (k0_off107 v1029) a + S176x1024.size a ≤ S4096x1024.size a := fun v1029 k0_hw85 => k0_hw85.2.1
theorem k0_off112_inb : ∀ (v1029 : BitVec 32) (k0_hw85 : k0_chk85 v1029), ∀ a, (k0_off112 v1029) a + S176x1024.size a ≤ S4096x1024.size a := fun v1029 k0_hw85 => k0_hw85.2.2

def k0_off113 (v1095 : BitVec 32) : Fin 3 → Nat :=
  let c0_i32_1316 : BitVec 32 := 0#32
  let c0_i32_1317 : BitVec 32 := 0#32
  ![v1095.toNat, 0, 0]

def k0_chk88 (v1095 : BitVec 32) : Prop :=
  (∀ a, (k0_off113 v1095) a + S1x176x4096.size a ≤ S8x512x4096.size a) ∧
  (∀ (hinb : ∀ a, (k0_off113 v1095) a + S1x176x4096.size a ≤ S8x512x4096.size a), (Rect.unit (s := S8x512x4096) (k0_off113 v1095) S1x176x4096.size hinb).WholeWords (EltTy.packing .bf16))
theorem k0_off113_inb : ∀ (v1095 : BitVec 32) (k0_hw88 : k0_chk88 v1095), ∀ a, (k0_off113 v1095) a + S1x176x4096.size a ≤ S8x512x4096.size a := fun v1095 k0_hw88 => k0_hw88.1
theorem k0_off113_wordsbf16 : ∀ (v1095 : BitVec 32) (k0_hw88 : k0_chk88 v1095), (Rect.unit (s := S8x512x4096) (k0_off113 v1095) S1x176x4096.size (k0_off113_inb v1095 k0_hw88)).WholeWords (EltTy.packing .bf16) := fun v1095 k0_hw88 => k0_hw88.2 (k0_off113_inb v1095 k0_hw88)

def k0_off114 (v1103 : BitVec 32) : Fin 3 → Nat :=
  let c176_i32_1331 : BitVec 32 := 176#32
  let c0_i32_1332 : BitVec 32 := 0#32
  ![v1103.toNat, 176, 0]

def k0_chk89 (v1103 : BitVec 32) : Prop :=
  (∀ a, (k0_off114 v1103) a + S1x176x4096.size a ≤ S8x512x4096.size a) ∧
  (∀ (hinb : ∀ a, (k0_off114 v1103) a + S1x176x4096.size a ≤ S8x512x4096.size a), (Rect.unit (s := S8x512x4096) (k0_off114 v1103) S1x176x4096.size hinb).WholeWords (EltTy.packing .bf16))
theorem k0_off114_inb : ∀ (v1103 : BitVec 32) (k0_hw89 : k0_chk89 v1103), ∀ a, (k0_off114 v1103) a + S1x176x4096.size a ≤ S8x512x4096.size a := fun v1103 k0_hw89 => k0_hw89.1
theorem k0_off114_wordsbf16 : ∀ (v1103 : BitVec 32) (k0_hw89 : k0_chk89 v1103), (Rect.unit (s := S8x512x4096) (k0_off114 v1103) S1x176x4096.size (k0_off114_inb v1103 k0_hw89)).WholeWords (EltTy.packing .bf16) := fun v1103 k0_hw89 => k0_hw89.2 (k0_off114_inb v1103 k0_hw89)

def k0_off115 (v1111 : BitVec 32) : Fin 3 → Nat :=
  let c352_i32_1346 : BitVec 32 := 352#32
  let c0_i32_1347 : BitVec 32 := 0#32
  ![v1111.toNat, 352, 0]

def k0_chk90 (v1111 : BitVec 32) : Prop :=
  (∀ a, (k0_off115 v1111) a + S1x160x4096.size a ≤ S8x512x4096.size a) ∧
  (∀ (hinb : ∀ a, (k0_off115 v1111) a + S1x160x4096.size a ≤ S8x512x4096.size a), (Rect.unit (s := S8x512x4096) (k0_off115 v1111) S1x160x4096.size hinb).WholeWords (EltTy.packing .bf16))
theorem k0_off115_inb : ∀ (v1111 : BitVec 32) (k0_hw90 : k0_chk90 v1111), ∀ a, (k0_off115 v1111) a + S1x160x4096.size a ≤ S8x512x4096.size a := fun v1111 k0_hw90 => k0_hw90.1
theorem k0_off115_wordsbf16 : ∀ (v1111 : BitVec 32) (k0_hw90 : k0_chk90 v1111), (Rect.unit (s := S8x512x4096) (k0_off115 v1111) S1x160x4096.size (k0_off115_inb v1111 k0_hw90)).WholeWords (EltTy.packing .bf16) := fun v1111 k0_hw90 => k0_hw90.2 (k0_off115_inb v1111 k0_hw90)

def k0_off116 (v1119 : BitVec 32) : Fin 3 → Nat :=
  let c0_i32_1361 : BitVec 32 := 0#32
  let c0_i32_1362 : BitVec 32 := 0#32
  ![v1119.toNat, 0, 0]

def k0_chk91 (v1119 : BitVec 32) : Prop :=
  (∀ a, (k0_off116 v1119) a + S1x176x4096.size a ≤ S8x512x4096.size a) ∧
  (∀ (hinb : ∀ a, (k0_off116 v1119) a + S1x176x4096.size a ≤ S8x512x4096.size a), (Rect.unit (s := S8x512x4096) (k0_off116 v1119) S1x176x4096.size hinb).WholeWords (EltTy.packing .bf16))
theorem k0_off116_inb : ∀ (v1119 : BitVec 32) (k0_hw91 : k0_chk91 v1119), ∀ a, (k0_off116 v1119) a + S1x176x4096.size a ≤ S8x512x4096.size a := fun v1119 k0_hw91 => k0_hw91.1
theorem k0_off116_wordsbf16 : ∀ (v1119 : BitVec 32) (k0_hw91 : k0_chk91 v1119), (Rect.unit (s := S8x512x4096) (k0_off116 v1119) S1x176x4096.size (k0_off116_inb v1119 k0_hw91)).WholeWords (EltTy.packing .bf16) := fun v1119 k0_hw91 => k0_hw91.2 (k0_off116_inb v1119 k0_hw91)

def k0_off117 (v1127 : BitVec 32) : Fin 3 → Nat :=
  let c0_i32_1376 : BitVec 32 := 0#32
  let c0_i32_1377 : BitVec 32 := 0#32
  ![v1127.toNat, 0, 0]

def k0_chk92 (v1127 : BitVec 32) : Prop :=
  (∀ a, (k0_off117 v1127) a + S1x176x4096.size a ≤ S8x512x4096.size a) ∧
  (∀ (hinb : ∀ a, (k0_off117 v1127) a + S1x176x4096.size a ≤ S8x512x4096.size a), (Rect.unit (s := S8x512x4096) (k0_off117 v1127) S1x176x4096.size hinb).WholeWords (EltTy.packing .bf16))
theorem k0_off117_inb : ∀ (v1127 : BitVec 32) (k0_hw92 : k0_chk92 v1127), ∀ a, (k0_off117 v1127) a + S1x176x4096.size a ≤ S8x512x4096.size a := fun v1127 k0_hw92 => k0_hw92.1
theorem k0_off117_wordsbf16 : ∀ (v1127 : BitVec 32) (k0_hw92 : k0_chk92 v1127), (Rect.unit (s := S8x512x4096) (k0_off117 v1127) S1x176x4096.size (k0_off117_inb v1127 k0_hw92)).WholeWords (EltTy.packing .bf16) := fun v1127 k0_hw92 => k0_hw92.2 (k0_off117_inb v1127 k0_hw92)

def k0_off118 (v1135 : BitVec 32) : Fin 3 → Nat :=
  let c176_i32_1391 : BitVec 32 := 176#32
  let c0_i32_1392 : BitVec 32 := 0#32
  ![v1135.toNat, 176, 0]

def k0_chk93 (v1135 : BitVec 32) : Prop :=
  (∀ a, (k0_off118 v1135) a + S1x176x4096.size a ≤ S8x512x4096.size a) ∧
  (∀ (hinb : ∀ a, (k0_off118 v1135) a + S1x176x4096.size a ≤ S8x512x4096.size a), (Rect.unit (s := S8x512x4096) (k0_off118 v1135) S1x176x4096.size hinb).WholeWords (EltTy.packing .bf16))
theorem k0_off118_inb : ∀ (v1135 : BitVec 32) (k0_hw93 : k0_chk93 v1135), ∀ a, (k0_off118 v1135) a + S1x176x4096.size a ≤ S8x512x4096.size a := fun v1135 k0_hw93 => k0_hw93.1
theorem k0_off118_wordsbf16 : ∀ (v1135 : BitVec 32) (k0_hw93 : k0_chk93 v1135), (Rect.unit (s := S8x512x4096) (k0_off118 v1135) S1x176x4096.size (k0_off118_inb v1135 k0_hw93)).WholeWords (EltTy.packing .bf16) := fun v1135 k0_hw93 => k0_hw93.2 (k0_off118_inb v1135 k0_hw93)

def k0_off119 (v1143 : BitVec 32) : Fin 3 → Nat :=
  let c176_i32_1406 : BitVec 32 := 176#32
  let c0_i32_1407 : BitVec 32 := 0#32
  ![v1143.toNat, 176, 0]

def k0_chk94 (v1143 : BitVec 32) : Prop :=
  (∀ a, (k0_off119 v1143) a + S1x176x4096.size a ≤ S8x512x4096.size a) ∧
  (∀ (hinb : ∀ a, (k0_off119 v1143) a + S1x176x4096.size a ≤ S8x512x4096.size a), (Rect.unit (s := S8x512x4096) (k0_off119 v1143) S1x176x4096.size hinb).WholeWords (EltTy.packing .bf16))
theorem k0_off119_inb : ∀ (v1143 : BitVec 32) (k0_hw94 : k0_chk94 v1143), ∀ a, (k0_off119 v1143) a + S1x176x4096.size a ≤ S8x512x4096.size a := fun v1143 k0_hw94 => k0_hw94.1
theorem k0_off119_wordsbf16 : ∀ (v1143 : BitVec 32) (k0_hw94 : k0_chk94 v1143), (Rect.unit (s := S8x512x4096) (k0_off119 v1143) S1x176x4096.size (k0_off119_inb v1143 k0_hw94)).WholeWords (EltTy.packing .bf16) := fun v1143 k0_hw94 => k0_hw94.2 (k0_off119_inb v1143 k0_hw94)

def k0_off120 (v1151 : BitVec 32) : Fin 3 → Nat :=
  let c352_i32_1421 : BitVec 32 := 352#32
  let c0_i32_1422 : BitVec 32 := 0#32
  ![v1151.toNat, 352, 0]

def k0_chk95 (v1151 : BitVec 32) : Prop :=
  (∀ a, (k0_off120 v1151) a + S1x160x4096.size a ≤ S8x512x4096.size a) ∧
  (∀ (hinb : ∀ a, (k0_off120 v1151) a + S1x160x4096.size a ≤ S8x512x4096.size a), (Rect.unit (s := S8x512x4096) (k0_off120 v1151) S1x160x4096.size hinb).WholeWords (EltTy.packing .bf16))
theorem k0_off120_inb : ∀ (v1151 : BitVec 32) (k0_hw95 : k0_chk95 v1151), ∀ a, (k0_off120 v1151) a + S1x160x4096.size a ≤ S8x512x4096.size a := fun v1151 k0_hw95 => k0_hw95.1
theorem k0_off120_wordsbf16 : ∀ (v1151 : BitVec 32) (k0_hw95 : k0_chk95 v1151), (Rect.unit (s := S8x512x4096) (k0_off120 v1151) S1x160x4096.size (k0_off120_inb v1151 k0_hw95)).WholeWords (EltTy.packing .bf16) := fun v1151 k0_hw95 => k0_hw95.2 (k0_off120_inb v1151 k0_hw95)

def k0_off121 (v1159 : BitVec 32) : Fin 3 → Nat :=
  let c352_i32_1436 : BitVec 32 := 352#32
  let c0_i32_1437 : BitVec 32 := 0#32
  ![v1159.toNat, 352, 0]

def k0_chk96 (v1159 : BitVec 32) : Prop :=
  (∀ a, (k0_off121 v1159) a + S1x160x4096.size a ≤ S8x512x4096.size a) ∧
  (∀ (hinb : ∀ a, (k0_off121 v1159) a + S1x160x4096.size a ≤ S8x512x4096.size a), (Rect.unit (s := S8x512x4096) (k0_off121 v1159) S1x160x4096.size hinb).WholeWords (EltTy.packing .bf16))
theorem k0_off121_inb : ∀ (v1159 : BitVec 32) (k0_hw96 : k0_chk96 v1159), ∀ a, (k0_off121 v1159) a + S1x160x4096.size a ≤ S8x512x4096.size a := fun v1159 k0_hw96 => k0_hw96.1
theorem k0_off121_wordsbf16 : ∀ (v1159 : BitVec 32) (k0_hw96 : k0_chk96 v1159), (Rect.unit (s := S8x512x4096) (k0_off121 v1159) S1x160x4096.size (k0_off121_inb v1159 k0_hw96)).WholeWords (EltTy.packing .bf16) := fun v1159 k0_hw96 => k0_hw96.2 (k0_off121_inb v1159 k0_hw96)

def k0_off122 (v1167 : BitVec 32) : Fin 3 → Nat :=
  let c0_i32_1451 : BitVec 32 := 0#32
  let c0_i32_1452 : BitVec 32 := 0#32
  ![v1167.toNat, 0, 0]

def k0_chk97 (v1167 : BitVec 32) : Prop :=
  (∀ a, (k0_off122 v1167) a + S1x176x4096.size a ≤ S8x512x4096.size a) ∧
  (∀ (hinb : ∀ a, (k0_off122 v1167) a + S1x176x4096.size a ≤ S8x512x4096.size a), (Rect.unit (s := S8x512x4096) (k0_off122 v1167) S1x176x4096.size hinb).WholeWords (EltTy.packing .bf16))
theorem k0_off122_inb : ∀ (v1167 : BitVec 32) (k0_hw97 : k0_chk97 v1167), ∀ a, (k0_off122 v1167) a + S1x176x4096.size a ≤ S8x512x4096.size a := fun v1167 k0_hw97 => k0_hw97.1
theorem k0_off122_wordsbf16 : ∀ (v1167 : BitVec 32) (k0_hw97 : k0_chk97 v1167), (Rect.unit (s := S8x512x4096) (k0_off122 v1167) S1x176x4096.size (k0_off122_inb v1167 k0_hw97)).WholeWords (EltTy.packing .bf16) := fun v1167 k0_hw97 => k0_hw97.2 (k0_off122_inb v1167 k0_hw97)

def k0_off123 (v1175 : BitVec 32) : Fin 3 → Nat :=
  let c0_i32_1466 : BitVec 32 := 0#32
  let c0_i32_1467 : BitVec 32 := 0#32
  ![v1175.toNat, 0, 0]

def k0_chk98 (v1175 : BitVec 32) : Prop :=
  (∀ a, (k0_off123 v1175) a + S1x176x4096.size a ≤ S8x512x4096.size a) ∧
  (∀ (hinb : ∀ a, (k0_off123 v1175) a + S1x176x4096.size a ≤ S8x512x4096.size a), (Rect.unit (s := S8x512x4096) (k0_off123 v1175) S1x176x4096.size hinb).WholeWords (EltTy.packing .bf16))
theorem k0_off123_inb : ∀ (v1175 : BitVec 32) (k0_hw98 : k0_chk98 v1175), ∀ a, (k0_off123 v1175) a + S1x176x4096.size a ≤ S8x512x4096.size a := fun v1175 k0_hw98 => k0_hw98.1
theorem k0_off123_wordsbf16 : ∀ (v1175 : BitVec 32) (k0_hw98 : k0_chk98 v1175), (Rect.unit (s := S8x512x4096) (k0_off123 v1175) S1x176x4096.size (k0_off123_inb v1175 k0_hw98)).WholeWords (EltTy.packing .bf16) := fun v1175 k0_hw98 => k0_hw98.2 (k0_off123_inb v1175 k0_hw98)

def k0_off124 (v1183 : BitVec 32) : Fin 3 → Nat :=
  let c0_i32_1481 : BitVec 32 := 0#32
  let c0_i32_1482 : BitVec 32 := 0#32
  ![v1183.toNat, 0, 0]

def k0_chk99 (v1183 : BitVec 32) : Prop :=
  (∀ a, (k0_off124 v1183) a + S1x176x4096.size a ≤ S8x512x4096.size a) ∧
  (∀ (hinb : ∀ a, (k0_off124 v1183) a + S1x176x4096.size a ≤ S8x512x4096.size a), (Rect.unit (s := S8x512x4096) (k0_off124 v1183) S1x176x4096.size hinb).WholeWords (EltTy.packing .bf16))
theorem k0_off124_inb : ∀ (v1183 : BitVec 32) (k0_hw99 : k0_chk99 v1183), ∀ a, (k0_off124 v1183) a + S1x176x4096.size a ≤ S8x512x4096.size a := fun v1183 k0_hw99 => k0_hw99.1
theorem k0_off124_wordsbf16 : ∀ (v1183 : BitVec 32) (k0_hw99 : k0_chk99 v1183), (Rect.unit (s := S8x512x4096) (k0_off124 v1183) S1x176x4096.size (k0_off124_inb v1183 k0_hw99)).WholeWords (EltTy.packing .bf16) := fun v1183 k0_hw99 => k0_hw99.2 (k0_off124_inb v1183 k0_hw99)

def k0_off125 (v1191 : BitVec 32) : Fin 3 → Nat :=
  let c0_i32_1496 : BitVec 32 := 0#32
  let c0_i32_1497 : BitVec 32 := 0#32
  ![v1191.toNat, 0, 0]

def k0_chk100 (v1191 : BitVec 32) : Prop :=
  (∀ a, (k0_off125 v1191) a + S1x176x4096.size a ≤ S8x512x4096.size a) ∧
  (∀ (hinb : ∀ a, (k0_off125 v1191) a + S1x176x4096.size a ≤ S8x512x4096.size a), (Rect.unit (s := S8x512x4096) (k0_off125 v1191) S1x176x4096.size hinb).WholeWords (EltTy.packing .bf16))
theorem k0_off125_inb : ∀ (v1191 : BitVec 32) (k0_hw100 : k0_chk100 v1191), ∀ a, (k0_off125 v1191) a + S1x176x4096.size a ≤ S8x512x4096.size a := fun v1191 k0_hw100 => k0_hw100.1
theorem k0_off125_wordsbf16 : ∀ (v1191 : BitVec 32) (k0_hw100 : k0_chk100 v1191), (Rect.unit (s := S8x512x4096) (k0_off125 v1191) S1x176x4096.size (k0_off125_inb v1191 k0_hw100)).WholeWords (EltTy.packing .bf16) := fun v1191 k0_hw100 => k0_hw100.2 (k0_off125_inb v1191 k0_hw100)

def k0_off126 (v1199 : BitVec 32) : Fin 3 → Nat :=
  let c176_i32_1511 : BitVec 32 := 176#32
  let c0_i32_1512 : BitVec 32 := 0#32
  ![v1199.toNat, 176, 0]

def k0_chk101 (v1199 : BitVec 32) : Prop :=
  (∀ a, (k0_off126 v1199) a + S1x176x4096.size a ≤ S8x512x4096.size a) ∧
  (∀ (hinb : ∀ a, (k0_off126 v1199) a + S1x176x4096.size a ≤ S8x512x4096.size a), (Rect.unit (s := S8x512x4096) (k0_off126 v1199) S1x176x4096.size hinb).WholeWords (EltTy.packing .bf16))
theorem k0_off126_inb : ∀ (v1199 : BitVec 32) (k0_hw101 : k0_chk101 v1199), ∀ a, (k0_off126 v1199) a + S1x176x4096.size a ≤ S8x512x4096.size a := fun v1199 k0_hw101 => k0_hw101.1
theorem k0_off126_wordsbf16 : ∀ (v1199 : BitVec 32) (k0_hw101 : k0_chk101 v1199), (Rect.unit (s := S8x512x4096) (k0_off126 v1199) S1x176x4096.size (k0_off126_inb v1199 k0_hw101)).WholeWords (EltTy.packing .bf16) := fun v1199 k0_hw101 => k0_hw101.2 (k0_off126_inb v1199 k0_hw101)

def k0_off127 (v1207 : BitVec 32) : Fin 3 → Nat :=
  let c176_i32_1526 : BitVec 32 := 176#32
  let c0_i32_1527 : BitVec 32 := 0#32
  ![v1207.toNat, 176, 0]

def k0_chk102 (v1207 : BitVec 32) : Prop :=
  (∀ a, (k0_off127 v1207) a + S1x176x4096.size a ≤ S8x512x4096.size a) ∧
  (∀ (hinb : ∀ a, (k0_off127 v1207) a + S1x176x4096.size a ≤ S8x512x4096.size a), (Rect.unit (s := S8x512x4096) (k0_off127 v1207) S1x176x4096.size hinb).WholeWords (EltTy.packing .bf16))
theorem k0_off127_inb : ∀ (v1207 : BitVec 32) (k0_hw102 : k0_chk102 v1207), ∀ a, (k0_off127 v1207) a + S1x176x4096.size a ≤ S8x512x4096.size a := fun v1207 k0_hw102 => k0_hw102.1
theorem k0_off127_wordsbf16 : ∀ (v1207 : BitVec 32) (k0_hw102 : k0_chk102 v1207), (Rect.unit (s := S8x512x4096) (k0_off127 v1207) S1x176x4096.size (k0_off127_inb v1207 k0_hw102)).WholeWords (EltTy.packing .bf16) := fun v1207 k0_hw102 => k0_hw102.2 (k0_off127_inb v1207 k0_hw102)

def k0_off128 (v1215 : BitVec 32) : Fin 3 → Nat :=
  let c176_i32_1541 : BitVec 32 := 176#32
  let c0_i32_1542 : BitVec 32 := 0#32
  ![v1215.toNat, 176, 0]

def k0_chk103 (v1215 : BitVec 32) : Prop :=
  (∀ a, (k0_off128 v1215) a + S1x176x4096.size a ≤ S8x512x4096.size a) ∧
  (∀ (hinb : ∀ a, (k0_off128 v1215) a + S1x176x4096.size a ≤ S8x512x4096.size a), (Rect.unit (s := S8x512x4096) (k0_off128 v1215) S1x176x4096.size hinb).WholeWords (EltTy.packing .bf16))
theorem k0_off128_inb : ∀ (v1215 : BitVec 32) (k0_hw103 : k0_chk103 v1215), ∀ a, (k0_off128 v1215) a + S1x176x4096.size a ≤ S8x512x4096.size a := fun v1215 k0_hw103 => k0_hw103.1
theorem k0_off128_wordsbf16 : ∀ (v1215 : BitVec 32) (k0_hw103 : k0_chk103 v1215), (Rect.unit (s := S8x512x4096) (k0_off128 v1215) S1x176x4096.size (k0_off128_inb v1215 k0_hw103)).WholeWords (EltTy.packing .bf16) := fun v1215 k0_hw103 => k0_hw103.2 (k0_off128_inb v1215 k0_hw103)

def k0_off129 (v1223 : BitVec 32) : Fin 3 → Nat :=
  let c176_i32_1556 : BitVec 32 := 176#32
  let c0_i32_1557 : BitVec 32 := 0#32
  ![v1223.toNat, 176, 0]

def k0_chk104 (v1223 : BitVec 32) : Prop :=
  (∀ a, (k0_off129 v1223) a + S1x176x4096.size a ≤ S8x512x4096.size a) ∧
  (∀ (hinb : ∀ a, (k0_off129 v1223) a + S1x176x4096.size a ≤ S8x512x4096.size a), (Rect.unit (s := S8x512x4096) (k0_off129 v1223) S1x176x4096.size hinb).WholeWords (EltTy.packing .bf16))
theorem k0_off129_inb : ∀ (v1223 : BitVec 32) (k0_hw104 : k0_chk104 v1223), ∀ a, (k0_off129 v1223) a + S1x176x4096.size a ≤ S8x512x4096.size a := fun v1223 k0_hw104 => k0_hw104.1
theorem k0_off129_wordsbf16 : ∀ (v1223 : BitVec 32) (k0_hw104 : k0_chk104 v1223), (Rect.unit (s := S8x512x4096) (k0_off129 v1223) S1x176x4096.size (k0_off129_inb v1223 k0_hw104)).WholeWords (EltTy.packing .bf16) := fun v1223 k0_hw104 => k0_hw104.2 (k0_off129_inb v1223 k0_hw104)

def k0_off130 (v1231 : BitVec 32) : Fin 3 → Nat :=
  let c352_i32_1571 : BitVec 32 := 352#32
  let c0_i32_1572 : BitVec 32 := 0#32
  ![v1231.toNat, 352, 0]

def k0_chk105 (v1231 : BitVec 32) : Prop :=
  (∀ a, (k0_off130 v1231) a + S1x160x4096.size a ≤ S8x512x4096.size a) ∧
  (∀ (hinb : ∀ a, (k0_off130 v1231) a + S1x160x4096.size a ≤ S8x512x4096.size a), (Rect.unit (s := S8x512x4096) (k0_off130 v1231) S1x160x4096.size hinb).WholeWords (EltTy.packing .bf16))
theorem k0_off130_inb : ∀ (v1231 : BitVec 32) (k0_hw105 : k0_chk105 v1231), ∀ a, (k0_off130 v1231) a + S1x160x4096.size a ≤ S8x512x4096.size a := fun v1231 k0_hw105 => k0_hw105.1
theorem k0_off130_wordsbf16 : ∀ (v1231 : BitVec 32) (k0_hw105 : k0_chk105 v1231), (Rect.unit (s := S8x512x4096) (k0_off130 v1231) S1x160x4096.size (k0_off130_inb v1231 k0_hw105)).WholeWords (EltTy.packing .bf16) := fun v1231 k0_hw105 => k0_hw105.2 (k0_off130_inb v1231 k0_hw105)

def k0_off131 (v1239 : BitVec 32) : Fin 3 → Nat :=
  let c352_i32_1586 : BitVec 32 := 352#32
  let c0_i32_1587 : BitVec 32 := 0#32
  ![v1239.toNat, 352, 0]

def k0_chk106 (v1239 : BitVec 32) : Prop :=
  (∀ a, (k0_off131 v1239) a + S1x160x4096.size a ≤ S8x512x4096.size a) ∧
  (∀ (hinb : ∀ a, (k0_off131 v1239) a + S1x160x4096.size a ≤ S8x512x4096.size a), (Rect.unit (s := S8x512x4096) (k0_off131 v1239) S1x160x4096.size hinb).WholeWords (EltTy.packing .bf16))
theorem k0_off131_inb : ∀ (v1239 : BitVec 32) (k0_hw106 : k0_chk106 v1239), ∀ a, (k0_off131 v1239) a + S1x160x4096.size a ≤ S8x512x4096.size a := fun v1239 k0_hw106 => k0_hw106.1
theorem k0_off131_wordsbf16 : ∀ (v1239 : BitVec 32) (k0_hw106 : k0_chk106 v1239), (Rect.unit (s := S8x512x4096) (k0_off131 v1239) S1x160x4096.size (k0_off131_inb v1239 k0_hw106)).WholeWords (EltTy.packing .bf16) := fun v1239 k0_hw106 => k0_hw106.2 (k0_off131_inb v1239 k0_hw106)

def k0_off132 (v1247 : BitVec 32) : Fin 3 → Nat :=
  let c352_i32_1601 : BitVec 32 := 352#32
  let c0_i32_1602 : BitVec 32 := 0#32
  ![v1247.toNat, 352, 0]

def k0_chk107 (v1247 : BitVec 32) : Prop :=
  (∀ a, (k0_off132 v1247) a + S1x160x4096.size a ≤ S8x512x4096.size a) ∧
  (∀ (hinb : ∀ a, (k0_off132 v1247) a + S1x160x4096.size a ≤ S8x512x4096.size a), (Rect.unit (s := S8x512x4096) (k0_off132 v1247) S1x160x4096.size hinb).WholeWords (EltTy.packing .bf16))
theorem k0_off132_inb : ∀ (v1247 : BitVec 32) (k0_hw107 : k0_chk107 v1247), ∀ a, (k0_off132 v1247) a + S1x160x4096.size a ≤ S8x512x4096.size a := fun v1247 k0_hw107 => k0_hw107.1
theorem k0_off132_wordsbf16 : ∀ (v1247 : BitVec 32) (k0_hw107 : k0_chk107 v1247), (Rect.unit (s := S8x512x4096) (k0_off132 v1247) S1x160x4096.size (k0_off132_inb v1247 k0_hw107)).WholeWords (EltTy.packing .bf16) := fun v1247 k0_hw107 => k0_hw107.2 (k0_off132_inb v1247 k0_hw107)

def k0_off133 (v1255 : BitVec 32) : Fin 3 → Nat :=
  let c352_i32_1616 : BitVec 32 := 352#32
  let c0_i32_1617 : BitVec 32 := 0#32
  ![v1255.toNat, 352, 0]

def k0_chk108 (v1255 : BitVec 32) : Prop :=
  (∀ a, (k0_off133 v1255) a + S1x160x4096.size a ≤ S8x512x4096.size a) ∧
  (∀ (hinb : ∀ a, (k0_off133 v1255) a + S1x160x4096.size a ≤ S8x512x4096.size a), (Rect.unit (s := S8x512x4096) (k0_off133 v1255) S1x160x4096.size hinb).WholeWords (EltTy.packing .bf16))
theorem k0_off133_inb : ∀ (v1255 : BitVec 32) (k0_hw108 : k0_chk108 v1255), ∀ a, (k0_off133 v1255) a + S1x160x4096.size a ≤ S8x512x4096.size a := fun v1255 k0_hw108 => k0_hw108.1
theorem k0_off133_wordsbf16 : ∀ (v1255 : BitVec 32) (k0_hw108 : k0_chk108 v1255), (Rect.unit (s := S8x512x4096) (k0_off133 v1255) S1x160x4096.size (k0_off133_inb v1255 k0_hw108)).WholeWords (EltTy.packing .bf16) := fun v1255 k0_hw108 => k0_hw108.2 (k0_off133_inb v1255 k0_hw108)

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3x3x4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3x3x4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Tables.lean ====
/-
  The hypercube's tables: who a device's neighbours are, whose block a device holds
  at each place of its list, the sites of the exchange, and the words and semaphores
  the kernel names them by.
-/
module

public import proofs.«01_k».proof.Proof.Gen.KernelIdeal.Skeleton
public import proofs.«01_k».proof.Proof.Gen.KernelIdeal.Regions

@[expose] public section

noncomputable section

namespace Cert.Hyper

open Idealize.ShloMosaic Idealize.ShloMosaic.TcCoe Idealize.SL.Sem
open Cert.KernelIdeal

/-! ## Neighbours and held blocks -/

/-- The neighbour of each device along each of the three dimensions of the cube. -/
def nbrTab : Fin 8 → Fin 3 → Fin 8 :=
  ![![1, 3, 4], ![0, 2, 5], ![3, 1, 6], ![2, 0, 7], ![5, 7, 0], ![4, 6, 1], ![7, 5, 2], ![6, 4, 3]]

/-- Device `c`'s neighbour along dimension `d`. -/
def nbr (c : Dev nD) (d : Fin 3) : Dev nD := nbrTab c d

/-- The device whose block band `t` of device `c`'s list has at place `h`: `c` moved along
    the band's `p`-th dimension for each bit `p` of `h`. -/
def held (c : Dev nD) (t : Fin 3) (h : Fin 8) : Dev nD :=
  let a := bif h.val.testBit 0 then nbr c t else c
  let b := bif h.val.testBit 1 then nbr a (t + 1) else a
  bif h.val.testBit 2 then nbr b (t + 2) else b

/-- The place at which band `t` of device `c`'s list has device `o`'s block. -/
def place (c : Dev nD) (t : Fin 3) (o : Dev nD) : Fin 8 :=
  bif held c t 0 == o then 0 else bif held c t 1 == o then 1 else bif held c t 2 == o then 2 else bif held c t 3 == o then 3
  else bif held c t 4 == o then 4 else bif held c t 5 == o then 5 else bif held c t 6 == o then 6 else 7

/-! ## Sites

A site is a band `t` and a number `k` below seven: `k = 2 ^ p - 1 + j` is the `j`-th
exchange of the band's phase `p`. The device sends place `j` of its list there and
receives place `k + 1`. -/

/-- A band and a number of an exchange in it. -/
abbrev Site : Type := Fin 3 × Fin 7

/-- The phase of a site. -/
def ph (k : Fin 7) : Fin 3 := (![0, 1, 1, 2, 2, 2, 2] : Fin 7 → Fin 3) k
/-- The place of the list that a site sends. -/
def jj (k : Fin 7) : Fin 8 := (![0, 0, 1, 0, 1, 2, 3] : Fin 7 → Fin 8) k
/-- The dimension along which a site exchanges. -/
def dim (i : Site) : Fin 3 := i.1 + ph i.2
/-- The device at the other end of a site. -/
def peer (c : Dev nD) (i : Site) : Dev nD := nbr c (dim i)

theorem nbr_nbr : ∀ (c : Dev nD) (d : Fin 3), nbr (nbr c d) d = c := by decide
theorem peer_peer (c : Dev nD) (i : Site) : peer (peer c i) i = c := nbr_nbr _ _

/-- What a site sends is what its other end receives there. -/
theorem held_peer : ∀ (c : Dev nD) (i : Site), held (peer c i) i.1 i.2.succ = held c i.1 (jj i.2) := by decide +kernel
theorem held_zero : ∀ (c : Dev nD) (t : Fin 3), held c t 0 = c := by decide
/-- A band's list names every device once. -/
theorem held_place : ∀ (c : Dev nD) (t : Fin 3) (o : Dev nD), held c t (place c t o) = o := by decide +kernel
theorem place_held : ∀ (c : Dev nD) (t : Fin 3) (h : Fin 8), place c t (held c t h) = h := by decide +kernel
theorem held_inj (c : Dev nD) (t : Fin 3) {h h' : Fin 8} (e : held c t h = held c t h') : h = h' := by
  rw [← place_held c t h, e, place_held]

/-- A band's list as an equivalence of places and devices. -/
def heldEquiv (c : Dev nD) (t : Fin 3) : Fin 8 ≃ Dev nD := ⟨held c t, place c t, place_held c t, held_place c t⟩
/-- The neighbours along one dimension as an equivalence of devices. -/
def nbrEquiv (d : Fin 3) : Dev nD ≃ Dev nD := ⟨fun c => nbr c d, fun c => nbr c d, fun c => nbr_nbr c d, fun c => nbr_nbr c d⟩

/-! ## Semaphores -/

/-- The barrier's semaphore. -/
abbrev barS : Sem sig := sig.barrier 0 rfl

/-- The number of a site's slot in the two arrays of exchange semaphores. -/
def slotNo (i : Site) : Nat := 12 * (ph i.2).val + 4 * i.1.val + (jj i.2).val
theorem slotNo_lt : ∀ i : Site, slotNo i < 36 := by decide

/-- The semaphore on which a site's sender waits for its copy to have left. -/
def sendS (i : Site) : DmaSem sig := ⟨4 + slotNo i, Nat.lt_of_lt_of_le (Nat.add_lt_add_left (slotNo_lt i) 4) (by decide)⟩
/-- The semaphore on which a site's receiver waits for the copy to have arrived. -/
def recvS (i : Site) : DmaSem sig := ⟨40 + slotNo i, Nat.lt_of_lt_of_le (Nat.add_lt_add_left (slotNo_lt i) 40) (by decide)⟩
/-- The semaphores of the two slots of the output's copies. -/
def outS (s : Fin 2) : DmaSem sig := ⟨76 + s.val, Nat.lt_of_lt_of_le (Nat.add_lt_add_left s.isLt 76) (by decide)⟩
/-- The semaphores of the two slots of the weight's copies. -/
def wgtS (s : Fin 2) : DmaSem sig := ⟨78 + s.val, Nat.lt_of_lt_of_le (Nat.add_lt_add_left s.isLt 78) (by decide)⟩

/-- What a semaphore is for. -/
inductive Use where
  | bar | send (i : Site) | recv (i : Site) | out (s : Fin 2) | wgt (s : Fin 2) | none
  deriving DecidableEq

/-- The site with slot number `n`, if there is one. -/
def siteOf (n : Nat) : Option Site :=
  let t : Fin 3 := ⟨n % 12 / 4, by omega⟩
  let j := n % 4
  if n / 12 = 0 then (if j = 0 then some (t, 0) else none)
  else if n / 12 = 1 then (if j = 0 then some (t, 1) else if j = 1 then some (t, 2) else none)
  else if n / 12 = 2 then some (t, ⟨3 + j, by omega⟩) else none

/-- What the DMA semaphore number `n` is for. -/
def useOf (n : Nat) : Use :=
  if n < 4 then .none
  else if n < 40 then (match siteOf (n - 4) with | some i => .send i | none => .none)
  else if n < 76 then (match siteOf (n - 40) with | some i => .recv i | none => .none)
  else if n < 78 then .out ⟨(n - 76) % 2, by omega⟩
  else .wgt ⟨(n - 78) % 2, by omega⟩

/-- What a semaphore of a core is for. -/
def use : SemLoc sig → Use
  | .reg s => if s = barS then .bar else .none
  | .dma s => useOf s.val

theorem use_bar : use (.reg barS) = .bar := by unfold use; exact if_pos rfl
theorem use_send : ∀ i : Site, use (.dma (sendS i)) = .send i := by decide +kernel
theorem use_recv : ∀ i : Site, use (.dma (recvS i)) = .recv i := by decide +kernel
theorem use_out : ∀ s : Fin 2, use (.dma (outS s)) = .out s := by decide
theorem use_wgt : ∀ s : Fin 2, use (.dma (wgtS s)) = .wgt s := by decide

/-! ## Bands -/

/-- The first row of a band. -/
def boff (t : Fin 3) : Nat := (![0, 176, 352] : Fin 3 → Nat) t
/-- The number of rows of a band. -/
def bw (t : Fin 3) : Nat := (![176, 176, 160] : Fin 3 → Nat) t

theorem boff_le : ∀ t : Fin 3, boff t + bw t ≤ 512 := by decide
theorem bw_le : ∀ t : Fin 3, bw t ≤ 176 := by decide

/-- A band of one block, a slice of the gathered blocks. -/
abbrev bShape3 (t : Fin 3) : Shape := ⟨3, ![1, bw t, 4096]⟩
/-- A band of one block. -/
abbrev bShape (t : Fin 3) : Shape := ⟨2, ![bw t, 4096]⟩
/-- A band of one block's product, a slice of the staging slots. -/
abbrev oShape3 (t : Fin 3) : Shape := ⟨3, ![1, bw t, 1024]⟩
/-- A band of one block's product. -/
abbrev oShape (t : Fin 3) : Shape := ⟨2, ![bw t, 1024]⟩

/-! ## Words -/

/-- The word a device's number is kept as, and the number the kernel computes from it. -/
theorem devWord : ∀ n : Fin 8, (Scalar.addi 0#32 (Scalar.muli (BitVec.ofNat 32 n.val) 1#32)).toNat = n.val := by decide
theorem toNat_word : ∀ n : Fin 8, (BitVec.ofNat 32 n.val).toNat = n.val := by decide

/-- A band of the block a word names lies in the gathered blocks, in whole words. -/
theorem chkPiece : ∀ (t : Fin 3) (n : Fin 8),
    (∀ a, (![(BitVec.ofNat 32 n.val).toNat, boff t, 0] : Fin 3 → Nat) a + (bShape3 t).size a ≤ S8x512x4096.size a) ∧
    (∀ (hinb : ∀ a, (![(BitVec.ofNat 32 n.val).toNat, boff t, 0] : Fin 3 → Nat) a + (bShape3 t).size a ≤ S8x512x4096.size a),
      (Rect.unit (s := S8x512x4096) ![(BitVec.ofNat 32 n.val).toNat, boff t, 0] (bShape3 t).size hinb).WholeWords (EltTy.packing .bf16)) := by
  decide +kernel

theorem chkDev (n : Fin 8) : (Scalar.addi 0#32 (Scalar.muli (BitVec.ofNat 32 n.val) 1#32)).toNat < nD := by
  rw [devWord]; exact n.isLt

end Cert.Hyper

end
-- ==== Proof.Views.lean ====
/-
  The buffers of the kernel, the rectangles it cuts them into, and what each
  holds: the gathered blocks, the chunks of the weight, the rounded weight and the result.
-/
module

public import proofs.«01_k».proof.Proof.Tables

@[expose] public section

noncomputable section

namespace Cert.Hyper

open Idealize.ShloMosaic Idealize.ShloMosaic.TcCoe Idealize.SL.Sem
open Cert.KernelIdeal Cert.KernelIdeal.Gen

variable {F : FTy → Type} [FloatOps F]

/-! ## The buffers -/

/-- The gathered blocks. -/
abbrev gM : Memref sig .tc .vmem S8x512x4096 .bf16 := Memref.whole cc0_scratch0
/-- The rounded weight. -/
abbrev wM : Memref sig .tc .vmem S4096x1024 .bf16 := Memref.whole cc0_scratch1
/-- The two slots for chunks of the weight. -/
abbrev tM : Memref sig .tc .vmem S2x1024x1024 .f32 := Memref.whole cc0_scratch2
/-- The two staging slots for products. -/
abbrev sM : Memref sig .tc .vmem S2x176x1024 .f32 := Memref.whole cc0_scratch3
/-- The weight in HBM. -/
abbrev hM : Memref sig .tc .hbm S4096x1024 .f32 := Memref.whole main_arg1
/-- The result in HBM. -/
abbrev oM : Memref sig .tc .hbm S4096x1024 .f32 := Memref.whole main_v41

/-! ## The rectangles -/

theorem piece_inb : ∀ (o : Fin 8) (t : Fin 3), ∀ a, (![o.val, boff t, 0] : Fin 3 → Nat) a + (bShape3 t).size a ≤ S8x512x4096.size a := by decide
theorem slab_inb : ∀ (o : Fin 8), ∀ a, (![o.val, 0, 0] : Fin 3 → Nat) a + S1x512x4096.size a ≤ S8x512x4096.size a := by decide
theorem rows_inb : ∀ (o : Fin 8) (t : Fin 3), ∀ a, (![512 * o.val + boff t, 0] : Fin 2 → Nat) a + (oShape t).size a ≤ S4096x1024.size a := by decide
theorem stage_inb : ∀ (s : Fin 2) (t : Fin 3), ∀ a, (![s.val, 0, 0] : Fin 3 → Nat) a + (oShape3 t).size a ≤ S2x176x1024.size a := by decide
theorem slot_inb : ∀ (s : Fin 2), ∀ a, (![s.val, 0, 0] : Fin 3 → Nat) a + S1x1024x1024.size a ≤ S2x1024x1024.size a := by decide
theorem chunk_inb : ∀ (q : Fin 4), ∀ a, (![1024 * q.val, 0] : Fin 2 → Nat) a + S1024x1024.size a ≤ S4096x1024.size a := by decide

/-- Band `t` of device `o`'s block in the gathered blocks. -/
abbrev pieceR (o : Dev nD) (t : Fin 3) : Rect S8x512x4096 := Rect.unit ![o.val, boff t, 0] (bShape3 t).size (piece_inb o t)
/-- Device `o`'s block in the gathered blocks. -/
abbrev slabR (o : Dev nD) : Rect S8x512x4096 := Rect.unit ![o.val, 0, 0] S1x512x4096.size (slab_inb o)
/-- The rows of the result for band `t` of device `o`'s block. -/
abbrev rowsR (o : Dev nD) (t : Fin 3) : Rect S4096x1024 := Rect.unit ![512 * o.val + boff t, 0] (oShape t).size (rows_inb o t)
/-- The first rows of staging slot `s`, as many as band `t` has. -/
abbrev stageR (s : Fin 2) (t : Fin 3) : Rect S2x176x1024 := Rect.unit ![s.val, 0, 0] (oShape3 t).size (stage_inb s t)
/-- Slot `s` for a chunk of the weight. -/
abbrev slotR (s : Fin 2) : Rect S2x1024x1024 := Rect.unit ![s.val, 0, 0] S1x1024x1024.size (slot_inb s)
/-- Chunk `q` of the weight's rows. -/
abbrev chunkR (q : Fin 4) : Rect S4096x1024 := Rect.unit ![1024 * q.val, 0] S1024x1024.size (chunk_inb q)

theorem sq_band : ∀ t : Fin 3, (bShape3 t).Squeezes (bShape t) := by decide
theorem sq_out : ∀ t : Fin 3, (oShape3 t).Squeezes (oShape t) := by decide
theorem sq_slot : S1x1024x1024.Squeezes S1024x1024 := by decide

theorem mem_piece {o : Dev nD} {t : Fin 3} {i : S8x512x4096.Idx} :
    i ∈ (pieceR o t).set ↔ i 0 = o ∧ boff t ≤ (i 1).val ∧ (i 1).val < boff t + bw t := by
  rw [Rect.mem_set_unit]
  constructor
  · intro h
    have h0 := h 0; have h1 := h 1
    exact ⟨Fin.ext (Nat.le_antisymm (Nat.lt_succ_iff.mp h0.2) h0.1), h1.1, h1.2⟩
  · rintro ⟨h0, h1, h2⟩ a
    have e0 : (i 0).val = o.val := congrArg Fin.val h0
    match a with
    | 0 => exact ⟨Nat.le_of_eq e0.symm, Nat.lt_succ_iff.mpr (Nat.le_of_eq e0)⟩
    | 1 => exact ⟨h1, h2⟩
    | 2 => exact ⟨Nat.zero_le _, by show (i 2).val < 0 + 4096; rw [Nat.zero_add]; exact (i 2).isLt⟩

theorem mem_slab {o : Dev nD} {i : S8x512x4096.Idx} : i ∈ (slabR o).set ↔ i 0 = o := by
  rw [Rect.mem_set_unit]
  constructor
  · intro h
    have h0 := h 0
    exact Fin.ext (Nat.le_antisymm (Nat.lt_succ_iff.mp h0.2) h0.1)
  · rintro h0 a
    have e0 : (i 0).val = o.val := congrArg Fin.val h0
    match a with
    | 0 => exact ⟨Nat.le_of_eq e0.symm, Nat.lt_succ_iff.mpr (Nat.le_of_eq e0)⟩
    | 1 => exact ⟨Nat.zero_le _, by show (i 1).val < 0 + 512; rw [Nat.zero_add]; exact (i 1).isLt⟩
    | 2 => exact ⟨Nat.zero_le _, by show (i 2).val < 0 + 4096; rw [Nat.zero_add]; exact (i 2).isLt⟩

theorem mem_rows {o : Dev nD} {t : Fin 3} {i : S4096x1024.Idx} :
    i ∈ (rowsR o t).set ↔ 512 * o.val + boff t ≤ (i 0).val ∧ (i 0).val < 512 * o.val + boff t + bw t := by
  rw [Rect.mem_set_unit]
  constructor
  · intro h; exact h 0
  · rintro h a
    match a with
    | 0 => exact h
    | 1 => exact ⟨Nat.zero_le _, by show (i 1).val < 0 + 1024; rw [Nat.zero_add]; exact (i 1).isLt⟩

theorem mem_stage {s : Fin 2} {t : Fin 3} {i : S2x176x1024.Idx} : i ∈ (stageR s t).set ↔ i 0 = s ∧ (i 1).val < bw t := by
  rw [Rect.mem_set_unit]
  constructor
  · intro h
    have h0 := h 0; have h1 := h 1
    exact ⟨Fin.ext (Nat.le_antisymm (Nat.lt_succ_iff.mp h0.2) h0.1), Nat.lt_of_lt_of_eq h1.2 (Nat.zero_add _)⟩
  · rintro ⟨h0, h1⟩ a
    have e0 : (i 0).val = s.val := congrArg Fin.val h0
    match a with
    | 0 => exact ⟨Nat.le_of_eq e0.symm, Nat.lt_succ_iff.mpr (Nat.le_of_eq e0)⟩
    | 1 => exact ⟨Nat.zero_le _, Nat.lt_of_lt_of_eq h1 (Nat.zero_add _).symm⟩
    | 2 => exact ⟨Nat.zero_le _, by show (i 2).val < 0 + 1024; rw [Nat.zero_add]; exact (i 2).isLt⟩

theorem mem_slot {s : Fin 2} {i : S2x1024x1024.Idx} : i ∈ (slotR s).set ↔ i 0 = s := by
  rw [Rect.mem_set_unit]
  constructor
  · intro h
    have h0 := h 0
    exact Fin.ext (Nat.le_antisymm (Nat.lt_succ_iff.mp h0.2) h0.1)
  · rintro h0 a
    have e0 : (i 0).val = s.val := congrArg Fin.val h0
    match a with
    | 0 => exact ⟨Nat.le_of_eq e0.symm, Nat.lt_succ_iff.mpr (Nat.le_of_eq e0)⟩
    | 1 => exact ⟨Nat.zero_le _, by show (i 1).val < 0 + 1024; rw [Nat.zero_add]; exact (i 1).isLt⟩
    | 2 => exact ⟨Nat.zero_le _, by show (i 2).val < 0 + 1024; rw [Nat.zero_add]; exact (i 2).isLt⟩

theorem mem_chunk {q : Fin 4} {i : S4096x1024.Idx} : i ∈ (chunkR q).set ↔ 1024 * q.val ≤ (i 0).val ∧ (i 0).val < 1024 * q.val + 1024 := by
  rw [Rect.mem_set_unit]
  constructor
  · intro h; exact h 0
  · rintro h a
    match a with
    | 0 => exact h
    | 1 => exact ⟨Nat.zero_le _, by show (i 1).val < 0 + 1024; rw [Nat.zero_add]; exact (i 1).isLt⟩

/-! ## What the buffers hold -/

/-- Every device's rows of the left factor and columns of the right one. -/
structure Data (F : FTy → Type) where
  /-- The rows of the left factor that a device has. -/
  x : Dev nD → Vec F S512x4096 .f32
  /-- The columns of the right factor that a device has. -/
  w : Dev nD → Vec F S4096x1024 .f32

variable (D : Data F)

/-- The gathered blocks: block `o` is device `o`'s rows, rounded. -/
def gC : Vec F S8x512x4096 .bf16 := fun i =>
  k0_pay1 (D.x (i 0)) (fun | 0 => ⟨0, Nat.one_pos⟩ | 1 => i 1 | 2 => i 2)

/-- Rows `1024 q` and on of a device's weight, in every slot for chunks. -/
def tC (c : Dev nD) (q : Fin 4) : Vec F S2x1024x1024 .f32 := fun i =>
  D.w c (fun | 0 => ⟨1024 * q.val + (i 1).val, by have h : (i 1).val < 1024 := (i 1).isLt; have := q.isLt; show _ < 4096; omega⟩ | 1 => i 2)

/-- A chunk of the weight as it is loaded from its slot. -/
def chunkC (c : Dev nD) (q : Fin 4) : Vec F S1x1024x1024 .f32 := fun j => tC D c q (fun | 0 => ⟨0, Nat.two_pos⟩ | 1 => j 1 | 2 => j 2)

/-- The rounded weight. -/
def wC (c : Dev nD) : Vec F S4096x1024 .bf16 := fun i =>
  k0_pay2 (chunkC D c ⟨(i 0).val / 1024, by have h : (i 0).val < 4096 := (i 0).isLt; omega⟩)
    (fun | 0 => ⟨(i 0).val % 1024, Nat.mod_lt _ (by decide)⟩ | 1 => i 1)

/-- Band `t` of block `o` of the gathered blocks, as it is loaded. -/
def bandC (o : Dev nD) (t : Fin 3) : Vec F (bShape3 t) .bf16 := (gM.access (pieceR o t)).read (Elt F) (gC D)

/-- The product of a band of a block by the rounded weight, cut off at zero. -/
def prodP : (t : Fin 3) → Vec F (bShape3 t) .bf16 → Vec F S4096x1024 .bf16 → FVec F (oShape3 t) .f32
  | 0 => k0_pay8
  | 1 => k0_pay8
  | 2 => k0_pay9

/-- The band that a row of a block lies in. -/
def bandOf (r : Nat) : Fin 3 := if r < 176 then 0 else if r < 352 then 1 else 2

theorem bandOf_spec (r : Nat) (h : r < 512) : boff (bandOf r) ≤ r ∧ r < boff (bandOf r) + bw (bandOf r) := by
  unfold bandOf
  split
  · exact ⟨Nat.zero_le _, by show r < 0 + 176; omega⟩
  · split
    · exact ⟨by show 176 ≤ r; omega, by show r < 176 + 176; omega⟩
    · exact ⟨by show 352 ≤ r; omega, by show r < 352 + 160; omega⟩

theorem bandOf_eq : ∀ (t : Fin 3) (r : Nat), boff t ≤ r → r < boff t + bw t → bandOf r = t
  | 0, r, _, h2 => if_pos (by change r < 0 + 176 at h2; omega)
  | 1, r, h1, h2 => by
    change 176 ≤ r at h1; change r < 176 + 176 at h2
    unfold bandOf; rw [if_neg (by omega), if_pos (by omega)]
  | 2, r, h1, _ => by
    change 352 ≤ r at h1
    unfold bandOf; rw [if_neg (by omega), if_neg (by omega)]

/-- A device's result: row `r` of block `o` is that row of the product of the row's band. -/
def oC (c : Dev nD) : Vec F S4096x1024 .f32 := fun i =>
  prodP (bandOf ((i 0).val % 512)) (bandC D ⟨(i 0).val / 512, by have h : (i 0).val < 4096 := (i 0).isLt; show _ < 8; omega⟩ (bandOf ((i 0).val % 512))) (wC D c)
    (fun
      | 0 => ⟨0, Nat.one_pos⟩
      | 1 => ⟨(i 0).val % 512 - boff (bandOf ((i 0).val % 512)), by
          have h := bandOf_spec ((i 0).val % 512) (Nat.mod_lt _ (by decide))
          show _ < bw (bandOf ((i 0).val % 512)); omega⟩
      | 2 => i 1)

/-! ## Writing and reading -/

/-- A view written with what another content has under it agrees with that content on the view's set. -/
theorem write_on {sp : Space} {s : Shape} {e : EltTy} (v : View sig .tc sp s e) (f g : v.ty.Contents (Elt F)) (w : s.Idx → Elt F e)
    (h : ∀ x, v.read (Elt F) g x = w x) : ∀ i ∈ v.set, v.write (Elt F) f w Finset.univ i = g i := by
  intro i hi
  obtain ⟨x, -, rfl⟩ := Finset.mem_map.mp hi
  rw [View.write_emb_of_mem _ _ (Finset.mem_univ x), ← h x, View.read_apply, cast_cast, cast_eq]

/-- The index with a leading zero is where a squeezed index comes from. -/
theorem unsqueeze {a b : Nat} (h : (⟨2, ![a, b]⟩ : Shape).numel = (⟨3, ![1, a, b]⟩ : Shape).numel) (x : (⟨2, ![a, b]⟩ : Shape).Idx)
    (y : (⟨3, ![1, a, b]⟩ : Shape).Idx) (h1 : (y 1).val = (x 0).val) (h2 : (y 2).val = (x 1).val) :
    Shape.reshapeEquiv h x = y := by
  refine Shape.reshapeEquiv_eq_of_rowMajor h ?_
  rw [Shape.rowMajor_val_two, Shape.rowMajor_val_three]
  have h0 : (y 0).val = 0 := Nat.lt_one_iff.mp (y 0).isLt
  rw [h0, h1, h2]
  simp

theorem gC_slab (o : Dev nD) : ∀ x, (gM.access (slabR o)).read (Elt F) (gC D) x = k0_pay1 (D.x o) x := by
  intro x
  show gC D ((slabR o).emb x) = _
  unfold gC
  have h0 : (x 0).val = 0 := Nat.lt_one_iff.mp (x 0).isLt
  have e : (slabR o).emb x 0 = o := Fin.ext (by show o.val + 1 * (x 0).val = o.val; omega)
  rw [e]
  refine congrArg _ (funext fun a => ?_)
  match a with
  | 0 => exact Fin.ext h0.symm
  | 1 => exact Fin.ext (by show 0 + 1 * (x 1).val = _; omega)
  | 2 => exact Fin.ext (by show 0 + 1 * (x 2).val = _; omega)

/-- A chunk's slot holds what the chunk's copy brings. -/
theorem tC_copy (c : Dev nD) (s : Fin 2) (q : Fin 4) : ∀ x,
    (((tM.slice (slotR s) (fun _ => rfl)).squeeze S1024x1024 sq_slot).view.read (Elt F) (tC D c q) x : Elt F .f32)
      = (hM.slice (chunkR q) (fun _ => rfl)).view.read (Elt F) (D.w c) x := by
  intro x
  show tC D c q ((slotR s).emb (Shape.reshapeEquiv _ x)) = D.w c ((chunkR q).emb x)
  rw [unsqueeze _ x (fun | 0 => ⟨0, Nat.one_pos⟩ | 1 => x 0 | 2 => x 1) rfl rfl]
  unfold tC
  refine congrArg _ (funext fun a => ?_)
  match a with
  | 0 => exact Fin.ext (by show 1024 * q.val + (0 + 1 * (x 0).val) = 1024 * q.val + 1 * (x 0).val; omega)
  | 1 => exact Fin.ext (by show 0 + 1 * (x 1).val = 0 + 1 * (x 1).val; rfl)

theorem tC_load (c : Dev nD) (s : Fin 2) (q : Fin 4) : (tM.access (slotR s)).read (Elt F) (tC D c q) = chunkC D c q := by
  funext x
  show tC D c q ((slotR s).emb x) = _
  unfold chunkC tC
  refine congrArg _ (funext fun a => ?_)
  match a with
  | 0 => exact Fin.ext (by show 1024 * q.val + (0 + 1 * (x 1).val) = 1024 * q.val + (x 1).val; omega)
  | 1 => exact Fin.ext (by show 0 + 1 * (x 2).val = (x 2).val; omega)

/-- The rounded weight has its chunks where they are stored. -/
theorem wC_chunk (c : Dev nD) (q : Fin 4) : ∀ x, (wM.access (chunkR q)).read (Elt F) (wC D c) x = k0_pay2 (chunkC D c q) x := by
  intro x
  show wC D c ((chunkR q).emb x) = _
  have hx : (x 0).val < 1024 := (x 0).isLt
  have e : ((chunkR q).emb x 0).val = 1024 * q.val + (x 0).val := by show 1024 * q.val + 1 * (x 0).val = _; omega
  unfold wC
  have eq : (⟨((chunkR q).emb x 0).val / 1024, by have h : ((chunkR q).emb x 0).val < 4096 := ((chunkR q).emb x 0).isLt; omega⟩ : Fin 4) = q :=
    Fin.ext (by show ((chunkR q).emb x 0).val / 1024 = q.val; rw [e]; omega)
  rw [eq]
  refine congrArg _ (funext fun a => ?_)
  match a with
  | 0 => exact Fin.ext (by show ((chunkR q).emb x 0).val % 1024 = (x 0).val; rw [e]; omega)
  | 1 => exact Fin.ext (by show 0 + 1 * (x 1).val = (x 1).val; omega)

/-- The result has in a band's rows what is staged for that band. -/
theorem oC_rows (c : Dev nD) (o : Dev nD) (t : Fin 3) (y : (oShape3 t).Idx) (x : (oShape t).Idx)
    (h1 : (y 1).val = (x 0).val) (h2 : (y 2).val = (x 1).val) :
    (oM.slice (rowsR o t) (fun _ => rfl)).view.read (Elt F) (oC D c) x = prodP t (bandC D o t) (wC D c) y := by
  show oC D c ((rowsR o t).emb x) = _
  have hx : (x 0).val < bw t := (x 0).isLt
  have hb := boff_le t
  have e : ((rowsR o t).emb x 0).val = 512 * o.val + boff t + (x 0).val := by show 512 * o.val + boff t + 1 * (x 0).val = _; omega
  have em : ((rowsR o t).emb x 0).val % 512 = boff t + (x 0).val := by rw [e]; omega
  have eb : bandOf (((rowsR o t).emb x 0).val % 512) = t := by rw [em]; exact bandOf_eq t _ (by omega) (by omega)
  have ed : ((rowsR o t).emb x 0).val / 512 = o.val := by rw [e]; omega
  have h0 : (y 0).val = 0 := Nat.lt_one_iff.mp (y 0).isLt
  unfold oC
  generalize hi : (rowsR o t).emb x = i at *
  generalize_proofs p1 p2 p3 p4
  revert p3
  generalize hbt : bandOf ((i 0).val % 512) = u at *
  subst eb
  intro p3
  have eo : (⟨(i 0).val / 512, p1⟩ : Dev nD) = o := Fin.ext ed
  rw [eo]
  refine congrArg _ (funext fun a => ?_)
  match a with
  | 0 => exact Fin.ext h0.symm
  | 1 => exact Fin.ext (by show (i 0).val % 512 - boff u = (y 1).val; rw [em, h1]; omega)
  | 2 =>
    refine Fin.ext ?_
    show (i 1).val = (y 2).val
    rw [← hi, h2]
    show 0 + 1 * (x 1).val = _
    omega

end Cert.Hyper

end
-- ==== Proof.Sched.lean ====
/-
  The protocol: which semaphore of a device is raised how often and by how much,
  what ownership each raise hands over, the order in which semaphores may be waited for,
  and what a device owes its neighbours.
-/
module

public import proofs.«01_k».proof.Proof.Views
public import proofs.«01_k».proof.Proof.Gen.KernelIdeal.Points
public import Idealize.ShloMosaic.Lib.Rounds
public import Idealize.ShloMosaic.Lib.Rounds.Family
public import Idealize.ShloMosaic.Lib.Tactic
public import Idealize.ShloMosaic.Lib.Pipeline.RegionTalk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state: one copy for the launch of the windows, one for the exchange. -/
abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

/-! ## Semaphores of one device -/

abbrev barC (c : Dev nD) : GSem nD τ sig := ((c : Thread nD τ), .reg barS)
abbrev sendC (c : Dev nD) (i : Site) : GSem nD τ sig := ((c : Thread nD τ), .dma (sendS i))
abbrev recvC (c : Dev nD) (i : Site) : GSem nD τ sig := ((c : Thread nD τ), .dma (recvS i))
abbrev outC (c : Dev nD) (s : Fin 2) : GSem nD τ sig := ((c : Thread nD τ), .dma (outS s))
abbrev wgtC (c : Dev nD) (s : Fin 2) : GSem nD τ sig := ((c : Thread nD τ), .dma (wgtS s))

/-! ## The slices that are copied, and their amounts -/

abbrev pieceM (o : Dev nD) (t : Fin 3) : Memref sig .tc .vmem (bShape t) .bf16 :=
  (gM.slice (pieceR o t) (fun _ => rfl)).squeeze (bShape t) (sq_band t)
abbrev outM (o : Dev nD) (t : Fin 3) : Memref sig .tc .hbm (oShape t) .f32 := oM.slice (rowsR o t) (fun _ => rfl)
abbrev stageM (s : Fin 2) (t : Fin 3) : Memref sig .tc .vmem (oShape t) .f32 :=
  (sM.slice (stageR s t) (fun _ => rfl)).squeeze (oShape t) (sq_out t)
abbrev slotM (s : Fin 2) : Memref sig .tc .vmem S1024x1024 .f32 := (tM.slice (slotR s) (fun _ => rfl)).squeeze S1024x1024 sq_slot
abbrev chunkM (q : Fin 4) : Memref sig .tc .hbm S1024x1024 .f32 := hM.slice (chunkR q) (fun _ => rfl)

/-- The amount of a band's copy between devices. -/
abbrev NB (t : Fin 3) : ℕ := (pieceM 0 t).view.dmaCredit
/-- The amount of a band's copy into the result. -/
abbrev NO (t : Fin 3) : ℕ := (outM 0 t).view.dmaCredit
/-- The amount of a chunk's copy. -/
abbrev NW : ℕ := (slotM 0).view.dmaCredit

theorem NB_pos (t : Fin 3) : 0 < NB t := View.dmaCredit_pos _ (by revert t; decide)
theorem NO_pos (t : Fin 3) : 0 < NO t := View.dmaCredit_pos _ (by revert t; decide)
theorem NW_pos : 0 < NW := View.dmaCredit_pos _ (by decide)

/-- Band and place of the `n`-th product. -/
def em (n : ℕ) : Fin 3 × Fin 8 :=
  if n < 3 then (⟨n % 3, by omega⟩, 0)
  else if n < 6 then (⟨n % 3, by omega⟩, 1)
  else if n < 12 then (⟨(n - 6) / 2 % 3, by omega⟩, ⟨2 + (n - 6) % 2, by omega⟩)
  else (⟨(n - 12) % 3, by omega⟩, ⟨4 + (n - 12) / 3 % 4, by omega⟩)

/-- The number of the product of a band and a place. -/
def emNo (y : Fin 3 × Fin 8) : ℕ :=
  if y.2.val = 0 then y.1.val
  else if y.2.val = 1 then 3 + y.1.val
  else if y.2.val < 4 then 6 + 2 * y.1.val + (y.2.val - 2)
  else 12 + 3 * (y.2.val - 4) + y.1.val

theorem em_emNo : ∀ y, em (emNo y) = y := by decide
theorem emNo_em : ∀ n, n < 24 → emNo (em n) = n := by decide
theorem emNo_lt : ∀ y, emNo y < 24 := by decide

/-! ## Ownership of parts of the buffers -/

section Own
variable (c : Dev nD)

abbrev gPt (S : Finset S8x512x4096.Idx) (q : PosShare TreeShare) (f : Vec F S8x512x4096 .bf16) : sProp 𝕄 := gM.view.loc (c : Thread nD τ) ↦[S]{q} f
abbrev wPt (S : Finset S4096x1024.Idx) (q : PosShare TreeShare) (f : Vec F S4096x1024 .bf16) : sProp 𝕄 := wM.view.loc (c : Thread nD τ) ↦[S]{q} f
abbrev tPt (S : Finset S2x1024x1024.Idx) (q : PosShare TreeShare) (f : Vec F S2x1024x1024 .f32) : sProp 𝕄 := tM.view.loc (c : Thread nD τ) ↦[S]{q} f
abbrev sPt (S : Finset S2x176x1024.Idx) (q : PosShare TreeShare) (f : Vec F S2x176x1024 .f32) : sProp 𝕄 := sM.view.loc (c : Thread nD τ) ↦[S]{q} f
abbrev hPt (S : Finset S4096x1024.Idx) (q : PosShare TreeShare) (f : Vec F S4096x1024 .f32) : sProp 𝕄 := hM.view.loc (c : Thread nD τ) ↦[S]{q} f
abbrev oPt (S : Finset S4096x1024.Idx) (q : PosShare TreeShare) (f : Vec F S4096x1024 .f32) : sProp 𝕄 := oM.view.loc (c : Thread nD τ) ↦[S]{q} f
end Own

/-- The share of a piece that goes with its copy in each phase. -/
def shS (p : Fin 3) : PosShare TreeShare :=
  match p with
  | 0 => (fullShare).left.left.right
  | 1 => (fullShare).left.right
  | 2 => (fullShare).right
/-- The share of a piece that stays, by the piece's place in the list. -/
def shR (h : Fin 8) : PosShare TreeShare :=
  if h = 0 then (fullShare).left.left.left else if h = 1 then (fullShare).left.left else if h.val < 4 then (fullShare).left else fullShare

/-! ## The schedule -/

variable (D : Data F)

/-- What device `e` lends its neighbour for site `i`: the piece the copy writes, and that its receive semaphore is new. -/
def lend (e : Dev nD) (i : Site) : sProp 𝕄 :=
  iprop((∃ f, gPt e (pieceR (held e i.1 i.2.succ) i.1).set fullShare f) ∗ reached ER (recvC e i) 0)

def barPay (c : Dev nD) (d : Fin 3) : sProp 𝕄 := bigSep Finset.univ fun i : Site => if dim i = d then lend (nbr c d) i else iprop(emp)
def sendPay (c : Dev nD) (i : Site) : sProp 𝕄 := gPt c (pieceR (held c i.1 (jj i.2)) i.1).set (shS (ph i.2)) (gC D)
def recvPay (c : Dev nD) (i : Site) : sProp 𝕄 := gPt c (pieceR (held c i.1 i.2.succ) i.1).set fullShare (gC D)
def outPay (c : Dev nD) (s : Fin 2) (y : Fin 3 × Fin 8) : sProp 𝕄 :=
  iprop(oPt c (rowsR (held c y.1 y.2) y.1).set fullShare (oC D c) ∗ ∃ f, sPt c (stageR s y.1).set fullShare f)
def chunkNo (s : Fin 2) (r : ℕ) : Fin 4 := ⟨(2 * r + s.val) % 4, Nat.mod_lt _ (by decide)⟩
def wgtPay (c : Dev nD) (s : Fin 2) (q : Fin 4) : sProp 𝕄 :=
  iprop(tPt c (slotR s).set fullShare (tC D c q) ∗ hPt c (chunkR q).set fullShare (D.w c))

/-- The raises of a semaphore in round `r`, by its use. -/
def dutiesOf (u : Use) (r : ℕ) : Finset (Fin 3) :=
  match u with
  | .bar => if r = 0 then Finset.univ else ∅
  | .send _ => if r = 0 then {0} else ∅
  | .recv _ => if r = 0 then {0} else ∅
  | .out _ => if r < 12 then {0} else ∅
  | .wgt _ => if r < 2 then {0} else ∅
  | .none => ∅
/-- The amount of each raise, by the semaphore's use. -/
def amountOf' (u : Use) (r : ℕ) : ℕ :=
  match u with
  | .bar => 1
  | .send i => NB i.1
  | .recv i => NB i.1
  | .out s => NO (em (2 * r + s.val)).1
  | .wgt _ => NW
  | .none => 1
/-- What each raise hands over, by the semaphore's use. -/
def payOf (c : Dev nD) (u : Use) (r : ℕ) (d : Fin 3) : sProp 𝕄 :=
  match u with
  | .bar => barPay c d
  | .send i => sendPay D c i
  | .recv i => recvPay D c i
  | .out s => outPay D c s (em (2 * r + s.val))
  | .wgt s => wgtPay D c s (chunkNo s r)
  | .none => iprop(emp)
/-- The number of rounds of a semaphore, by its use. -/
def rounds (u : Use) : ℕ :=
  match u with
  | .bar => 1 | .send _ => 1 | .recv _ => 1 | .out _ => 12 | .wgt _ => 2 | .none => 0

theorem amountOf'_pos (u : Use) (r : ℕ) : 0 < amountOf' u r := by
  unfold amountOf'
  split
  · exact Nat.one_pos
  · exact NB_pos _
  · exact NB_pos _
  · exact NO_pos _
  · exact NW_pos
  · exact Nat.one_pos

/-- The exchange's schedule. -/
def Rd : Rounds.Schedule (GSem nD τ sig) (Fin 3) 𝕄 where
  duties g r := if g.1.2 = .tc then dutiesOf (use g.2) r else ∅
  unitless _ := False
  amount g r _ := amountOf' (use g.2) r
  payload g r d := payOf D g.1.1 (use g.2) r d
  amount_pos g r _ _ := amountOf'_pos _ _

instance lend_storable (e : Dev nD) (i : Site) : BI.Storable (upEmb : UEmb _ 𝕄) (lend e i) := by unfold lend; infer_instance
instance sendPay_storable (c : Dev nD) (i : Site) : BI.Storable (upEmb : UEmb _ 𝕄) (sendPay D c i) := by unfold sendPay; infer_instance
instance recvPay_storable (c : Dev nD) (i : Site) : BI.Storable (upEmb : UEmb _ 𝕄) (recvPay D c i) := by unfold recvPay; infer_instance
instance outPay_storable (c : Dev nD) (s : Fin 2) (y : Fin 3 × Fin 8) : BI.Storable (upEmb : UEmb _ 𝕄) (outPay D c s y) := by unfold outPay; infer_instance
instance wgtPay_storable (c : Dev nD) (s : Fin 2) (q : Fin 4) : BI.Storable (upEmb : UEmb _ 𝕄) (wgtPay D c s q) := by unfold wgtPay; infer_instance
instance ite_storable (p : Prop) [Decidable p] (X Y : sProp 𝕄) [BI.Storable (upEmb : UEmb _ 𝕄) X] [BI.Storable (upEmb : UEmb _ 𝕄) Y] :
    BI.Storable (upEmb : UEmb _ 𝕄) (if p then X else Y) := by split <;> infer_instance
instance barPay_storable (c : Dev nD) (d : Fin 3) : BI.Storable (upEmb : UEmb _ 𝕄) (barPay c d : sProp 𝕄) := by unfold barPay; infer_instance
instance Rd_storable (g : GSem nD τ sig) (r : ℕ) (d : Fin 3) : BI.Storable (upEmb : UEmb _ 𝕄) ((Rd D).payload g r d) := by
  show BI.Storable upEmb (payOf D g.1.1 (use g.2) r d)
  unfold payOf
  split <;> infer_instance

section Facts
variable (c : Dev nD)

/-- Past its rounds a semaphore is never raised. -/
theorem duties_later (g : GSem nD τ sig) (r : ℕ) (h : rounds (use g.2) ≤ r) : (Rd D).duties g r = ∅ := by
  show (if g.1.2 = .tc then dutiesOf (use g.2) r else ∅) = ∅
  split
  · revert h; generalize use g.2 = u
    intro h
    cases u <;> simp only [rounds, dutiesOf] at h ⊢
    all_goals first | rfl | exact if_neg (by omega)
  · rfl

theorem duties_eq (sm : SemLoc sig) (r : ℕ) : (Rd D).duties ((c : Thread nD τ), sm) r = dutiesOf (use sm) r := by dsimp only [Rd]; exact if_pos rfl
theorem amount_eq (sm : SemLoc sig) (r : ℕ) (d : Fin 3) : (Rd D).amount ((c : Thread nD τ), sm) r d = amountOf' (use sm) r := rfl
theorem payload_eq (sm : SemLoc sig) (r : ℕ) (d : Fin 3) : (Rd D).payload ((c : Thread nD τ), sm) r d = payOf D c (use sm) r d := rfl

theorem duties_bar : (Rd D).duties (barC c) 0 = Finset.univ := by rw [duties_eq, use_bar]; rfl
theorem duties_send (i : Site) : (Rd D).duties (sendC c i) 0 = {0} := by rw [duties_eq, use_send]; rfl
theorem duties_recv (i : Site) : (Rd D).duties (recvC c i) 0 = {0} := by rw [duties_eq, use_recv]; rfl
theorem duties_out (s : Fin 2) {r : ℕ} (h : r < 12) : (Rd D).duties (outC c s) r = {0} := by rw [duties_eq, use_out]; exact if_pos h
theorem duties_wgt (s : Fin 2) {r : ℕ} (h : r < 2) : (Rd D).duties (wgtC c s) r = {0} := by rw [duties_eq, use_wgt]; exact if_pos h

theorem amount_bar (d : Fin 3) : (Rd D).amount (barC c) 0 d = 1 := by rw [amount_eq, use_bar]; rfl
theorem amount_send (i : Site) (d : Fin 3) : (Rd D).amount (sendC c i) 0 d = NB i.1 := by rw [amount_eq, use_send]; rfl
theorem amount_recv (i : Site) (d : Fin 3) : (Rd D).amount (recvC c i) 0 d = NB i.1 := by rw [amount_eq, use_recv]; rfl
theorem amount_out (s : Fin 2) (r : ℕ) (d : Fin 3) : (Rd D).amount (outC c s) r d = NO (em (2 * r + s.val)).1 := by rw [amount_eq, use_out]; rfl
theorem amount_wgt (s : Fin 2) (r : ℕ) (d : Fin 3) : (Rd D).amount (wgtC c s) r d = NW := by rw [amount_eq, use_wgt]; rfl

theorem payload_bar (d : Fin 3) : (Rd D).payload (barC c) 0 d = barPay c d := by rw [payload_eq, use_bar]; rfl
theorem payload_send (i : Site) (d : Fin 3) : (Rd D).payload (sendC c i) 0 d = sendPay D c i := by rw [payload_eq, use_send]; rfl
theorem payload_recv (i : Site) (d : Fin 3) : (Rd D).payload (recvC c i) 0 d = recvPay D c i := by rw [payload_eq, use_recv]; rfl
theorem payload_out (s : Fin 2) (r : ℕ) (d : Fin 3) : (Rd D).payload (outC c s) r d = outPay D c s (em (2 * r + s.val)) := by
  rw [payload_eq, use_out]; rfl
theorem payload_wgt (s : Fin 2) (r : ℕ) (d : Fin 3) : (Rd D).payload (wgtC c s) r d = wgtPay D c s (chunkNo s r) := by
  rw [payload_eq, use_wgt]; rfl

theorem expect_bar : (Rd D).expect (barC c) 0 = 3 := by
  unfold Schedule.expect Schedule.amountOf; rw [duties_bar, Finset.sum_congr rfl (fun d _ => amount_bar D c d)]; rfl
theorem expect_send (i : Site) : (Rd D).expect (sendC c i) 0 = NB i.1 := by
  unfold Schedule.expect Schedule.amountOf; rw [duties_send, Finset.sum_singleton, amount_send]
theorem expect_recv (i : Site) : (Rd D).expect (recvC c i) 0 = NB i.1 := by
  unfold Schedule.expect Schedule.amountOf; rw [duties_recv, Finset.sum_singleton, amount_recv]
theorem expect_out (s : Fin 2) {r : ℕ} (h : r < 12) : (Rd D).expect (outC c s) r = NO (em (2 * r + s.val)).1 := by
  unfold Schedule.expect Schedule.amountOf; rw [duties_out D c s h, Finset.sum_singleton, amount_out]
theorem expect_wgt (s : Fin 2) {r : ℕ} (h : r < 2) : (Rd D).expect (wgtC c s) r = NW := by
  unfold Schedule.expect Schedule.amountOf; rw [duties_wgt D c s h, Finset.sum_singleton, amount_wgt]

theorem rest_bar : bigSep ((Rd D).duties (barC c) 0 \ ∅) (fun u => (Rd D).payload (barC c) 0 u) = bigSep Finset.univ fun d => barPay c d := by
  rw [Finset.sdiff_empty, duties_bar]; exact bigSep_congr fun d _ => payload_bar D c d
theorem rest_send (i : Site) : bigSep ((Rd D).duties (sendC c i) 0 \ ∅) (fun u => (Rd D).payload (sendC c i) 0 u) = sendPay D c i := by
  rw [Finset.sdiff_empty, duties_send, bigSep_singleton, payload_send]
theorem rest_recv (i : Site) : bigSep ((Rd D).duties (recvC c i) 0 \ ∅) (fun u => (Rd D).payload (recvC c i) 0 u) = recvPay D c i := by
  rw [Finset.sdiff_empty, duties_recv, bigSep_singleton, payload_recv]
theorem rest_out (s : Fin 2) {r : ℕ} (h : r < 12) :
    bigSep ((Rd D).duties (outC c s) r \ ∅) (fun u => (Rd D).payload (outC c s) r u) = outPay D c s (em (2 * r + s.val)) := by
  rw [Finset.sdiff_empty, duties_out D c s h, bigSep_singleton, payload_out]
theorem rest_wgt (s : Fin 2) {r : ℕ} (h : r < 2) :
    bigSep ((Rd D).duties (wgtC c s) r \ ∅) (fun u => (Rd D).payload (wgtC c s) r u) = wgtPay D c s (chunkNo s r) := by
  rw [Finset.sdiff_empty, duties_wgt D c s h, bigSep_singleton, payload_wgt]
end Facts

/-! ## What is owed, and the order of waits -/

/-- The copies device `c` still owes its neighbours once the sites `S` are sent. -/
def owed (S : Finset Site) (c : Dev nD) : CellTallies nD τ sig Unit :=
  ∑ i : Site, if i ∈ S then 0 else tallyAt (recvC (peer c i) i) () (NB i.1)

/-- What device `c` owes from the start: every copy, and one unit to each neighbour's barrier. -/
def O₀ (c : Dev nD) : CellTallies nD τ sig Unit :=
  owed ∅ c + tallyAt (barC (nbr c 2)) () 1 + tallyAt (barC (nbr c 1)) () 1 + tallyAt (barC (nbr c 0)) () 1

def L (g : GSem nD τ sig) : Finset Unit := if g.1.2 = .tc then {()} else ∅
/-- The level of a semaphore, by its use. -/
def levelOf (u : Use) : ℕ :=
  match u with
  | .bar => 1 | .recv i => 2 + (ph i.2).val | .send _ => 0 | .out _ => 0 | .wgt _ => 0 | .none => 0
/-- The barrier is at level one, the receive semaphores of phase `p` at level `2 + p`, all others at zero. -/
def lv (g : GSem nD τ sig) (_ : Unit) : ℕ := levelOf (use g.2)

theorem L_of_ne (g : GSem nD τ sig) (h : g.1.2 ≠ .tc) : L g = ∅ := if_neg h
theorem L_tc (c : Dev nD) (sm : SemLoc sig) : L ((c : Thread nD τ), sm) = {()} := if_pos rfl

/-- Sending one more site takes its copy off what is owed. -/
theorem owed_insert (S : Finset Site) (i : Site) (h : i ∉ S) (c : Dev nD) :
    owed S c = owed (insert i S) c + tallyAt (recvC (peer c i) i) () (NB i.1) := by
  unfold owed
  rw [← Finset.add_sum_erase _ _ (Finset.mem_univ i), ← Finset.add_sum_erase (a := i) Finset.univ (fun i' => if i' ∈ insert i S then (0 : CellTallies nD τ sig Unit) else _) (Finset.mem_univ i),
    if_neg h, if_pos (Finset.mem_insert_self i S), zero_add, add_comm]
  congr 1
  refine Finset.sum_congr rfl fun j hj => ?_
  have hne : j ≠ i := (Finset.mem_erase.mp hj).1
  exact if_congr (by rw [Finset.mem_insert]; exact ⟨Or.inr, fun h => h.resolve_left hne⟩) rfl rfl

theorem owed_univ (c : Dev nD) : owed Finset.univ c = 0 :=
  Finset.sum_eq_zero fun i _ => if_pos (Finset.mem_univ i)

theorem owed_pos {S : Finset Site} {c : Dev nD} {g : GSem nD τ sig} {u : Unit} (h : 0 < owed S c g u) :
    ∃ i, i ∉ S ∧ g = recvC (peer c i) i := by
  unfold owed at h
  rw [Finset.sum_apply, Finsupp.finset_sum_apply] at h
  obtain ⟨i, -, hi⟩ := Finset.exists_ne_zero_of_sum_ne_zero (Nat.pos_iff_ne_zero.mp h)
  by_cases hS : i ∈ S
  · rw [if_pos hS] at hi; exact absurd rfl hi
  · rw [if_neg hS, tallyAt_apply] at hi
    refine ⟨i, hS, ?_⟩
    by_contra hne
    exact hi (if_neg fun h => hne h.1)

theorem lv_recv (c : Dev nD) (i : Site) (u : Unit) : lv (recvC c i) u = 2 + (ph i.2).val := by
  show levelOf (use (.dma (recvS i))) = _; rw [use_recv]; rfl
theorem lv_bar (c : Dev nD) (u : Unit) : lv (barC c) u = 1 := by show levelOf (use (.reg barS)) = _; rw [use_bar]; rfl

/-- A semaphore may be waited for while the sites outside `S` are still owed, if all of these are at higher levels. -/
theorem mayWait_owed (c : Dev nD) (sm : SemLoc sig) (S : Finset Site)
    (h : ∀ i, i ∉ S → lv ((c : Thread nD τ), sm) () < 2 + (ph i.2).val) :
    (levAts L lv : sProp 𝕄) ⊢ MayWait (c : Thread nD τ) sm () (owed S c) :=
  MayOwe.of_cut (L := L) (lev := lv) (lv ((c : Thread nD τ), sm) ()) (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp])
    (fun g u hg => by obtain ⟨i, hi, rfl⟩ := owed_pos hg; rw [lv_recv]; exact h i hi)

theorem mayWait_bar (c : Dev nD) : (levAts L lv : sProp 𝕄) ⊢ MayWait (c : Thread nD τ) (.reg barS) () (owed ∅ c) :=
  mayWait_owed c _ ∅ fun i _ => by rw [lv_bar]; omega
theorem mayWait_recv (c : Dev nD) (i : Site) (S : Finset Site) (h : ∀ j, j ∉ S → ph i.2 < ph j.2) :
    (levAts L lv : sProp 𝕄) ⊢ MayWait (c : Thread nD τ) (.dma (recvS i)) () (owed S c) :=
  mayWait_owed c _ S fun j hj => by rw [lv_recv]; have := Fin.lt_def.mp (h j hj); omega
theorem mayWait_low (c : Dev nD) (sm : SemLoc sig) (S : Finset Site) (h : levelOf (use sm) = 0) :
    (levAts L lv : sProp 𝕄) ⊢ MayWait (c : Thread nD τ) sm () (owed S c) :=
  mayWait_owed c _ S fun i _ => by show levelOf (use sm) < _; omega

end Cert.Hyper

end
-- ==== Proof.State.lean ====
/-
  What a device owns while its kernel runs, as a function of how far it has come:
  the sites sent, received and settled, the copies of products started and finished,
  the chunks of the weight started, arrived and rounded.
-/
module

public import proofs.«01_k».proof.Proof.Sched

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## One element of a family at a time -/

/-- A family that changes at one element only: that element can be taken out and put back changed. -/
theorem track {ι : Type} [Fintype ι] [DecidableEq ι] (i₀ : ι) (P Q : ι → sProp 𝕄) (h : ∀ i, i ≠ i₀ → P i = Q i) :
    bigSep Finset.univ P ⊢ iprop(P i₀ ∗ (Q i₀ -∗ bigSep Finset.univ Q)) := by
  have hs (X : ι → sProp 𝕄) : bigSep Finset.univ X = iprop(X i₀ ∗ bigSep (Finset.univ.erase i₀) X) := bigSep_erase (Finset.mem_univ i₀)
  rw [hs P, hs Q, bigSep_congr (Φ := P) (Ψ := Q) fun i hi => h i (Finset.mem_erase.mp hi).1]
  iintro ⟨HP, HR⟩
  isplitl [HP]; · iexact HP
  iintro HQ
  isplitl [HQ]; · iexact HQ
  iexact HR

/-- The same, where the element comes back as it was. -/
theorem peek {ι : Type} [Fintype ι] [DecidableEq ι] (i₀ : ι) (P : ι → sProp 𝕄) :
    bigSep Finset.univ P ⊢ iprop(P i₀ ∗ (P i₀ -∗ bigSep Finset.univ P)) := track i₀ P P fun _ _ => rfl

/-- One element of a family. -/
theorem oneOf {ι : Type} [Fintype ι] [DecidableEq ι] (P : ι → sProp 𝕄) (i : ι) : bigSep Finset.univ P ⊢ P i := bigSep_elim (Finset.mem_univ i)

/-! ## The kernel's own semaphores -/

/-- The kernel's own semaphores, all of them of the DMA kind. -/
abbrev osem (k : Fin 76) : SemLoc sig := .dma ⟨4 + k.val, Nat.lt_of_lt_of_le (Nat.add_lt_add_left k.isLt 4) (by decide)⟩

theorem osem_send : ∀ i : Site, ∃ k, osem k = .dma (sendS i) := fun i => ⟨⟨slotNo i, by have := slotNo_lt i; omega⟩, rfl⟩
theorem osem_recv : ∀ i : Site, ∃ k, osem k = .dma (recvS i) := fun i => ⟨⟨36 + slotNo i, by have := slotNo_lt i; omega⟩, by
  unfold osem recvS; congr 2; show 4 + (36 + slotNo i) = 40 + slotNo i; omega⟩
theorem osem_out : ∀ s : Fin 2, ∃ k, osem k = .dma (outS s) := by decide
theorem osem_wgt : ∀ s : Fin 2, ∃ k, osem k = .dma (wgtS s) := by decide
/-- Semaphores of the same use are the same, if they have a use. -/
theorem use_inj : ∀ k k' : Fin 76, use (osem k) = use (osem k') → use (osem k) = .none ∨ k = k' := by decide +kernel

variable (D : Data F) (κ : GSem nD τ sig → ℕ) (c : Dev nD)

/-- The records of every semaphore of the exchange, on every device. -/
def records : sProp 𝕄 :=
  iprop((bigSep Finset.univ fun e : Dev nD => cellInv ER (Rd D) (κ (barC e)) (barC e))
    ∗ bigSep Finset.univ fun x : Dev nD × Fin 76 => cellInv ER (Rd D) (κ ((x.1 : Thread nD τ), osem x.2)) ((x.1 : Thread nD τ), osem x.2))

/-- What may be used any number of times. -/
def ctx : sProp 𝕄 :=
  iprop(records D κ ∗ levAts L lv ∗ bigSep Finset.univ fun k : Fin 76 => reached ER ((c : Thread nD τ), osem k) 0)

instance records_persistent : BI.Persistent (records D κ) := by unfold records; infer_instance
instance ctx_persistent : BI.Persistent (ctx D κ c) := by unfold ctx; infer_instance

theorem records_bar (e : Dev nD) : (records D κ : sProp 𝕄) ⊢ cellInv ER (Rd D) (κ (barC e)) (barC e) := by
  unfold records
  iintro ⟨H, -⟩
  iapply (oneOf (fun e : Dev nD => cellInv ER (Rd D) (κ (barC e)) (barC e)) e) $$ H
theorem records_own (e : Dev nD) (k : Fin 76) :
    (records D κ : sProp 𝕄) ⊢ cellInv ER (Rd D) (κ ((e : Thread nD τ), osem k)) ((e : Thread nD τ), osem k) := by
  unfold records
  iintro ⟨-, H⟩
  iapply (oneOf (fun x : Dev nD × Fin 76 => cellInv ER (Rd D) (κ ((x.1 : Thread nD τ), osem x.2)) ((x.1 : Thread nD τ), osem x.2))
    (e, k)) $$ H
theorem ctx_own (e : Dev nD) {sm : SemLoc sig} (h : ∃ k, osem k = sm) :
    (ctx D κ c : sProp 𝕄) ⊢ cellInv ER (Rd D) (κ ((e : Thread nD τ), sm)) ((e : Thread nD τ), sm) := by
  obtain ⟨k, rfl⟩ := h
  unfold ctx
  iintro ⟨H, -⟩
  iapply (records_own D κ e k) $$ H
theorem ctx_records : (ctx D κ c : sProp 𝕄) ⊢ records D κ := by
  unfold ctx
  iintro ⟨H, -⟩
  iexact H
theorem ctx_levels : (ctx D κ c : sProp 𝕄) ⊢ levAts L lv := by
  unfold ctx
  iintro ⟨-, H, -⟩
  iexact H
theorem ctx_reached {sm : SemLoc sig} (h : ∃ k, osem k = sm) : (ctx D κ c : sProp 𝕄) ⊢ reached ER ((c : Thread nD τ), sm) 0 := by
  obtain ⟨k, rfl⟩ := h
  unfold ctx
  iintro ⟨-, -, H⟩
  iapply (oneOf (fun k : Fin 76 => reached ER ((c : Thread nD τ), osem k) 0) k) $$ H

/-! ## The parts of the state -/

/-- The rounds a semaphore's owner has waited through, by the semaphore's use. -/
def rnd (R Dn : Finset Site) (M B : ℕ) (u : Use) : ℕ :=
  match u with
  | .bar => 1
  | .send i => if i ∈ Dn then 1 else 0
  | .recv i => if i ∈ R then 1 else 0
  | .out s => (M + 1 - s.val) / 2
  | .wgt s => (B + 1 - s.val) / 2
  | .none => 0

/-- The owner's positions on the kernel's own semaphores. -/
def posn (R Dn : Finset Site) (M B : ℕ) : sProp 𝕄 :=
  bigSep Finset.univ fun k : Fin 76 => atPos ER ((c : Thread nD τ), osem k) (rnd R Dn M B (use (osem k))) ∅ 0

/-- A site as its sender sees it: still to be sent; on its way; settled. -/
def sendI (S Dn : Finset Site) (i : Site) : sProp 𝕄 :=
  if i ∈ S then (if i ∈ Dn then iprop(emp) else cred (tallyAt (sendC c i) () (NB i.1)))
  else iprop(dutyTok ER (sendC c i) 0 0 ∗ dutyTok ER (recvC (peer c i) i) 0 0 ∗ lend (peer c i) i)

/-- A site as its receiver sees it. -/
def recvI (R : Finset Site) (i : Site) : sProp 𝕄 :=
  if i ∈ R then iprop(emp) else cred (tallyAt (recvC c i) () (NB i.1))

/-- The device holds place `h` of band `t`'s list. -/
abbrev got (R : Finset Site) (y : Fin 3 × Fin 8) : Prop := ∀ k : Fin 7, k.succ = y.2 → (y.1, k) ∈ R

/-- A piece: once held, what of it is not lent to copies on their way. -/
def pieceI (S R Dn : Finset Site) (y : Fin 3 × Fin 8) : sProp 𝕄 :=
  if got R y then
    iprop(gPt c (pieceR (held c y.1 y.2) y.1).set (shR y.2) (gC D)
      ∗ bigSep Finset.univ fun k : Fin 7 =>
          if jj k = y.2 ∧ ((y.1, k) ∈ S → (y.1, k) ∈ Dn) then gPt c (pieceR (held c y.1 y.2) y.1).set (shS (ph k)) (gC D) else iprop(emp))
  else iprop(emp)

/-- Rows of the result: not yet written; being written; written. -/
def outI (N M : ℕ) (y : Fin 3 × Fin 8) : sProp 𝕄 :=
  if N ≤ emNo y then iprop(∃ f, oPt c (rowsR (held c y.1 y.2) y.1).set fullShare f)
  else if M ≤ emNo y then iprop(emp)
  else oPt c (rowsR (held c y.1 y.2) y.1).set fullShare (oC D c)

/-- A staging slot after `a` copies from it were started and `b` of them waited for. -/
def slotAt (s : Fin 2) (a b : ℕ) : sProp 𝕄 :=
  iprop((if a ≤ b then iprop(∃ f, sPt c (stageR s 0).set fullShare f)
      else iprop((∃ f, sPt c ((stageR s 0).set \ (stageR s (em (2 * b + s.val)).1).set) fullShare f)
        ∗ cred (tallyAt (outC c s) () (NO (em (2 * b + s.val)).1))))
    ∗ reached ER (outC c s) b ∗ bigSep (Finset.Ico a 12) fun r => dutyTok ER (outC c s) r 0)
def slotI (N M : ℕ) (s : Fin 2) : sProp 𝕄 := slotAt c s ((N + 1 - s.val) / 2) ((M + 1 - s.val) / 2)

/-- A slot for chunks of the weight after `a` copies into it were started and `b` of them waited for. -/
def wslotAt (s : Fin 2) (a b : ℕ) : sProp 𝕄 :=
  iprop((if a ≤ b then iprop(∃ f, ⌜∀ q : Fin 4, q.val + 2 = 2 * b + s.val → f = tC D c q⌝ ∗ tPt c (slotR s).set fullShare f)
      else cred (tallyAt (wgtC c s) () NW))
    ∗ reached ER (wgtC c s) b ∗ bigSep (Finset.Ico a 2) fun r => dutyTok ER (wgtC c s) r 0)
def wslotI (A B : ℕ) (s : Fin 2) : sProp 𝕄 := wslotAt D c s ((A + 1 - s.val) / 2) ((B + 1 - s.val) / 2)

/-- A chunk of the weight in HBM, unless it is being copied. -/
def chunkI (A B : ℕ) (q : Fin 4) : sProp 𝕄 :=
  if A ≤ q.val ∨ q.val < B then hPt c (chunkR q).set fullShare (D.w c) else iprop(emp)

/-- The rounded weight, right in its first `C` chunks. -/
def wrefI (C : ℕ) : sProp 𝕄 :=
  iprop(∃ f, ⌜∀ i, (i 0).val < 1024 * C → f i = wC D c i⌝ ∗ wPt c Finset.univ fullShare f)

/-! ## The tables -/

theorem hr3 : ∀ i : Site, ∀ a, (![(ph i.2).val, i.1.val, (jj i.2).val] : Fin 3 → Nat) a + S1x1x1.size a ≤ S3x3x4.size a := by decide
theorem hr2 : ∀ d : Fin 3, ∀ a, (![d.val] : Fin 1 → Nat) a + S1.size a ≤ S3.size a := by decide
/-- A site's entry in the two tables of blocks. -/
abbrev r3 (i : Site) : Rect S3x3x4 := Rect.unit ![(ph i.2).val, i.1.val, (jj i.2).val] S1x1x1.size (hr3 i)
/-- A dimension's entry in the table of neighbours. -/
abbrev r2 (d : Fin 3) : Rect S3 := Rect.unit ![d.val] S1.size (hr2 d)

theorem first_r2 (d : Fin 3) : (r2 d).shape.numel = 1 := rfl
theorem first_r3 (i : Site) : (r3 i).shape.numel = 1 := rfl

/-- What the tables say on device `c`. -/
structure Tabs (c : Dev nD) (X2 : Vec F S3 .i32) (X3 X4 : Vec F S3x3x4 .i32) : Prop where
  nbr : ∀ d, X2 ((r2 d).emb (Shape.Idx.first ((first_r2 d).symm ▸ Nat.one_pos))) = BitVec.ofNat 32 (nbr c d).val
  snd : ∀ i, X3 ((r3 i).emb (Shape.Idx.first ((first_r3 i).symm ▸ Nat.one_pos))) = BitVec.ofNat 32 (held c i.1 (jj i.2)).val
  arr : ∀ i, X4 ((r3 i).emb (Shape.Idx.first ((first_r3 i).symm ▸ Nat.one_pos))) = BitVec.ofNat 32 (held c i.1 i.2.succ).val

/-- Everything around the state's run: the tables and where they lie, the records, and what the kernel does not use. -/
structure Env (F : FTy → Type) [FloatOps F] (c : Dev nD) where
  D : Data F
  κ : GSem nD τ sig → ℕ
  arg2 : Memref sig .tc .smem S3 .i32
  arg3 : Memref sig .tc .smem S3x3x4 .i32
  arg4 : Memref sig .tc .smem S3x3x4 .i32
  X2 : Vec F S3 .i32
  X3 : Vec F S3x3x4 .i32
  X4 : Vec F S3x3x4 .i32
  tabs : Tabs c X2 X3 X4
  rest : sProp (MT nD τ sig Unit (Elt F) ℕ UU ℕ)

variable {c} (E : Env F c)

/-- The tables and the unused rest. -/
def envP : sProp 𝕄 := iprop(owns c E.arg2 fullShare E.X2 ∗ owns c E.arg3 fullShare E.X3 ∗ owns c E.arg4 fullShare E.X4 ∗ E.rest)

/-- What the device still owes. -/
def owesI (S : Finset Site) : sProp 𝕄 := iprop(∃ W, owes (c : Thread nD τ) (owed S c) W)

/-- The state: sites `S` sent, `R` received, `Dn` settled; `N` copies of products started and `M` waited for; `A` chunks of
    the weight started, `B` waited for, `C` rounded. -/
def St (S R Dn : Finset Site) (N M A B C : ℕ) : sProp 𝕄 :=
  iprop(ctx E.D E.κ c ∗ envP E ∗ posn c R Dn M B ∗ owesI (c := c) S
    ∗ bigSep Finset.univ (sendI c S Dn) ∗ bigSep Finset.univ (recvI c R) ∗ bigSep Finset.univ (pieceI E.D c S R Dn)
    ∗ bigSep Finset.univ (outI E.D c N M) ∗ bigSep Finset.univ (slotI c N M)
    ∗ bigSep Finset.univ (wslotI E.D c A B) ∗ bigSep Finset.univ (chunkI E.D c A B) ∗ wrefI E.D c C)

/-- The owner's position on one semaphore, taken out and put back one round on. -/
theorem posn_step {R Dn R' Dn' : Finset Site} {M B M' B' : ℕ} {sm : SemLoc sig} (hsm : ∃ k, osem k = sm) (u : Use) (hu : use sm = u) (hn : u ≠ .none)
    (h : ∀ u', u' ≠ u → rnd R Dn M B u' = rnd R' Dn' M' B' u') :
    (posn c R Dn M B : sProp 𝕄) ⊢ iprop(atPos ER ((c : Thread nD τ), sm) (rnd R Dn M B u) ∅ 0
      ∗ (atPos ER ((c : Thread nD τ), sm) (rnd R' Dn' M' B' u) ∅ 0 -∗ posn c R' Dn' M' B')) := by
  obtain ⟨k, rfl⟩ := hsm
  subst hu
  unfold posn
  refine track (F := F) k (fun k : Fin 76 => atPos ER ((c : Thread nD τ), osem k) (rnd R Dn M B (use (osem k))) ∅ 0)
    (fun k : Fin 76 => atPos ER ((c : Thread nD τ), osem k) (rnd R' Dn' M' B' (use (osem k))) ∅ 0) fun k' hk' => ?_
  rw [h _ fun e => hn ?_]
  rcases use_inj k' k e with h' | h'
  · rw [← e]; exact h'
  · exact absurd h' hk'

/-! ## Programs of a device -/

abbrev 𝒱₀ : Variants := Variants.none

/-- A program of the kernel, run on device `c`. -/
abbrev ww {α : Type} (c : Dev nD) (p : Prog (TpuEff nD τ sig (Elt F) Λ₀ .tc) α) (K : α → sProp 𝕄) : sProp 𝕄 :=
  wp frame (wpE (defs₀ (F := F)) 𝒱₀ c none) Set.univ p K

/-- Loading a word from a table. -/
theorem smem_step {α : Type} (c : Dev nD) {s : Shape} {e : EltTy} (m : Memref sig .tc .smem s e) (q : PosShare TreeShare) (X : Vec F s e) (r : Rect s) (h1 : r.shape.numel = 1) (hp : e.packing = 1)
    (k : Elt F e → Prog (TpuEff nD τ sig (Elt F) Λ₀ .tc) α) (K : α → sProp 𝕄) :
    owns c m q X ⊢ iprop((owns c m q X -∗ ww c (k (X (r.emb (Shape.Idx.first (h1.symm ▸ Nat.one_pos))))) K) -∗ ww c (Prog.bind (smemLoad m r h1 hp) k) K) := by
  unfold owns
  iintro ⟨%f, %hf, Hm⟩ Hk
  subst hf
  iapply (wp_smemLoadElt (Val := Elt F) (defs := defs₀ (F := F)) (Q := K) (k := k) (m := m) (r := r) (hw := View.loads_smem_one hp h1) (x := Shape.Idx.first (h1.symm ▸ Nat.one_pos)) (S := m.view.set) (f := f) (q := q)
    𝒱₀ (c : Thread nD τ) none Set.univ (View.set_slice_subset m.view r)) $$ Hm
  iintro Hm
  iapply Hk
  iexists f
  isplitr; · ipureintro; rfl
  iexact Hm

end Cert.Hyper

end
-- ==== Proof.Comm.lean ====
/-
  The exchange's actions: sending a piece, receiving one, and waiting for a sent one
  to have left. Each takes the state one site further.
-/
module

public import proofs.«01_k».proof.Proof.State

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
/-- A program of the kernel. -/
abbrev PP (F : FTy → Type) (α : Type) : Type 1 := Prog (TpuEff nD τ sig (Elt F) Λ₀ .tc) α

variable {c : Dev nD} {E : Env F c} {S R Dn : Finset Site} {N M A B C : ℕ} {α : Type} {K : α → sProp (MT nD τ sig Unit (Elt F) ℕ UU ℕ)}

/-! ## Words and checks -/

/-- Loading a neighbour's number. -/
theorem sm2 (d : Fin 3) {h1 hp} {k : Elt F .i32 → PP F α} (h : St E S R Dn N M A B C ⊢ ww c (k (BitVec.ofNat 32 (nbr c d).val)) K) :
    St E S R Dn N M A B C ⊢ ww c (Prog.bind (smemLoad E.arg2 (r2 d) h1 hp) k) K := by
  have e : St E S R Dn N M A B C ⊢ iprop(owns c E.arg2 fullShare E.X2 ∗ (owns c E.arg2 fullShare E.X2 -∗ St E S R Dn N M A B C)) := by
    unfold St envP
    iintro ⟨Hc, ⟨H2, H⟩, Hr⟩
    isplitl [H2]; · iexact H2
    iintro H2
    isplitl [Hc]; · iexact Hc
    isplitr [Hr]
    · isplitl [H2]; · iexact H2
      iexact H
    iexact Hr
  refine e.trans ?_
  iintro ⟨H2, H⟩
  iapply (smem_step c E.arg2 fullShare E.X2 (r2 d) h1 hp k K) $$ H2
  iintro H2
  rw [show E.X2 _ = _ from E.tabs.nbr d]
  iapply h
  iapply H $$ H2

/-- Loading the number of the device whose block a site sends. -/
theorem sm3 (i : Site) {h1 hp} {k : Elt F .i32 → PP F α} (h : St E S R Dn N M A B C ⊢ ww c (k (BitVec.ofNat 32 (held c i.1 (jj i.2)).val)) K) :
    St E S R Dn N M A B C ⊢ ww c (Prog.bind (smemLoad E.arg3 (r3 i) h1 hp) k) K := by
  have e : St E S R Dn N M A B C ⊢ iprop(owns c E.arg3 fullShare E.X3 ∗ (owns c E.arg3 fullShare E.X3 -∗ St E S R Dn N M A B C)) := by
    unfold St envP
    iintro ⟨Hc, ⟨H2, H3, H⟩, Hr⟩
    isplitl [H3]; · iexact H3
    iintro H3
    isplitl [Hc]; · iexact Hc
    isplitr [Hr]
    · isplitl [H2]; · iexact H2
      isplitl [H3]; · iexact H3
      iexact H
    iexact Hr
  refine e.trans ?_
  iintro ⟨H3, H⟩
  iapply (smem_step c E.arg3 fullShare E.X3 (r3 i) h1 hp k K) $$ H3
  iintro H3
  rw [show E.X3 _ = _ from E.tabs.snd i]
  iapply h
  iapply H $$ H3

/-- Loading the number of the device whose block a site receives. -/
theorem sm4 (i : Site) {h1 hp} {k : Elt F .i32 → PP F α} (h : St E S R Dn N M A B C ⊢ ww c (k (BitVec.ofNat 32 (held c i.1 i.2.succ).val)) K) :
    St E S R Dn N M A B C ⊢ ww c (Prog.bind (smemLoad E.arg4 (r3 i) h1 hp) k) K := by
  have e : St E S R Dn N M A B C ⊢ iprop(owns c E.arg4 fullShare E.X4 ∗ (owns c E.arg4 fullShare E.X4 -∗ St E S R Dn N M A B C)) := by
    unfold St envP
    iintro ⟨Hc, ⟨H2, H3, H4, H⟩, Hr⟩
    isplitl [H4]; · iexact H4
    iintro H4
    isplitl [Hc]; · iexact Hc
    isplitr [Hr]
    · isplitl [H2]; · iexact H2
      isplitl [H3]; · iexact H3
      isplitl [H4]; · iexact H4
      iexact H
    iexact Hr
  refine e.trans ?_
  iintro ⟨H4, H⟩
  iapply (smem_step c E.arg4 fullShare E.X4 (r3 i) h1 hp k K) $$ H4
  iintro H4
  rw [show E.X4 _ = _ from E.tabs.arr i]
  iapply h
  iapply H $$ H4

/-- Passing a check that holds. -/
theorem asm {X : sProp 𝕄} {P : Prop} {dP : Decidable P} (hP : P) {k : PLift P → PP F α} (h : X ⊢ ww c (k ⟨hP⟩) K) :
    X ⊢ ww c (.op (.assume P dP) k) K :=
  h.trans (Entails.of_eq (wp_assume_of 𝒱₀ (c : Thread nD τ) none Set.univ hP).symm)

/-! ## Sending -/

/-- The piece a site sends or receives, by the word that names its block. -/
abbrev piece (t : Fin 3) (off : Fin 3 → Nat) (inb : ∀ a, off a + (bShape3 t).size a ≤ S8x512x4096.size a) (sq : (bShape3 t).Squeezes (bShape t)) :
    Memref sig .tc .vmem (bShape t) .bf16 :=
  (gM.slice (Rect.unit (s := S8x512x4096) off (bShape3 t).size inb) (fun _ => rfl)).squeeze (bShape t) sq

theorem piece_eq (t : Fin 3) {off : Fin 3 → Nat} {inb sq} (o : Dev nD) (h : off = ![(BitVec.ofNat 32 o.val).toNat, boff t, 0]) :
    piece t off inb sq = pieceM o t := by
  subst h
  revert inb
  rw [toNat_word o]
  intro _; rfl

theorem piece_set (o : Dev nD) (t : Fin 3) : (pieceM o t).view.set = (pieceR o t).set :=
  (View.set_reshape _ _).trans (View.set_slice_whole _ _)

theorem sendI_take (i : Site) (hS : i ∉ S) (hD : i ∉ Dn) :
    (bigSep Finset.univ (sendI c S Dn) : sProp 𝕄) ⊢ iprop((dutyTok ER (sendC c i) 0 0 ∗ dutyTok ER (recvC (peer c i) i) 0 0 ∗ lend (peer c i) i)
      ∗ (cred (tallyAt (sendC c i) () (NB i.1)) -∗ bigSep Finset.univ (sendI c (insert i S) Dn))) := by
  refine (track i (sendI c S Dn) (sendI c (insert i S) Dn) fun j hj => ?_).trans ?_
  · unfold sendI
    exact if_congr (by rw [Finset.mem_insert]; exact ⟨Or.inr, fun h => h.resolve_left hj⟩) rfl rfl
  · rw [show (sendI c S Dn i : sProp 𝕄) = _ from if_neg hS, show (sendI c (insert i S) Dn i : sProp 𝕄) = _ from (if_pos (Finset.mem_insert_self i S)).trans (if_neg hD)]

theorem pieceI_lend (D : Data F) (i : Site) (hS : i ∉ S) (hD : i ∉ Dn) (hR : got R (i.1, jj i.2)) :
    (bigSep Finset.univ (pieceI D c S R Dn) : sProp 𝕄) ⊢ iprop(sendPay D c i ∗ bigSep Finset.univ (pieceI D c (insert i S) R Dn)) := by
  refine (track (i.1, jj i.2) (pieceI D c S R Dn) (pieceI D c (insert i S) R Dn) fun y hy => ?_).trans ?_
  · unfold pieceI
    refine if_congr Iff.rfl ?_ rfl
    congr 1
    refine bigSep_congr fun k _ => if_congr (and_congr_right fun hk => ?_) rfl rfl
    have hne : (y.1, k) ≠ i := fun e => hy (by rw [← e]; exact Prod.ext rfl hk.symm)
    rw [Finset.mem_insert]
    exact imp_congr ⟨Or.inr, fun h => h.resolve_left hne⟩ Iff.rfl
  · rw [show (pieceI D c S R Dn (i.1, jj i.2) : sProp 𝕄) = _ from if_pos hR, show (pieceI D c (insert i S) R Dn (i.1, jj i.2) : sProp 𝕄) = _ from if_pos hR]
    iintro ⟨⟨Hrest, Hk⟩, Hback⟩
    ihave Hk := (track (F := F) i.2
      (fun k => if jj k = jj i.2 ∧ ((i.1, k) ∈ S → (i.1, k) ∈ Dn) then gPt c (pieceR (held c i.1 (jj i.2)) i.1).set (shS (ph k)) (gC D) else iprop(emp))
      (fun k => if jj k = jj i.2 ∧ ((i.1, k) ∈ insert i S → (i.1, k) ∈ Dn) then gPt c (pieceR (held c i.1 (jj i.2)) i.1).set (shS (ph k)) (gC D) else iprop(emp))
      (fun k hk => if_congr (and_congr_right fun _ => by
        have hne : (i.1, k) ≠ i := fun e => hk (congrArg Prod.snd e)
        rw [Finset.mem_insert]
        exact imp_congr ⟨Or.inr, fun h => h.resolve_left hne⟩ Iff.rfl) rfl rfl)) $$ Hk
    rw [if_pos ⟨rfl, fun h => absurd h hS⟩, if_neg (fun h => hD (h.2 (Finset.mem_insert_self i S)))]
    icases Hk with ⟨Hpay, Hk⟩
    isplitl [Hpay]; · unfold sendPay; iexact Hpay
    iapply Hback
    isplitl [Hrest]; · iexact Hrest
    iapply Hk
    iempintro

/-- The copy to the neighbour, started. -/
theorem send_core (i : Site) {m : Memref sig .tc .vmem (bShape i.1) .bf16} {e : Dev nD} {s1 s2 : DmaSem sig} {w : m.view.WordExact} {hs} {k : PUnit → PP F α}
    (hm : m = pieceM (held c i.1 (jj i.2)) i.1) (he : e = peer c i) (h1 : s1 = sendS i) (h2 : s2 = recvS i)
    (hS : i ∉ S) (hD : i ∉ Dn) (hR : got R (i.1, jj i.2)) (h : St E (insert i S) R Dn N M A B C ⊢ ww c (k ⟨⟩) K) :
    St E S R Dn N M A B C ⊢ ww c (.op (.enqueueDma m (.remote (Dev.tc e) m (.dma s1)) (.dma s2) w w hs) k) K := by
  subst hm he h1 h2
  unfold St owesI
  iintro ⟨#Hctx, He, Hpos, ⟨%W, HO⟩, Hs, Hr, Hp, Hrest⟩
  ihave Hs := (sendI_take i hS hD) $$ Hs
  unfold lend
  icases Hs with ⟨⟨Ht1, Ht2, ⟨⟨%fd, Hd⟩, #Hrd⟩⟩, Hs⟩
  ihave Hp := (pieceI_lend E.D i hS hD hR) $$ Hp
  icases Hp with ⟨Hsrc, Hp⟩
  ihave #Hi1 := (ctx_own E.D E.κ c c (osem_send i)) $$ Hctx
  ihave #Hi2 := (ctx_own E.D E.κ c (peer c i) (osem_recv i)) $$ Hctx
  ihave #Hrs := (ctx_reached E.D E.κ c (osem_send i)) $$ Hctx
  iapply (Rounds.wp_send_pointsTo 𝒱₀ ER (Rd E.D) (c : Thread nD τ) none (c' := (peer c i : Thread nD τ)) (src := pieceM (held c i.1 (jj i.2)) i.1) (dst := pieceM (held c i.1 (jj i.2)) i.1)
      (sS := .dma (sendS i)) (sem := .dma (recvS i)) (q := shS (ph i.2)) (fs := gC E.D) (κ₁ := E.κ (sendC c i)) (κ₂ := E.κ (recvC (peer c i) i))
      (r₁ := 0) (r₂ := 0) (d₁ := 0) (d₂ := 0) (fd := fd)
      (by rw [duties_send]; exact Finset.mem_singleton_self _) (by rw [duties_recv]; exact Finset.mem_singleton_self _)
      () () (NB i.1) rfl (amount_send E.D c i 0) (amount_recv E.D (peer c i) i 0) (owed (insert i S) c) (owed_insert S i hS c) (W := W)
      (by rw [payload_send]; unfold sendPay; rw [piece_set])
      (by
        rw [payload_recv]; unfold recvPay; rw [piece_set, held_peer]
        exact Entails.of_eq (pointsTo_congr fun j hj => write_on (pieceM (held c i.1 (jj i.2)) i.1).view _ _ _ (fun x => rfl) j (by rw [piece_set]; exact hj)))) $$ [Hsrc Hd HO Ht1 Ht2]
  · isplitr; · iexact Hi1
    isplitr; · iexact Hi2
    isplitl [Hsrc]; · unfold sendPay; rw [piece_set]; iexact Hsrc
    isplitl [Hd]; · rw [piece_set, ← held_peer]; iexact Hd
    isplitl [HO]; · iexact HO
    isplitl [Ht1]; · iexact Ht1
    isplitr; · iexact Hrs
    isplitl [Ht2]; · iexact Ht2
    iexact Hrd
  iintro ⟨Hcr, HO⟩
  iapply h
  unfold St
  isplitr; · iexact Hctx
  isplitl [He]; · iexact He
  isplitl [Hpos]; · iexact Hpos
  isplitl [HO]; · unfold owesI; iexists W; iexact HO
  isplitl [Hs Hcr]; · iapply Hs $$ Hcr
  isplitl [Hr]; · iexact Hr
  isplitl [Hp]; · iexact Hp
  iexact Hrest

/-- Sending a site: the number of its block, the number of its neighbour, the copy. -/
theorem send_step (i : Site) {P : BitVec 32 → Prop} {dP : ∀ v, Decidable (P v)} {Q : BitVec 32 → Prop} {dQ : ∀ v, Decidable (Q v)}
    {off : BitVec 32 → Fin 3 → Nat} {dev : BitVec 32 → Nat}
    {inb : ∀ v, P v → ∀ a, off v a + (bShape3 i.1).size a ≤ S8x512x4096.size a} {dlt : ∀ v, Q v → dev v < nD} {sq} {s1 s2 : DmaSem sig} {h1 h2}
    {w : ∀ (v : BitVec 32) (h : P v), (piece i.1 (off v) (inb v h) sq).view.WordExact} {k : ∀ v, P v → ∀ u, Q u → PUnit → PP F α}
    (hP : ∀ n : Fin 8, P (BitVec.ofNat 32 n.val)) (hQ : ∀ n : Fin 8, Q (BitVec.ofNat 32 n.val))
    (hoff : off = fun v => ![v.toNat, boff i.1, 0]) (hdev : dev = fun v => (Scalar.addi 0#32 (Scalar.muli v 1#32)).toNat) (hs1 : s1 = sendS i) (hs2 : s2 = recvS i)
    (hS : i ∉ S) (hD : i ∉ Dn) (hR : got R (i.1, jj i.2))
    (h : St E (insert i S) R Dn N M A B C ⊢ ww c (k (BitVec.ofNat 32 (held c i.1 (jj i.2)).val) (hP _) (BitVec.ofNat 32 (peer c i).val) (hQ _) ⟨⟩) K) :
    St E S R Dn N M A B C ⊢ ww c
      (Prog.bind (smemLoad E.arg3 (r3 i) h1 rfl) fun v => .op (.assume (P v) (dP v)) fun hP =>
        Prog.bind (smemLoad E.arg2 (r2 (i.1 + ph i.2)) h2 rfl) fun u => .op (.assume (Q u) (dQ u)) fun hQ =>
        .op (.enqueueDma (piece i.1 (off v) (inb v hP.down) sq)
          (.remote (Dev.tc (⟨dev u, dlt u hQ.down⟩ : Dev nD)) (piece i.1 (off v) (inb v hP.down) sq) (.dma s1)) (.dma s2) (w v hP.down) (w v hP.down)
          ⟨⟨rfl, Or.inl rfl⟩, trivial⟩) (k v hP.down u hQ.down)) K := by
  subst hoff hdev
  refine sm3 i (asm (hP _) (sm2 _ (asm (hQ _) (send_core i (piece_eq i.1 _ rfl) (Fin.ext (devWord _)) hs1 hs2 hS hD hR h))))

/-! ## Receiving -/

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

/-- A whole piece is the share that stays and those that go with its copies. -/
theorem piece_shares (I : Finset S8x512x4096.Idx) (f : Vec F S8x512x4096 .bf16) (h : Fin 8) :
    (gPt c I fullShare f : sProp 𝕄) ⊣⊢ iprop(gPt c I (shR h) f ∗ bigSep Finset.univ fun k : Fin 7 => if jj k = h then gPt c I (shS (ph k)) f else iprop(emp)) := by
  have s1 := pointsTo_share (Ix := Unit) (Name := ℕ) (U := UU) (Lvl := ℕ) (ℓ := gM.view.loc (c : Thread nD τ)) (I := I) (f := f) (PosShare.mem_left_op_right (fullShare))
  have s2 := pointsTo_share (Ix := Unit) (Name := ℕ) (U := UU) (Lvl := ℕ) (ℓ := gM.view.loc (c : Thread nD τ)) (I := I) (f := f) (PosShare.mem_left_op_right (fullShare).left)
  have s3 := pointsTo_share (Ix := Unit) (Name := ℕ) (U := UU) (Lvl := ℕ) (ℓ := gM.view.loc (c : Thread nD τ)) (I := I) (f := f) (PosShare.mem_left_op_right (fullShare).left.left)
  rw [bigSep_fin7]
  fin_cases h
  · show gPt c I fullShare f ⊣⊢ iprop(gPt c I (fullShare).left.left.left f ∗ gPt c I (fullShare).left.left.right f ∗ gPt c I (fullShare).left.right f ∗ emp ∗ gPt c I (fullShare).right f ∗ emp ∗ emp ∗ emp)
    constructor
    · iintro H
      ihave H := s1.1 $$ H
      icases H with ⟨H, H1⟩
      ihave H := s2.1 $$ H
      icases H with ⟨H, H2⟩
      ihave H := s3.1 $$ H
      icases H with ⟨H, H3⟩
      isplitl [H]; · iexact H
      isplitl [H3]; · iexact H3
      isplitl [H2]; · iexact H2
      isplitr; · iempintro
      isplitl [H1]; · iexact H1
      isplitr; · iempintro
      isplitr; · iempintro
      iempintro
    · iintro ⟨H, H3, H2, -, H1, -, -, -⟩
      iapply s1.2
      isplitr [H1]
      · iapply s2.2
        isplitr [H2]
        · iapply s3.2
          isplitl [H]; · iexact H
          iexact H3
        iexact H2
      iexact H1
  · show gPt c I fullShare f ⊣⊢ iprop(gPt c I (fullShare).left.left f ∗ emp ∗ emp ∗ gPt c I (fullShare).left.right f ∗ emp ∗ gPt c I (fullShare).right f ∗ emp ∗ emp)
    constructor
    · iintro H
      ihave H := s1.1 $$ H
      icases H with ⟨H, H1⟩
      ihave H := s2.1 $$ H
      icases H with ⟨H, H2⟩
      isplitl [H]; · iexact H
      isplitr; · iempintro
      isplitr; · iempintro
      isplitl [H2]; · iexact H2
      isplitr; · iempintro
      isplitl [H1]; · iexact H1
      isplitr; · iempintro
      iempintro
    · iintro ⟨H, -, -, H2, -, H1, -, -⟩
      iapply s1.2
      isplitr [H1]
      · iapply s2.2
        isplitl [H]; · iexact H
        iexact H2
      iexact H1
  · show gPt c I fullShare f ⊣⊢ iprop(gPt c I (fullShare).left f ∗ emp ∗ emp ∗ emp ∗ emp ∗ emp ∗ gPt c I (fullShare).right f ∗ emp)
    constructor
    · iintro H
      ihave H := s1.1 $$ H
      icases H with ⟨H, H1⟩
      isplitl [H]; · iexact H
      isplitr; · iempintro
      isplitr; · iempintro
      isplitr; · iempintro
      isplitr; · iempintro
      isplitr; · iempintro
      isplitl [H1]; · iexact H1
      iempintro
    · iintro ⟨H, -, -, -, -, -, H1, -⟩
      iapply s1.2
      isplitl [H]; · iexact H
      iexact H1
  · show gPt c I fullShare f ⊣⊢ iprop(gPt c I (fullShare).left f ∗ emp ∗ emp ∗ emp ∗ emp ∗ emp ∗ emp ∗ gPt c I (fullShare).right f)
    constructor
    · iintro H
      ihave H := s1.1 $$ H
      icases H with ⟨H, H1⟩
      isplitl [H]; · iexact H
      isplitr; · iempintro
      isplitr; · iempintro
      isplitr; · iempintro
      isplitr; · iempintro
      isplitr; · iempintro
      isplitr; · iempintro
      iexact H1
    · iintro ⟨H, -, -, -, -, -, -, H1⟩
      iapply s1.2
      isplitl [H]; · iexact H
      iexact H1
  · show gPt c I fullShare f ⊣⊢ iprop(gPt c I (fullShare) f ∗ emp ∗ emp ∗ emp ∗ emp ∗ emp ∗ emp ∗ emp)
    constructor
    · iintro H
      isplitl [H]; · iexact H
      isplitr; · iempintro
      isplitr; · iempintro
      isplitr; · iempintro
      isplitr; · iempintro
      isplitr; · iempintro
      isplitr; · iempintro
      iempintro
    · iintro ⟨H, -⟩
      iexact H
  · show gPt c I fullShare f ⊣⊢ iprop(gPt c I (fullShare) f ∗ emp ∗ emp ∗ emp ∗ emp ∗ emp ∗ emp ∗ emp)
    constructor
    · iintro H
      isplitl [H]; · iexact H
      isplitr; · iempintro
      isplitr; · iempintro
      isplitr; · iempintro
      isplitr; · iempintro
      isplitr; · iempintro
      isplitr; · iempintro
      iempintro
    · iintro ⟨H, -⟩
      iexact H
  · show gPt c I fullShare f ⊣⊢ iprop(gPt c I (fullShare) f ∗ emp ∗ emp ∗ emp ∗ emp ∗ emp ∗ emp ∗ emp)
    constructor
    · iintro H
      isplitl [H]; · iexact H
      isplitr; · iempintro
      isplitr; · iempintro
      isplitr; · iempintro
      isplitr; · iempintro
      isplitr; · iempintro
      isplitr; · iempintro
      iempintro
    · iintro ⟨H, -⟩
      iexact H
  · show gPt c I fullShare f ⊣⊢ iprop(gPt c I (fullShare) f ∗ emp ∗ emp ∗ emp ∗ emp ∗ emp ∗ emp ∗ emp)
    constructor
    · iintro H
      isplitl [H]; · iexact H
      isplitr; · iempintro
      isplitr; · iempintro
      isplitr; · iempintro
      isplitr; · iempintro
      isplitr; · iempintro
      isplitr; · iempintro
      iempintro
    · iintro ⟨H, -⟩
      iexact H

/-- A device that has received a site holds one more place of its list. -/
theorem pieceI_add (D : Data F) (i : Site) (hR : i ∉ R) (hfree : ∀ k, jj k = i.2.succ → (i.1, k) ∉ S) :
    iprop(recvPay D c i ∗ bigSep Finset.univ (pieceI D c S R Dn)) ⊢ (bigSep Finset.univ (pieceI D c S (insert i R) Dn) : sProp 𝕄) := by
  have hg : got (insert i R) (i.1, i.2.succ) := fun k hk => by
    rw [Fin.succ_inj] at hk; subst hk; exact Finset.mem_insert_self _ _
  have hng : ¬ got R (i.1, i.2.succ) := fun h => hR (h i.2 rfl)
  iintro ⟨Hpay, Hp⟩
  ihave Hp := (track (i.1, i.2.succ) (pieceI D c S R Dn) (pieceI D c S (insert i R) Dn) fun y hy => by
    unfold pieceI
    refine if_congr (forall_congr' fun k => imp_congr_right fun hk => ?_) rfl rfl
    rw [Finset.mem_insert]
    exact ⟨Or.inr, fun h => h.resolve_left fun e => hy (by rw [← e]; exact Prod.ext rfl hk.symm)⟩) $$ Hp
  rw [show (pieceI D c S (insert i R) Dn (i.1, i.2.succ) : sProp 𝕄) = _ from if_pos hg]
  icases Hp with ⟨-, Hp⟩
  iapply Hp
  unfold recvPay
  ihave H := (piece_shares _ (gC D) i.2.succ).1 $$ Hpay
  icases H with ⟨H1, H2⟩
  isplitl [H1]; · iexact H1
  rw [bigSep_congr fun k _ => if_congr (show (jj k = i.2.succ ∧ ((i.1, k) ∈ S → (i.1, k) ∈ Dn)) ↔ jj k = i.2.succ from ⟨And.left, fun h => ⟨h, fun h' => absurd h' (hfree k h)⟩⟩) rfl rfl]
  iexact H2

/-- The wait for a site's copy from the neighbour. -/
theorem recv_core (i : Site) {sp sp' : Space} {s s' : Shape} {e e' : EltTy} {src : Memref sig .tc sp' s' e'} {dst : Memref sig .tc sp s e} {s2 : DmaSem sig}
    {w : src.view.WordExact} {w' : dst.view.WordExact} {k : PUnit → PP F α}
    (h2 : s2 = recvS i) (hN : dst.view.dmaCredit = NB i.1) (hR : i ∉ R) (hS : ∀ j, j ∉ S → ph i.2 < ph j.2)
    (hfree : ∀ k, jj k = i.2.succ → (i.1, k) ∉ S)
    (h : St E S (insert i R) Dn N M A B C ⊢ ww c (k ⟨⟩) K) :
    St E S R Dn N M A B C ⊢ ww c (.op (.waitDma2 s2 src dst w w') k) K := by
  subst h2
  unfold St owesI
  iintro ⟨#Hctx, He, Hpos, ⟨%W, HO⟩, Hs, Hr, Hp, Hrest⟩
  ihave Hr := (track i (recvI c R) (recvI c (insert i R)) fun j hj => by
    unfold recvI
    exact if_congr (by rw [Finset.mem_insert]; exact ⟨Or.inr, fun h => h.resolve_left hj⟩) rfl rfl) $$ Hr
  rw [show (recvI c R i : sProp 𝕄) = _ from if_neg hR, show (recvI c (insert i R) i : sProp 𝕄) = _ from if_pos (Finset.mem_insert_self i R)]
  icases Hr with ⟨Hcr, Hr⟩
  ihave Hpos := (posn_step (M := M) (B := B) (R := R) (Dn := Dn) (R' := insert i R) (Dn' := Dn) (M' := M) (B' := B) (osem_recv i) (.recv i) (use_recv i) (fun h => by cases h) fun u hu => by
    cases u <;> try rfl
    rename_i j
    unfold rnd
    exact if_congr (by rw [Finset.mem_insert]; exact ⟨Or.inr, fun h => h.resolve_left fun e => hu (by rw [e])⟩) rfl rfl) $$ Hpos
  rw [show rnd R Dn M B (.recv i) = 0 from if_neg hR, show rnd (insert i R) Dn M B (.recv i) = 1 from if_pos (Finset.mem_insert_self i R)]
  icases Hpos with ⟨Hat, Hpos⟩
  ihave #Hi := (ctx_own E.D E.κ c c (osem_recv i)) $$ Hctx
  iapply (Rounds.wp_wait_rest_token 𝒱₀ ER (Rd E.D) (c : Thread nD τ) none (κ := E.κ (recvC c i))
      (wpE_waitDma2_eq (src := src) (dst := dst) 𝒱₀ (c : Thread nD τ) none Set.univ) (Set.mem_univ _) () (O := owed S c) (W := W) (R := 0) (m := 0) (T := ∅)
      ((Nat.zero_add _).trans (hN.trans (expect_recv E.D c i).symm))) $$ [Hcr HO Hat]
  · rw [hN]
    isplitr; · iexact Hi
    isplitl [Hcr]; · iexact Hcr
    isplitl [HO]; · iexact HO
    isplitr; · iapply (mayWait_recv c i S hS); iapply (ctx_levels E.D E.κ c) $$ Hctx
    iexact Hat
  iintro ⟨HO, Hat, -, Hpay⟩
  ihave Hpay := (Entails.of_eq (rest_recv E.D c i)) $$ Hpay
  iapply h
  unfold St
  isplitr; · iexact Hctx
  isplitl [He]; · iexact He
  isplitl [Hpos Hat]; · iapply Hpos $$ Hat
  isplitl [HO]; · unfold owesI; iexists _; iexact HO
  isplitl [Hs]; · iexact Hs
  isplitl [Hr]; · iapply Hr; iempintro
  isplitl [Hp Hpay]
  · iapply (pieceI_add E.D i hR hfree)
    isplitl [Hpay]; · iexact Hpay
    iexact Hp
  iexact Hrest

/-- Receiving a site: the number of its block, the number of its neighbour, the wait. -/
theorem recv_step (i : Site) {P : BitVec 32 → Prop} {dP : ∀ v, Decidable (P v)} {off : BitVec 32 → Fin 3 → Nat}
    {inb : ∀ v, P v → ∀ a, off v a + (bShape3 i.1).size a ≤ S8x512x4096.size a} {sq} {s2 : DmaSem sig} {h1 h2}
    {w : ∀ (v : BitVec 32) (h : P v), (piece i.1 (off v) (inb v h) sq).view.WordExact} {k : ∀ v, P v → BitVec 32 → PUnit → PP F α}
    (hP : ∀ n : Fin 8, P (BitVec.ofNat 32 n.val)) (hs2 : s2 = recvS i)
    (hR : i ∉ R) (hS : ∀ j, j ∉ S → ph i.2 < ph j.2) (hfree : ∀ k, jj k = i.2.succ → (i.1, k) ∉ S)
    (h : St E S (insert i R) Dn N M A B C ⊢ ww c (k (BitVec.ofNat 32 (held c i.1 i.2.succ).val) (hP _) (BitVec.ofNat 32 (peer c i).val) ⟨⟩) K) :
    St E S R Dn N M A B C ⊢ ww c
      (Prog.bind (smemLoad E.arg4 (r3 i) h1 rfl) fun v => .op (.assume (P v) (dP v)) fun hP =>
        Prog.bind (smemLoad E.arg2 (r2 (i.1 + ph i.2)) h2 rfl) fun u =>
        .op (.waitDma2 s2 (piece i.1 (off v) (inb v hP.down) sq) (piece i.1 (off v) (inb v hP.down) sq) (w v hP.down) (w v hP.down)) (k v hP.down u)) K :=
  sm4 i (asm (hP _) (sm2 _ (recv_core i hs2 rfl hR hS hfree h)))

/-! ## Waiting for a sent piece to have left -/

/-- A settled site gives its share of the piece back. -/
theorem pieceI_back (D : Data F) (i : Site) (hS : i ∈ S) (hD : i ∉ Dn) (hR : got R (i.1, jj i.2)) :
    iprop(sendPay D c i ∗ bigSep Finset.univ (pieceI D c S R Dn)) ⊢ (bigSep Finset.univ (pieceI D c S R (insert i Dn)) : sProp 𝕄) := by
  iintro ⟨Hpay, Hp⟩
  ihave Hp := (track (i.1, jj i.2) (pieceI D c S R Dn) (pieceI D c S R (insert i Dn)) fun y hy => by
    unfold pieceI
    refine if_congr Iff.rfl ?_ rfl
    congr 1
    refine bigSep_congr fun k _ => if_congr (and_congr_right fun hk => ?_) rfl rfl
    have hne : (y.1, k) ≠ i := fun e => hy (by rw [← e]; exact Prod.ext rfl hk.symm)
    rw [Finset.mem_insert]
    exact imp_congr Iff.rfl ⟨Or.inr, fun h => h.resolve_left hne⟩) $$ Hp
  rw [show (pieceI D c S R Dn (i.1, jj i.2) : sProp 𝕄) = _ from if_pos hR, show (pieceI D c S R (insert i Dn) (i.1, jj i.2) : sProp 𝕄) = _ from if_pos hR]
  icases Hp with ⟨⟨Hrest, Hk⟩, Hback⟩
  ihave Hk := (track (F := F) i.2
    (fun k => if jj k = jj i.2 ∧ ((i.1, k) ∈ S → (i.1, k) ∈ Dn) then gPt c (pieceR (held c i.1 (jj i.2)) i.1).set (shS (ph k)) (gC D) else iprop(emp))
    (fun k => if jj k = jj i.2 ∧ ((i.1, k) ∈ S → (i.1, k) ∈ insert i Dn) then gPt c (pieceR (held c i.1 (jj i.2)) i.1).set (shS (ph k)) (gC D) else iprop(emp))
    (fun k hk => if_congr (and_congr_right fun _ => by
      have hne : (i.1, k) ≠ i := fun e => hk (congrArg Prod.snd e)
      rw [Finset.mem_insert]
      exact imp_congr Iff.rfl ⟨Or.inr, fun h => h.resolve_left hne⟩) rfl rfl)) $$ Hk
  rw [if_pos (c := jj i.2 = jj i.2 ∧ ((i.1, i.2) ∈ S → (i.1, i.2) ∈ insert i Dn)) ⟨rfl, fun _ => Finset.mem_insert_self i Dn⟩]
  icases Hk with ⟨-, Hk⟩
  iapply Hback
  isplitl [Hrest]; · iexact Hrest
  iapply Hk
  unfold sendPay
  iexact Hpay

/-- The wait for a site's copy to have left. -/
theorem left_core (i : Site) {sp sp' : Space} {s s' : Shape} {e e' : EltTy} {src : Memref sig .tc sp' s' e'} {dst : Memref sig .tc sp s e} {s2 : DmaSem sig}
    {w : src.view.WordExact} {w' : dst.view.WordExact} {k : PUnit → PP F α}
    (h2 : s2 = sendS i) (hN : dst.view.dmaCredit = NB i.1) (hS : i ∈ S) (hD : i ∉ Dn) (hR : got R (i.1, jj i.2))
    (h : St E S R (insert i Dn) N M A B C ⊢ ww c (k ⟨⟩) K) :
    St E S R Dn N M A B C ⊢ ww c (.op (.waitDma2 s2 src dst w w') k) K := by
  subst h2
  unfold St owesI
  iintro ⟨#Hctx, He, Hpos, ⟨%W, HO⟩, Hs, Hr, Hp, Hrest⟩
  ihave Hs := (track i (sendI c S Dn) (sendI c S (insert i Dn)) fun j hj => by
    unfold sendI
    exact if_congr Iff.rfl (if_congr (by rw [Finset.mem_insert]; exact ⟨Or.inr, fun h => h.resolve_left hj⟩) rfl rfl) rfl) $$ Hs
  rw [show (sendI c S Dn i : sProp 𝕄) = _ from (if_pos hS).trans (if_neg hD),
    show (sendI c S (insert i Dn) i : sProp 𝕄) = _ from (if_pos hS).trans (if_pos (Finset.mem_insert_self i Dn))]
  icases Hs with ⟨Hcr, Hs⟩
  ihave Hpos := (posn_step (M := M) (B := B) (R := R) (Dn := Dn) (R' := R) (Dn' := insert i Dn) (M' := M) (B' := B) (osem_send i) (.send i) (use_send i) (fun h => by cases h) fun u hu => by
    cases u <;> try rfl
    rename_i j
    unfold rnd
    exact if_congr (by rw [Finset.mem_insert]; exact ⟨Or.inr, fun h => h.resolve_left fun e => hu (by rw [e])⟩) rfl rfl) $$ Hpos
  rw [show rnd R Dn M B (.send i) = 0 from if_neg hD, show rnd R (insert i Dn) M B (.send i) = 1 from if_pos (Finset.mem_insert_self i Dn)]
  icases Hpos with ⟨Hat, Hpos⟩
  ihave #Hi := (ctx_own E.D E.κ c c (osem_send i)) $$ Hctx
  iapply (Rounds.wp_wait_rest_token 𝒱₀ ER (Rd E.D) (c : Thread nD τ) none (κ := E.κ (sendC c i))
      (wpE_waitDma2_eq (src := src) (dst := dst) 𝒱₀ (c : Thread nD τ) none Set.univ) (Set.mem_univ _) () (O := owed S c) (W := W) (R := 0) (m := 0) (T := ∅)
      ((Nat.zero_add _).trans (hN.trans (expect_send E.D c i).symm))) $$ [Hcr HO Hat]
  · rw [hN]
    isplitr; · iexact Hi
    isplitl [Hcr]; · iexact Hcr
    isplitl [HO]; · iexact HO
    isplitr; · iapply (mayWait_low c _ S (by rw [use_send]; rfl)); iapply (ctx_levels E.D E.κ c) $$ Hctx
    iexact Hat
  iintro ⟨HO, Hat, -, Hpay⟩
  ihave Hpay := (Entails.of_eq (rest_send E.D c i)) $$ Hpay
  iapply h
  unfold St
  isplitr; · iexact Hctx
  isplitl [He]; · iexact He
  isplitl [Hpos Hat]; · iapply Hpos $$ Hat
  isplitl [HO]; · unfold owesI; iexists _; iexact HO
  isplitl [Hs]; · iapply Hs; iempintro
  isplitl [Hr]; · iexact Hr
  isplitl [Hp Hpay]
  · iapply (pieceI_back E.D i hS hD hR)
    isplitl [Hpay]; · iexact Hpay
    iexact Hp
  iexact Hrest

/-- Settling a site: the number of its block, the number of its neighbour, the wait. -/
theorem left_step (i : Site) {P : BitVec 32 → Prop} {dP : ∀ v, Decidable (P v)} {off : BitVec 32 → Fin 3 → Nat}
    {inb : ∀ v, P v → ∀ a, off v a + (bShape3 i.1).size a ≤ S8x512x4096.size a} {sq} {s2 : DmaSem sig} {h1 h2}
    {w : ∀ (v : BitVec 32) (h : P v), (piece i.1 (off v) (inb v h) sq).view.WordExact} {k : ∀ v, P v → BitVec 32 → PUnit → PP F α}
    (hP : ∀ n : Fin 8, P (BitVec.ofNat 32 n.val)) (hs2 : s2 = sendS i)
    (hS : i ∈ S) (hD : i ∉ Dn) (hR : got R (i.1, jj i.2))
    (h : St E S R (insert i Dn) N M A B C ⊢ ww c (k (BitVec.ofNat 32 (held c i.1 (jj i.2)).val) (hP _) (BitVec.ofNat 32 (peer c i).val) ⟨⟩) K) :
    St E S R Dn N M A B C ⊢ ww c
      (Prog.bind (smemLoad E.arg3 (r3 i) h1 rfl) fun v => .op (.assume (P v) (dP v)) fun hP =>
        Prog.bind (smemLoad E.arg2 (r2 (i.1 + ph i.2)) h2 rfl) fun u =>
        .op (.waitDma2 s2 (piece i.1 (off v) (inb v hP.down) sq) (piece i.1 (off v) (inb v hP.down) sq) (w v hP.down) (w v hP.down)) (k v hP.down u)) K :=
  sm3 i (asm (hP _) (sm2 _ (left_core i hs2 rfl hS hD hR h)))

end Cert.Hyper

end
-- ==== Proof.Weight.lean ====
/-
  The weight's actions: each chunk is copied from HBM into a slot, awaited, rounded,
  and stored among the rows of the rounded weight.
-/
module

public import proofs.«01_k».proof.Proof.Comm

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} {E : Env F c} {S R Dn : Finset Site} {N M A B C : ℕ} {α : Type} {K : α → sProp (MT nD τ sig Unit (Elt F) ℕ UU ℕ)}

/-! ## Loads and stores -/

/-- Loading through a rectangle whose contents the state knows. -/
theorem ld_known {X : sProp (MT nD τ sig Unit (Elt F) ℕ UU ℕ)} {cs : CoreSpace} {s : Shape} {e : EltTy} (m : Memref sig .tc cs s e) {r : Rect s} {hl : m.view.LoadsAt r}
    {k : (r.shape.Idx → Elt F e) → PP F α} (I : Finset (Idx ((m.access r).loc (c : Thread nD τ)))) (q : PosShare TreeShare) (v : r.shape.Idx → Elt F e) (hI : (m.access r).set ⊆ I)
    (e : X ⊢ iprop(∃ f, ⌜(m.access r).read (Elt F) f = v⌝ ∗ ((m.access r).loc (c : Thread nD τ) ↦[I]{q} f) ∗ (((m.access r).loc (c : Thread nD τ) ↦[I]{q} f) -∗ X)))
    (h : X ⊢ ww c (k v) K) : X ⊢ ww c (.op (.load m r hl) k) K := by
  iintro HX
  ihave HX := e $$ HX
  icases HX with ⟨%f, %hf, Hpt, HX⟩
  subst hf
  iapply (wp_load_rect 𝒱₀ (c : Thread nD τ) none Set.univ hI) $$ Hpt
  iintro Hpt
  iapply h
  iapply HX $$ Hpt

/-- Loading through a rectangle whose contents do not matter. -/
theorem ld_any {X : sProp (MT nD τ sig Unit (Elt F) ℕ UU ℕ)} {cs : CoreSpace} {s : Shape} {e : EltTy} (m : Memref sig .tc cs s e) {r : Rect s} {hl : m.view.LoadsAt r}
    {k : (r.shape.Idx → Elt F e) → PP F α} (I : Finset (Idx ((m.access r).loc (c : Thread nD τ)))) (q : PosShare TreeShare) (hI : (m.access r).set ⊆ I)
    (e : X ⊢ iprop(∃ f, ((m.access r).loc (c : Thread nD τ) ↦[I]{q} f) ∗ (((m.access r).loc (c : Thread nD τ) ↦[I]{q} f) -∗ X)))
    (h : ∀ v, X ⊢ ww c (k v) K) : X ⊢ ww c (.op (.load m r hl) k) K := by
  iintro HX
  ihave HX := e $$ HX
  icases HX with ⟨%f, Hpt, HX⟩
  iapply (wp_load_rect 𝒱₀ (c : Thread nD τ) none Set.univ hI) $$ Hpt
  iintro Hpt
  iapply (h _)
  iapply HX $$ Hpt

/-- Storing through a whole rectangle. -/
theorem st_all {X Y : sProp (MT nD τ sig Unit (Elt F) ℕ UU ℕ)} {cs : CoreSpace} {s : Shape} {e : EltTy} (m : Memref sig .tc cs s e) {r : Rect s} {w : r.shape.Idx → Elt F e}
    {hx : (m.access r).Stores Finset.univ} {hm} {k : PUnit → PP F α} (I : Finset (Idx ((m.access r).loc (c : Thread nD τ)))) (hI : (m.access r).set ⊆ I)
    (e : X ⊢ iprop(∃ f, ((m.access r).loc (c : Thread nD τ) ↦[I]{fullShare} f) ∗ (((m.access r).loc (c : Thread nD τ) ↦[I]{fullShare} ((m.access r).write (Elt F) f w Finset.univ)) -∗ Y)))
    (h : Y ⊢ ww c (k ⟨⟩) K) : X ⊢ ww c (.op (.store m r w Finset.univ hx hm) k) K := by
  iintro HX
  ihave HX := e $$ HX
  icases HX with ⟨%f, Hpt, HX⟩
  iapply (wp_store (w := w) (Mk := Finset.univ) (hx := hx) (hm := hm) 𝒱₀ (c : Thread nD τ) none Set.univ hI) $$ Hpt
  iintro Hpt
  iapply h
  iapply HX $$ Hpt

/-! ## Chunks of the weight -/

theorem slot_set (s : Fin 2) : (slotM s).view.set = (slotR s).set := by
  show ((tM.view.slice (slotR s)).reshape _ _).set = _
  rw [View.set_reshape, View.set_slice_whole]

theorem chunk_set (q : Fin 4) : (chunkM q).view.set = (chunkR q).set := View.set_slice_whole _ _

theorem ico_insert {a n : ℕ} (h : a < n) : Finset.Ico a n = insert a (Finset.Ico (a + 1) n) := by
  ext x; rw [Finset.mem_insert, Finset.mem_Ico, Finset.mem_Ico]; omega

/-- The copy of a chunk into its slot is begun. -/
theorem weight_start (q : Fin 4) (s : Fin 2) (a : ℕ) {m : Memref sig .tc .hbm S1024x1024 .f32} {n : Memref sig .tc .vmem S1024x1024 .f32} {s1 : DmaSem sig} {w w' hs} {k : PUnit → PP F α}
    (hm : m = chunkM q) (hn : n = slotM s) (h1 : s1 = wgtS s) (hq : q.val = A) (ha : A = 2 * a + s.val) (hfree : (B + 1 - s.val) / 2 = a) (hB : B ≤ A)
    (h : St E S R Dn N M (A + 1) B C ⊢ ww c (k ⟨⟩) K) :
    St E S R Dn N M A B C ⊢ ww c (.op (.enqueueDma m (.here n) (.dma s1) w w' hs) k) K := by
  subst hm hn h1
  have hq4 := q.isLt
  have hs2 := s.isLt
  have ha2 : a < 2 := by omega
  unfold St
  iintro ⟨#Hctx, He, Hpos, HO, Hs, Hr, Hp, Ho, Hst, Hw, Hch, Href⟩
  ihave Hw := (track s (wslotI E.D c A B) (wslotI E.D c (A + 1) B) fun s' hs' => by
    have h1 := s'.isLt
    have h2 : s'.val ≠ s.val := fun e => hs' (Fin.ext e)
    unfold wslotI
    rw [show (A + 1 + 1 - s'.val) / 2 = (A + 1 - s'.val) / 2 by omega]) $$ Hw
  rw [show (wslotI E.D c A B s : sProp 𝕄) = wslotAt E.D c s a a by unfold wslotI; rw [hfree, show (A + 1 - s.val) / 2 = a by omega],
    show (wslotI E.D c (A + 1) B s : sProp 𝕄) = wslotAt E.D c s (a + 1) a by unfold wslotI; rw [hfree, show (A + 1 + 1 - s.val) / 2 = a + 1 by omega]]
  ihave Hch := (track q (chunkI E.D c A B) (chunkI E.D c (A + 1) B) fun q' hq' => by
    have h2 : q'.val ≠ q.val := fun e => hq' (Fin.ext e)
    unfold chunkI
    exact if_congr (by omega) rfl rfl) $$ Hch
  rw [show (chunkI E.D c A B q : sProp 𝕄) = _ from if_pos (Or.inl (by omega)), show (chunkI E.D c (A + 1) B q : sProp 𝕄) = _ from if_neg (by omega)]
  unfold wslotAt
  rw [if_pos (Nat.le_refl a), if_neg (Nat.not_succ_le_self a), show Finset.Ico a 2 = insert a (Finset.Ico (a + 1) 2) from ico_insert ha2,
    show (bigSep (insert a (Finset.Ico (a + 1) 2)) fun r => (dutyTok ER (wgtC c s) r 0 : sProp 𝕄)) = iprop(dutyTok ER (wgtC c s) a 0 ∗ bigSep (Finset.Ico (a + 1) 2) fun r => dutyTok ER (wgtC c s) r 0)
      from bigSep_insert (by simp)]
  icases Hw with ⟨⟨⟨%fd, -, Hd⟩, #Hrs, Ht, Hts⟩, Hw⟩
  icases Hch with ⟨Hsrc, Hch⟩
  ihave #Hi := (ctx_own E.D E.κ c c (osem_wgt s)) $$ Hctx
  iapply (Rounds.wp_copy_pointsTo 𝒱₀ ER (Rd E.D) (c : Thread nD τ) none (src := chunkM q) (dst := slotM s) (sem := .dma (wgtS s)) (q := fullShare) (fs := E.D.w c) (fd := fd)
      (r := a) (d := 0) (κ := E.κ (wgtC c s)) (by rw [duties_wgt E.D c s ha2]; exact Finset.mem_singleton_self _) () NW rfl (amount_wgt E.D c s a 0)
      (by
        rw [payload_wgt, show chunkNo s a = q from Fin.ext (by show (2 * a + s.val) % 4 = q.val; omega)]
        unfold wgtPay
        rw [slot_set, chunk_set]
        exact sep_mono_left (Entails.of_eq (pointsTo_congr fun j hj => write_on (slotM s).view _ _ _ (tC_copy E.D c s q) j (by rw [slot_set]; exact hj))))) $$ [Hsrc Hd Ht]
  · isplitr; · iexact Hi
    isplitl [Hsrc]; · rw [chunk_set]; iexact Hsrc
    isplitl [Hd]; · rw [slot_set]; iexact Hd
    isplitl [Ht]; · iexact Ht
    iexact Hrs
  iintro Hcr
  iapply h
  unfold St
  isplitr; · iexact Hctx
  isplitl [He]; · iexact He
  isplitl [Hpos]; · iexact Hpos
  isplitl [HO]; · iexact HO
  isplitl [Hs]; · iexact Hs
  isplitl [Hr]; · iexact Hr
  isplitl [Hp]; · iexact Hp
  isplitl [Ho]; · iexact Ho
  isplitl [Hst]; · iexact Hst
  isplitl [Hw Hcr Hts]
  · iapply Hw
    isplitl [Hcr]; · iexact Hcr
    isplitr; · iexact Hrs
    iexact Hts
  isplitl [Hch]; · iapply Hch; iempintro
  iexact Href

/-- The wait for a chunk. -/
theorem weight_arrive (q : Fin 4) (s : Fin 2) (b : ℕ) {sp sp' : Space} {s0 s' : Shape} {e e' : EltTy} {src : Memref sig .tc sp' s' e'} {dst : Memref sig .tc sp s0 e} {s1 : DmaSem sig}
    {w : src.view.WordExact} {w' : dst.view.WordExact} {k : PUnit → PP F α}
    (h1 : s1 = wgtS s) (hN : dst.view.dmaCredit = NW) (hq : q.val = B) (hb : B = 2 * b + s.val) (hbusy : (A + 1 - s.val) / 2 = b + 1)
    (h : St E S R Dn N M A (B + 1) C ⊢ ww c (k ⟨⟩) K) :
    St E S R Dn N M A B C ⊢ ww c (.op (.waitDma2 s1 src dst w w') k) K := by
  subst h1
  have hq4 := q.isLt
  have hs2 := s.isLt
  have hb2 : b < 2 := by omega
  have hAB : B < A := by omega
  unfold St owesI
  iintro ⟨#Hctx, He, Hpos, ⟨%W, HO⟩, Hs, Hr, Hp, Ho, Hst, Hw, Hch, Href⟩
  ihave Hw := (track s (wslotI E.D c A B) (wslotI E.D c A (B + 1)) fun s' hs' => by
    have h1 := s'.isLt
    have h2 : s'.val ≠ s.val := fun e => hs' (Fin.ext e)
    unfold wslotI
    rw [show (B + 1 + 1 - s'.val) / 2 = (B + 1 - s'.val) / 2 by omega]) $$ Hw
  rw [show (wslotI E.D c A B s : sProp 𝕄) = wslotAt E.D c s (b + 1) b by unfold wslotI; rw [hbusy, show (B + 1 - s.val) / 2 = b by omega],
    show (wslotI E.D c A (B + 1) s : sProp 𝕄) = wslotAt E.D c s (b + 1) (b + 1) by unfold wslotI; rw [hbusy, show (B + 1 + 1 - s.val) / 2 = b + 1 by omega]]
  ihave Hch := (track q (chunkI E.D c A B) (chunkI E.D c A (B + 1)) fun q' hq' => by
    have h2 : q'.val ≠ q.val := fun e => hq' (Fin.ext e)
    unfold chunkI
    exact if_congr (by omega) rfl rfl) $$ Hch
  rw [show (chunkI E.D c A (B + 1) q : sProp 𝕄) = _ from if_pos (Or.inr (by omega))]
  unfold wslotAt
  rw [if_neg (Nat.not_succ_le_self b), if_pos (Nat.le_refl (b + 1))]
  icases Hw with ⟨⟨Hcr, -, Hts⟩, Hw⟩
  icases Hch with ⟨-, Hch⟩
  ihave Hpos := (posn_step (R := R) (Dn := Dn) (M := M) (B := B) (R' := R) (Dn' := Dn) (M' := M) (B' := B + 1) (osem_wgt s) (.wgt s) (use_wgt s) (fun h => by cases h) fun u hu => by
    cases u <;> try rfl
    rename_i s'
    have h1 := s'.isLt
    have h2 : s'.val ≠ s.val := fun e => hu (by rw [Fin.ext e])
    show (B + 1 - s'.val) / 2 = (B + 1 + 1 - s'.val) / 2
    omega) $$ Hpos
  rw [show rnd R Dn M B (.wgt s) = b by show (B + 1 - s.val) / 2 = b; omega, show rnd R Dn M (B + 1) (.wgt s) = b + 1 by show (B + 1 + 1 - s.val) / 2 = b + 1; omega]
  icases Hpos with ⟨Hat, Hpos⟩
  ihave #Hi := (ctx_own E.D E.κ c c (osem_wgt s)) $$ Hctx
  iapply (Rounds.wp_wait_rest_token 𝒱₀ ER (Rd E.D) (c : Thread nD τ) none (κ := E.κ (wgtC c s))
      (wpE_waitDma2_eq (src := src) (dst := dst) 𝒱₀ (c : Thread nD τ) none Set.univ) (Set.mem_univ _) () (O := owed S c) (W := W) (R := b) (m := 0) (T := ∅)
      ((Nat.zero_add _).trans (hN.trans (expect_wgt E.D c s hb2).symm))) $$ [Hcr HO Hat]
  · rw [hN]
    isplitr; · iexact Hi
    isplitl [Hcr]; · iexact Hcr
    isplitl [HO]; · iexact HO
    isplitr; · iapply (mayWait_low c _ S (by rw [use_wgt]; rfl)); iapply (ctx_levels E.D E.κ c) $$ Hctx
    iexact Hat
  iintro ⟨HO, Hat, #Hrd, Hpay⟩
  ihave Hpay := (Entails.of_eq (rest_wgt E.D c s hb2)) $$ Hpay
  ihave Hpay := (Entails.of_eq (show (wgtPay E.D c s (chunkNo s b) : sProp 𝕄) = iprop(tPt c (slotR s).set fullShare (tC E.D c q) ∗ hPt c (chunkR q).set fullShare (E.D.w c)) by
    rw [show chunkNo s b = q from Fin.ext (by show (2 * b + s.val) % 4 = q.val; omega)]; rfl)) $$ Hpay
  icases Hpay with ⟨Ht, Hh⟩
  iapply h
  unfold St
  isplitr; · iexact Hctx
  isplitl [He]; · iexact He
  isplitl [Hpos Hat]; · iapply Hpos $$ Hat
  isplitl [HO]; · unfold owesI; iexists _; iexact HO
  isplitl [Hs]; · iexact Hs
  isplitl [Hr]; · iexact Hr
  isplitl [Hp]; · iexact Hp
  isplitl [Ho]; · iexact Ho
  isplitl [Hst]; · iexact Hst
  isplitl [Hw Ht Hts]
  · iapply Hw
    isplitl [Ht]
    · iexists _
      isplitr
      · ipureintro
        intro q' hq'
        rw [show q' = q from Fin.ext (by omega)]
      iexact Ht
    isplitr; · iexact Hrd
    iexact Hts
  isplitl [Hch Hh]; · iapply Hch $$ Hh
  iexact Href

/-- Loading a slot that holds a chunk. -/
theorem ld_slot (q : Fin 4) (s : Fin 2) {hl} {k : (S1x1024x1024.Idx → Elt F .f32) → PP F α}
    (hfree : (A + 1 - s.val) / 2 ≤ (B + 1 - s.val) / 2) (hq : q.val + 2 = 2 * ((B + 1 - s.val) / 2) + s.val)
    (h : St E S R Dn N M A B C ⊢ ww c (k (chunkC E.D c q)) K) :
    St E S R Dn N M A B C ⊢ ww c (.op (.load tM (slotR s) hl) k) K := by
  refine ld_known tM (slotR s).set fullShare _ (by rw [View.set_slice_whole]) ?_ h
  unfold St
  iintro ⟨Hctx, He, Hpos, HO, Hs, Hr, Hp, Ho, Hst, Hw, Hrest⟩
  ihave Hw := (peek s (wslotI E.D c A B)) $$ Hw
  rw [show (wslotI E.D c A B s : sProp 𝕄) = iprop((∃ f, ⌜∀ q : Fin 4, q.val + 2 = 2 * ((B + 1 - s.val) / 2) + s.val → f = tC E.D c q⌝ ∗ tPt c (slotR s).set fullShare f)
    ∗ reached ER (wgtC c s) ((B + 1 - s.val) / 2) ∗ bigSep (Finset.Ico ((A + 1 - s.val) / 2) 2) fun r => dutyTok ER (wgtC c s) r 0) by
      unfold wslotI wslotAt; rw [if_pos hfree]]
  icases Hw with ⟨⟨⟨%f, %hf, Ht⟩, Hts⟩, Hw⟩
  iexists f
  isplitr; · ipureintro; rw [hf q hq]; exact tC_load E.D c s q
  isplitl [Ht]; · iexact Ht
  iintro Ht
  isplitl [Hctx]; · iexact Hctx
  isplitl [He]; · iexact He
  isplitl [Hpos]; · iexact Hpos
  isplitl [HO]; · iexact HO
  isplitl [Hs]; · iexact Hs
  isplitl [Hr]; · iexact Hr
  isplitl [Hp]; · iexact Hp
  isplitl [Ho]; · iexact Ho
  isplitl [Hst]; · iexact Hst
  isplitl [Hw Ht Hts]
  · iapply Hw
    isplitl [Ht]
    · iexists f
      isplitr; · ipureintro; exact hf
      iexact Ht
    iexact Hts
  iexact Hrest

/-- The rounded weight is at hand. -/
theorem weight_open : St E S R Dn N M A B C ⊢ iprop(∃ f, ⌜∀ i, (i 0).val < 1024 * C → f i = wC E.D c i⌝ ∗ wPt c Finset.univ fullShare f
    ∗ (∀ C', (∃ f, ⌜∀ i, (i 0).val < 1024 * C' → f i = wC E.D c i⌝ ∗ wPt c Finset.univ fullShare f) -∗ St E S R Dn N M A B C')) := by
  unfold St
  iintro ⟨Hctx, He, Hpos, HO, Hs, Hr, Hp, Ho, Hst, Hw, Hch, Href⟩
  unfold wrefI
  icases Href with ⟨%f, %hf, Href⟩
  iexists f
  isplitr; · ipureintro; exact hf
  isplitl [Href]; · iexact Href
  iintro %C' Href
  isplitl [Hctx]; · iexact Hctx
  isplitl [He]; · iexact He
  isplitl [Hpos]; · iexact Hpos
  isplitl [HO]; · iexact HO
  isplitl [Hs]; · iexact Hs
  isplitl [Hr]; · iexact Hr
  isplitl [Hp]; · iexact Hp
  isplitl [Ho]; · iexact Ho
  isplitl [Hst]; · iexact Hst
  isplitl [Hw]; · iexact Hw
  isplitl [Hch]; · iexact Hch
  iexact Href

/-- Loading rows of the rounded weight that are about to be written. -/
theorem ld_rows {r : Rect S4096x1024} {hl} {k : (r.shape.Idx → Elt F .bf16) → PP F α} (h : ∀ v, St E S R Dn N M A B C ⊢ ww c (k v) K) :
    St E S R Dn N M A B C ⊢ ww c (.op (.load wM r hl) k) K := by
  refine ld_any wM Finset.univ fullShare (Finset.subset_univ _) ?_ h
  iintro H
  ihave H := (weight_open (E := E) (C := C)) $$ H
  icases H with ⟨%f, %hf, Hw, H⟩
  iexists f
  isplitl [Hw]; · iexact Hw
  iintro Hw
  iapply H
  iexists f
  isplitr; · ipureintro; exact hf
  iexact Hw

/-- Storing a rounded chunk. -/
theorem st_chunk (q : Fin 4) {w : S1024x1024.Idx → Elt F .bf16} {hx hm} {k : PUnit → PP F α} (hw : w = k0_pay2 (chunkC E.D c q)) (hq : q.val = C)
    (h : St E S R Dn N M A B (C + 1) ⊢ ww c (k ⟨⟩) K) :
    St E S R Dn N M A B C ⊢ ww c (.op (.store wM (chunkR q) w Finset.univ hx hm) k) K := by
  refine st_all wM Finset.univ (Finset.subset_univ _) ?_ h
  iintro H
  ihave H := (weight_open (E := E) (C := C)) $$ H
  icases H with ⟨%f, %hf, Hw, H⟩
  iexists f
  isplitl [Hw]; · iexact Hw
  iintro Hw
  iapply H
  iexists _
  isplitr; swap
  · iexact Hw
  ipureintro
  intro i hi
  by_cases hc : i ∈ (chunkR q).set
  · exact write_on (wM.access (chunkR q)) f (wC E.D c) w (fun x => (wC_chunk E.D c q x).trans (by rw [hw])) i (by rw [View.set_slice_whole]; exact hc)
  · rw [View.write_of_not_mem (v := wM.access (chunkR q)) (Val := Elt F) f w Finset.univ (by rw [View.setOn_univ, View.set_slice_whole]; exact hc)]
    refine hf i ?_
    rw [mem_chunk] at hc
    omega

/-- Loading the whole rounded weight. -/
theorem ld_weight {inb} {hl} {k : (S4096x1024.Idx → Elt F .bf16) → PP F α} (h : St E S R Dn N M A B 4 ⊢ ww c (k (wC E.D c)) K) :
    St E S R Dn N M A B 4 ⊢ ww c (.op (.load wM (Rect.unit (s := S4096x1024) ![0, 0] S4096x1024.size inb) hl) k) K := by
  refine ld_known wM Finset.univ fullShare _ (Finset.subset_univ _) ?_ h
  iintro H
  ihave H := (weight_open (E := E) (C := 4)) $$ H
  icases H with ⟨%f, %hf, Hw, H⟩
  iexists f
  isplitr
  · ipureintro
    funext x
    have e : (Rect.unit (s := S4096x1024) ![0, 0] S4096x1024.size inb).emb x = x := funext fun a => by
      match a with
      | 0 => exact Fin.ext (by show 0 + 1 * (x 0).val = (x 0).val; omega)
      | 1 => exact Fin.ext (by show 0 + 1 * (x 1).val = (x 1).val; omega)
    show f ((Rect.unit (s := S4096x1024) ![0, 0] S4096x1024.size inb).emb x) = _
    rw [e]
    exact hf x (Nat.lt_of_lt_of_eq (x 0).isLt rfl)
  isplitl [Hw]; · iexact Hw
  iintro Hw
  iapply H
  iexists f
  isplitr; · ipureintro; exact hf
  iexact Hw

end Cert.Hyper

end
-- ==== Proof.Emit.lean ====
/-
  The product's actions: a band of a block is loaded and multiplied by the rounded
  weight, the product is staged in a slot, and the slot is copied to the result.
-/
module

public import proofs.«01_k».proof.Proof.Weight

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} {E : Env F c} {S R Dn : Finset Site} {N M A B C : ℕ} {α : Type} {K : α → sProp (MT nD τ sig Unit (Elt F) ℕ UU ℕ)}

theorem stage_set (s : Fin 2) (t : Fin 3) : (stageM s t).view.set = (stageR s t).set := by
  show ((sM.view.slice (stageR s t)).reshape _ _).set = _
  rw [View.set_reshape, View.set_slice_whole]

theorem out_set (o : Dev nD) (t : Fin 3) : (outM o t).view.set = (rowsR o t).set := View.set_slice_whole _ _

theorem stage_sub (s : Fin 2) (t : Fin 3) : (stageR s t).set ⊆ (stageR s 0).set := fun i hi => by
  rw [mem_stage] at hi ⊢
  exact ⟨hi.1, Nat.lt_of_lt_of_le hi.2 (bw_le t)⟩

/-- The rows of the result by an offset that names them. -/
theorem out_eq {off : Fin 2 → Nat} (o : Dev nD) (t : Fin 3) {inb} (h : off = ![512 * o.val + boff t, 0]) :
    oM.slice (Rect.unit (s := S4096x1024) off (oShape t).size inb) (fun _ => rfl) = outM o t := by
  subst h; rfl

/-- Loading a band of a block at hand. -/
theorem ld_band (n : Dev nD) (t : Fin 3) (y : Fin 8) {off : Fin 3 → Nat} {inb} {hl} {k : ((bShape3 t).Idx → Elt F .bf16) → PP F α}
    (hn : n = held c t y) (hoff : off = ![n.val, boff t, 0]) (hR : got R (t, y))
    (h : St E S R Dn N M A B C ⊢ ww c (k (bandC E.D n t)) K) :
    St E S R Dn N M A B C ⊢ ww c (.op (.load gM (Rect.unit (s := S8x512x4096) off (bShape3 t).size inb) hl) k) K := by
  subst hoff hn
  refine ld_known gM (pieceR (held c t y) t).set (shR y) _ (by rw [View.set_slice_whole]) ?_ h
  unfold St
  iintro ⟨Hctx, He, Hpos, HO, Hs, Hr, Hp, Hrest⟩
  ihave Hp := (peek (t, y) (pieceI E.D c S R Dn)) $$ Hp
  rw [show (pieceI E.D c S R Dn (t, y) : sProp 𝕄) = _ from if_pos hR]
  icases Hp with ⟨⟨Hg, Hk⟩, Hp⟩
  iexists gC E.D
  isplitr; · ipureintro; rfl
  isplitl [Hg]; · iexact Hg
  iintro Hg
  isplitl [Hctx]; · iexact Hctx
  isplitl [He]; · iexact He
  isplitl [Hpos]; · iexact Hpos
  isplitl [HO]; · iexact HO
  isplitl [Hs]; · iexact Hs
  isplitl [Hr]; · iexact Hr
  isplitl [Hp Hg Hk]
  · iapply Hp
    isplitl [Hg]; · iexact Hg
    iexact Hk
  iexact Hrest

/-- A staging slot that no copy reads. -/
theorem slot_free {s : Fin 2} (hfree : (N + 1 - s.val) / 2 ≤ (M + 1 - s.val) / 2) : (slotI c N M s : sProp 𝕄)
    = iprop((∃ f, sPt c (stageR s 0).set fullShare f) ∗ reached ER (outC c s) ((M + 1 - s.val) / 2)
      ∗ bigSep (Finset.Ico ((N + 1 - s.val) / 2) 12) fun r => dutyTok ER (outC c s) r 0) := by
  unfold slotI slotAt; rw [if_pos hfree]

/-- Loading from a staging slot that is about to be written. -/
theorem ld_stage (s : Fin 2) (t : Fin 3) {hl} {k : ((oShape3 t).Idx → Elt F .f32) → PP F α} (hfree : (N + 1 - s.val) / 2 ≤ (M + 1 - s.val) / 2)
    (h : ∀ v, St E S R Dn N M A B C ⊢ ww c (k v) K) :
    St E S R Dn N M A B C ⊢ ww c (.op (.load sM (stageR s t) hl) k) K := by
  refine ld_any sM (stageR s 0).set fullShare (by rw [View.set_slice_whole]; exact stage_sub s t) ?_ h
  unfold St
  iintro ⟨Hctx, He, Hpos, HO, Hs, Hr, Hp, Ho, Hst, Hrest⟩
  ihave Hst := (peek s (slotI c N M)) $$ Hst
  rw [slot_free hfree]
  icases Hst with ⟨⟨⟨%f, Hf⟩, Hts⟩, Hst⟩
  iexists f
  isplitl [Hf]; · iexact Hf
  iintro Hf
  isplitl [Hctx]; · iexact Hctx
  isplitl [He]; · iexact He
  isplitl [Hpos]; · iexact Hpos
  isplitl [HO]; · iexact HO
  isplitl [Hs]; · iexact Hs
  isplitl [Hr]; · iexact Hr
  isplitl [Hp]; · iexact Hp
  isplitl [Ho]; · iexact Ho
  isplitl [Hst Hf Hts]
  · iapply Hst
    isplitl [Hf]; · iexists f; iexact Hf
    iexact Hts
  iexact Hrest

/-- What the copy of staging slot `s` to band `t` of block `n`'s rows takes, and the state after it. -/
def pending (E : Env F c) (S R Dn : Finset Site) (N M A B C : ℕ) (s : Fin 2) (n : Dev nD) (t : Fin 3) : sProp 𝕄 :=
  iprop(cellInv ER (Rd E.D) (E.κ (outC c s)) (outC c s) ∗ dutyTok ER (outC c s) ((N + 1 - s.val) / 2) 0 ∗ reached ER (outC c s) ((N + 1 - s.val) / 2)
    ∗ (∃ f, oPt c (rowsR n t).set fullShare f) ∗ (cred (tallyAt (outC c s) () (NO t)) -∗ St E S R Dn (N + 1) M A B C))

/-- The product of band `t` of block `n` is in staging slot `s`, ready to be copied. -/
def staged (E : Env F c) (S R Dn : Finset Site) (N M A B C : ℕ) (s : Fin 2) (n : Dev nD) (t : Fin 3) : sProp 𝕄 :=
  iprop((∃ f, ⌜(sM.access (stageR s t)).read (Elt F) f = prodP t (bandC E.D n t) (wC E.D c)⌝ ∗ sPt c (stageR s t).set fullShare f) ∗ pending E S R Dn N M A B C s n t)

/-- A free staging slot, and what the next copy from it takes. -/
theorem stage_open (s : Fin 2) (y : Fin 8) (t : Fin 3) (a : ℕ) (hy : em N = (t, y)) (ha : N = 2 * a + s.val) (hN : N < 24) (hfree : (M + 1 - s.val) / 2 = a) :
    St E S R Dn N M A B C ⊢ iprop((∃ f, sPt c (stageR s t).set fullShare f) ∗ pending E S R Dn N M A B C s (held c t y) t) := by
  have hs2 := s.isLt
  have ha2 : a < 12 := by omega
  have hno : emNo (t, y) = N := by rw [← hy]; exact emNo_em N hN
  unfold St
  iintro ⟨#Hctx, He, Hpos, HO, Hs, Hr, Hp, Ho, Hst, Hrest⟩
  ihave Hst := (track s (slotI c N M) (slotI c (N + 1) M) fun s' hs' => by
    have h1 := s'.isLt
    have h2 : s'.val ≠ s.val := fun e => hs' (Fin.ext e)
    unfold slotI
    rw [show (N + 1 + 1 - s'.val) / 2 = (N + 1 - s'.val) / 2 by omega]) $$ Hst
  rw [show (slotI c N M s : sProp 𝕄) = slotAt c s a a by unfold slotI; rw [hfree, show (N + 1 - s.val) / 2 = a by omega],
    show (slotI c (N + 1) M s : sProp 𝕄) = slotAt c s (a + 1) a by unfold slotI; rw [hfree, show (N + 1 + 1 - s.val) / 2 = a + 1 by omega]]
  unfold slotAt
  rw [if_pos (Nat.le_refl a), if_neg (Nat.not_succ_le_self a), ico_insert ha2,
    show (bigSep (insert a (Finset.Ico (a + 1) 12)) fun r => (dutyTok ER (outC c s) r 0 : sProp 𝕄)) = iprop(dutyTok ER (outC c s) a 0 ∗ bigSep (Finset.Ico (a + 1) 12) fun r => dutyTok ER (outC c s) r 0)
      from bigSep_insert (by simp), ← ha, hy]
  ihave Ho := (track (t, y) (outI E.D c N M) (outI E.D c (N + 1) M) fun y' hy' => by
    have hne : emNo y' ≠ N := fun e => hy' (by rw [← em_emNo y', e, hy])
    unfold outI
    exact if_congr (by omega) rfl rfl) $$ Ho
  rw [show (outI E.D c N M (t, y) : sProp 𝕄) = _ from if_pos (by omega),
    show (outI E.D c (N + 1) M (t, y) : sProp 𝕄) = _ from (if_neg (by omega)).trans (if_pos (by omega))]
  icases Hst with ⟨⟨⟨%fd, Hd⟩, #Hrs, Ht, Hts⟩, Hst⟩
  icases Ho with ⟨Hrows, Ho⟩
  ihave Hd := (pointsTo_split_subset (stage_sub s t)).1 $$ Hd
  icases Hd with ⟨Hd, Hd'⟩
  ihave #Hi := (ctx_own E.D E.κ c c (osem_out s)) $$ Hctx
  isplitl [Hd]; · iexists fd; iexact Hd
  unfold pending
  rw [show (N + 1 - s.val) / 2 = a by omega]
  isplitr; · iexact Hi
  isplitl [Ht]; · iexact Ht
  isplitr; · iexact Hrs
  isplitl [Hrows]; · iexact Hrows
  iintro Hcr
  unfold St
  isplitr; · iexact Hctx
  isplitl [He]; · iexact He
  isplitl [Hpos]; · iexact Hpos
  isplitl [HO]; · iexact HO
  isplitl [Hs]; · iexact Hs
  isplitl [Hr]; · iexact Hr
  isplitl [Hp]; · iexact Hp
  isplitl [Ho]; · iapply Ho; iempintro
  isplitl [Hst Hd' Hcr Hts]
  · iapply Hst
    isplitl [Hd' Hcr]
    · isplitl [Hd']; · iexists fd; iexact Hd'
      iexact Hcr
    isplitr; · iexact Hrs
    iexact Hts
  iexact Hrest

/-- Storing a product in a staging slot. -/
theorem st_stage (s : Fin 2) (y : Fin 8) (t : Fin 3) (a : ℕ) {w : (oShape3 t).Idx → Elt F .f32} {hx hm} {k : PUnit → PP F α}
    (hw : w = prodP t (bandC E.D (held c t y) t) (wC E.D c)) (hy : em N = (t, y)) (ha : N = 2 * a + s.val) (hN : N < 24) (hfree : (M + 1 - s.val) / 2 = a)
    (h : staged E S R Dn N M A B C s (held c t y) t ⊢ ww c (k ⟨⟩) K) :
    St E S R Dn N M A B C ⊢ ww c (.op (.store sM (stageR s t) w Finset.univ hx hm) k) K := by
  refine st_all sM (stageR s t).set (by rw [View.set_slice_whole]) ?_ h
  iintro H
  ihave H := (stage_open s y t a hy ha hN hfree) $$ H
  icases H with ⟨⟨%f, Hf⟩, H⟩
  iexists f
  isplitl [Hf]; · iexact Hf
  iintro Hf
  unfold staged
  isplitl [Hf]
  · iexists _
    isplitr; swap
    · iexact Hf
    ipureintro
    rw [View.read_write_univ, hw]
  iexact H

/-- The copy of a staged product to the result is begun. -/
theorem out_start (s : Fin 2) (t : Fin 3) (n : Dev nD) {m : Memref sig .tc .vmem (oShape t) .f32} {m' : Memref sig .tc .hbm (oShape t) .f32} {s1 : DmaSem sig} {w w' hs} {k : PUnit → PP F α}
    (hm : m = stageM s t) (hm' : m' = outM n t) (h1 : s1 = outS s) (y : Fin 8) (hn : n = held c t y) (hy : em N = (t, y)) (ha : N = 2 * ((N + 1 - s.val) / 2) + s.val) (hN : N < 24)
    (h : St E S R Dn (N + 1) M A B C ⊢ ww c (k ⟨⟩) K) :
    staged E S R Dn N M A B C s n t ⊢ ww c (.op (.enqueueDma m (.here m') (.dma s1) w w' hs) k) K := by
  subst hm hm' h1 hn
  have ha2 : (N + 1 - s.val) / 2 < 12 := by omega
  have hya : em (2 * ((N + 1 - s.val) / 2) + s.val) = (t, y) := by rw [← ha, hy]
  unfold staged pending
  iintro ⟨⟨%f, %hf, Hf⟩, Hi, Ht, Hrs, ⟨%fd, Hd⟩, Hnext⟩
  iapply (Rounds.wp_copy_pointsTo 𝒱₀ ER (Rd E.D) (c : Thread nD τ) none (src := stageM s t) (dst := outM (held c t y) t) (sem := .dma (outS s)) (q := fullShare) (fs := f) (fd := fd)
      (r := (N + 1 - s.val) / 2) (d := 0) (κ := E.κ (outC c s)) (by rw [duties_out E.D c s ha2]; exact Finset.mem_singleton_self _) () (NO t) rfl (by rw [amount_out, hya])
      (by
        rw [payload_out, hya]
        unfold outPay
        rw [stage_set, out_set]
        refine BIClass.sep_mono (Entails.of_eq (pointsTo_congr fun j hj => write_on (outM (held c t y) t).view _ _ _ (fun x => ?_) j (by rw [out_set]; exact hj))) (exists_intro (Φ := fun f => sPt c (stageR s t).set fullShare f) f)
        rw [oC_rows E.D c (held c t y) t (fun | 0 => ⟨0, Nat.one_pos⟩ | 1 => x 0 | 2 => x 1) x rfl rfl, ← hf]
        show f ((stageR s t).emb _) = f ((stageR s t).emb (Shape.reshapeEquiv _ x))
        rw [unsqueeze _ x (fun | 0 => ⟨0, Nat.one_pos⟩ | 1 => x 0 | 2 => x 1) rfl rfl]
        rfl)) $$ [Hf Hd Ht Hi Hrs]
  · isplitl [Hi]; · iexact Hi
    isplitl [Hf]; · rw [stage_set]; iexact Hf
    isplitl [Hd]; · rw [out_set]; iexact Hd
    isplitl [Ht]; · iexact Ht
    iexact Hrs
  iintro Hcr
  iapply h
  iapply Hnext $$ Hcr

/-- The wait for a copy to the result. -/
theorem out_arrive (s : Fin 2) (t : Fin 3) (y : Fin 8) (b : ℕ) {sp sp' : Space} {s0 s' : Shape} {e e' : EltTy} {src : Memref sig .tc sp' s' e'} {dst : Memref sig .tc sp s0 e} {s1 : DmaSem sig}
    {w : src.view.WordExact} {w' : dst.view.WordExact} {k : PUnit → PP F α}
    (h1 : s1 = outS s) (hN : dst.view.dmaCredit = NO t) (hy : em M = (t, y)) (hb : M = 2 * b + s.val) (hM : M < 24) (hbusy : (N + 1 - s.val) / 2 = b + 1)
    (h : St E S R Dn N (M + 1) A B C ⊢ ww c (k ⟨⟩) K) :
    St E S R Dn N M A B C ⊢ ww c (.op (.waitDma2 s1 src dst w w') k) K := by
  subst h1
  have hs2 := s.isLt
  have hb2 : b < 12 := by omega
  have hno : emNo (t, y) = M := by rw [← hy]; exact emNo_em M hM
  have hyb : em (2 * b + s.val) = (t, y) := by rw [← hb, hy]
  unfold St owesI
  iintro ⟨#Hctx, He, Hpos, ⟨%W, HO⟩, Hs, Hr, Hp, Ho, Hst, Hrest⟩
  ihave Hst := (track s (slotI c N M) (slotI c N (M + 1)) fun s' hs' => by
    have h1 := s'.isLt
    have h2 : s'.val ≠ s.val := fun e => hs' (Fin.ext e)
    unfold slotI
    rw [show (M + 1 + 1 - s'.val) / 2 = (M + 1 - s'.val) / 2 by omega]) $$ Hst
  rw [show (slotI c N M s : sProp 𝕄) = slotAt c s (b + 1) b by unfold slotI; rw [hbusy, show (M + 1 - s.val) / 2 = b by omega],
    show (slotI c N (M + 1) s : sProp 𝕄) = slotAt c s (b + 1) (b + 1) by unfold slotI; rw [hbusy, show (M + 1 + 1 - s.val) / 2 = b + 1 by omega]]
  unfold slotAt
  rw [if_neg (Nat.not_succ_le_self b), if_pos (Nat.le_refl (b + 1)), hyb]
  ihave Ho := (track (t, y) (outI E.D c N M) (outI E.D c N (M + 1)) fun y' hy' => by
    have hne : emNo y' ≠ M := fun e => hy' (by rw [← em_emNo y', e, hy])
    unfold outI
    exact if_congr Iff.rfl rfl (if_congr (by omega) rfl rfl)) $$ Ho
  rw [show (outI E.D c N (M + 1) (t, y) : sProp 𝕄) = _ from (if_neg (by omega)).trans (if_neg (by omega))]
  icases Hst with ⟨⟨⟨⟨%f, Hf⟩, Hcr⟩, -, Hts⟩, Hst⟩
  icases Ho with ⟨-, Ho⟩
  ihave Hpos := (posn_step (R := R) (Dn := Dn) (M := M) (B := B) (R' := R) (Dn' := Dn) (M' := M + 1) (B' := B) (osem_out s) (.out s) (use_out s) (fun h => by cases h) fun u hu => by
    cases u <;> try rfl
    rename_i s'
    have h1 := s'.isLt
    have h2 : s'.val ≠ s.val := fun e => hu (by rw [Fin.ext e])
    show (M + 1 - s'.val) / 2 = (M + 1 + 1 - s'.val) / 2
    omega) $$ Hpos
  rw [show rnd R Dn M B (.out s) = b by show (M + 1 - s.val) / 2 = b; omega, show rnd R Dn (M + 1) B (.out s) = b + 1 by show (M + 1 + 1 - s.val) / 2 = b + 1; omega]
  icases Hpos with ⟨Hat, Hpos⟩
  ihave #Hi := (ctx_own E.D E.κ c c (osem_out s)) $$ Hctx
  iapply (Rounds.wp_wait_rest_token 𝒱₀ ER (Rd E.D) (c : Thread nD τ) none (κ := E.κ (outC c s))
      (wpE_waitDma2_eq (src := src) (dst := dst) 𝒱₀ (c : Thread nD τ) none Set.univ) (Set.mem_univ _) () (O := owed S c) (W := W) (R := b) (m := 0) (T := ∅)
      ((Nat.zero_add _).trans (hN.trans ((expect_out E.D c s hb2).trans (by rw [hyb])).symm))) $$ [Hcr HO Hat]
  · rw [hN]
    isplitr; · iexact Hi
    isplitl [Hcr]; · iexact Hcr
    isplitl [HO]; · iexact HO
    isplitr; · iapply (mayWait_low c _ S (by rw [use_out]; rfl)); iapply (ctx_levels E.D E.κ c) $$ Hctx
    iexact Hat
  iintro ⟨HO, Hat, #Hrd, Hpay⟩
  ihave Hpay := (Entails.of_eq ((rest_out E.D c s hb2).trans (by rw [hyb]; rfl : _ = iprop(oPt c (rowsR (held c t y) t).set fullShare (oC E.D c) ∗ ∃ f, sPt c (stageR s t).set fullShare f)))) $$ Hpay
  icases Hpay with ⟨Hrows, ⟨%g, Hg⟩⟩
  iapply h
  unfold St
  isplitr; · iexact Hctx
  isplitl [He]; · iexact He
  isplitl [Hpos Hat]; · iapply Hpos $$ Hat
  isplitl [HO]; · unfold owesI; iexists _; iexact HO
  isplitl [Hs]; · iexact Hs
  isplitl [Hr]; · iexact Hr
  isplitl [Hp]; · iexact Hp
  isplitl [Ho Hrows]; · iapply Ho $$ Hrows
  isplitl [Hst Hf Hg Hts]
  · iapply Hst
    isplitl [Hf Hg]
    · iexists _
      iapply (pointsTo_join_subset (stage_sub s t))
      isplitl [Hg]; · iexact Hg
      iexact Hf
    isplitr; · iexact Hrd
    iexact Hts
  iexact Hrest

end Cert.Hyper

end
-- ==== Proof.Steps.lean ====
/-
  The actions by number: the sites are sent, received and settled in a fixed order, so
  a state is named by how many of each have happened.
-/
module

public import proofs.«01_k».proof.Proof.Emit

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} {E : Env F c} {S R Dn : Finset Site} {N M A B C : ℕ} {α : Type} {K : α → sProp (MT nD τ sig Unit (Elt F) ℕ UU ℕ)}

/-! ## Orders -/

/-- The number of a site in the order of sending. -/
def sNo (i : Site) : ℕ :=
  (![i.1.val * 3, i.1.val * 3 + 1, 9 + 2 * i.1.val, i.1.val * 3 + 2, 10 + 2 * i.1.val, 15 + i.1.val, 18 + i.1.val] : Fin 7 → ℕ) i.2
/-- The number of a site in the order of receiving. -/
def rNo (i : Site) : ℕ :=
  (![i.1.val, 3 + i.1.val, 6 + i.1.val, 9 + i.1.val, 12 + i.1.val, 15 + i.1.val, 18 + i.1.val] : Fin 7 → ℕ) i.2
/-- The number of a site in the order of settling. -/
def gNo (i : Site) : ℕ :=
  (![i.1.val, 3 + 2 * i.1.val, 4 + 2 * i.1.val, 9 + 4 * i.1.val, 10 + 4 * i.1.val, 11 + 4 * i.1.val, 12 + 4 * i.1.val] : Fin 7 → ℕ) i.2

theorem sNo_inj : ∀ i j, sNo i = sNo j → i = j := by decide +kernel
theorem rNo_inj : ∀ i j, rNo i = rNo j → i = j := by decide +kernel
theorem gNo_inj : ∀ i j, gNo i = gNo j → i = j := by decide +kernel

/-- The sites whose number is below `n`. -/
def below (f : Site → ℕ) (n : ℕ) : Finset Site := Finset.univ.filter fun i => f i < n

theorem mem_below {f : Site → ℕ} {n : ℕ} {i : Site} : i ∈ below f n ↔ f i < n := by simp [below]

theorem below_succ {f : Site → ℕ} (hf : ∀ i j, f i = f j → i = j) {n : ℕ} {i : Site} (h : f i = n) : insert i (below f n) = below f (n + 1) := by
  ext j
  rw [Finset.mem_insert, mem_below, mem_below]
  constructor
  · rintro (rfl | h') <;> omega
  · intro h'
    by_cases e : f j = n
    · exact Or.inl (hf j i (e.trans h.symm))
    · exact Or.inr (by omega)

theorem below_zero (f : Site → ℕ) : below f 0 = ∅ := by
  ext j; rw [mem_below]; simp

theorem sent_all : below sNo 21 = Finset.univ := by decide +kernel
theorem received_all : below rNo 21 = Finset.univ := by decide +kernel
theorem settled_all : below gNo 21 = Finset.univ := by decide +kernel

/-- The state after `a` sends, `b` receptions and `d` settlements, `N` copies to the result begun and `M` of them arrived,
    `A` chunks of the weight asked for, `B` arrived and `C` rounded. -/
abbrev Sn (E : Env F c) (a b d N M A B C : ℕ) : sProp 𝕄 := St E (below sNo a) (below rNo b) (below gNo d) N M A B C

variable {a b d : ℕ}

/-! ## Words and checks of the kernel's text -/

/-- The word of the device at place `h` of band `t`'s list. -/
abbrev hw (c : Dev nD) (t : Fin 3) (h : Fin 8) : BitVec 32 := BitVec.ofNat 32 (held c t h).val
/-- The word of the neighbour in dimension `d`. -/
abbrev nw (c : Dev nD) (d : Fin 3) : BitVec 32 := BitVec.ofNat 32 (nbr c d).val

/-- The first row of a band of the result, as the kernel computes it from a word. -/
abbrev rowsWord (t : Fin 3) (w : BitVec 32) : ℕ := (Scalar.addi (Scalar.muli w 512#32) ((![0#32, 176#32, 352#32] : Fin 3 → BitVec 32) t)).toNat

theorem rows_word : ∀ (t : Fin 3) (n : Fin 8), (![rowsWord t (BitVec.ofNat 32 n.val), 0] : Fin 2 → ℕ) = ![512 * n.val + boff t, 0] := by decide +kernel
theorem piece_word (t : Fin 3) (n : Fin 8) : (![(BitVec.ofNat 32 n.val).toNat, boff t, 0] : Fin 3 → ℕ) = ![n.val, boff t, 0] := by rw [toNat_word]

/-- A band of the block a word names lies in the gathered blocks, and its rows in the result. -/
theorem chkProd (t : Fin 3) (n : Fin 8) :
    (∀ a, (![(BitVec.ofNat 32 n.val).toNat, boff t, 0] : Fin 3 → Nat) a + (bShape3 t).size a ≤ S8x512x4096.size a) ∧
    (∀ a, (![rowsWord t (BitVec.ofNat 32 n.val), 0] : Fin 2 → ℕ) a + (oShape t).size a ≤ S4096x1024.size a) ∧
    (∀ a, (![rowsWord t (BitVec.ofNat 32 n.val), 0] : Fin 2 → ℕ) a + (oShape t).size a ≤ S4096x1024.size a) :=
  ⟨(chkPiece t n).1, by rw [rows_word]; exact rows_inb n t, by rw [rows_word]; exact rows_inb n t⟩

/-! ## Actions -/

/-- A check that holds. -/
theorem chk {X : sProp 𝕄} {P : Prop} {dP : Decidable P} (hP : P) {k : PLift P → PP F α} (h : X ⊢ ww c (k ⟨hP⟩) K) :
    X ⊢ ww c (Prog.bind (Prog.lift (.assume P dP)) k) K := asm hP h

/-- Sending site `i`. -/
theorem snd (i : Site) {m : Memref sig .tc .vmem (bShape i.1) .bf16} {e : Dev nD} {s1 s2 : DmaSem sig} {w : m.view.WordExact} {hs} {k : PUnit → PP F α}
    (hm : m = pieceM (held c i.1 (jj i.2)) i.1) (he : e = peer c i) (h1 : s1 = sendS i) (h2 : s2 = recvS i)
    (h : Sn E (a + 1) b d N M A B C ⊢ ww c (k ⟨⟩) K)
    (hS : sNo i = a := by decide) (hD : d ≤ gNo i := by decide) (hR : ∀ k : Fin 7, k.succ = jj i.2 → rNo (i.1, k) < b := by decide) :
    Sn E a b d N M A B C ⊢ ww c (Prog.bind (Prog.lift (.enqueueDma m (.remote (Dev.tc e) m (.dma s1)) (.dma s2) w w hs)) k) K :=
  send_core i hm he h1 h2 (by rw [mem_below]; omega) (by rw [mem_below]; omega) (fun k hk => mem_below.2 (hR k hk)) (by rw [below_succ sNo_inj hS]; exact h)

/-- Receiving site `i`. -/
theorem rcv (i : Site) {sp sp' : Space} {s s' : Shape} {e e' : EltTy} {src : Memref sig .tc sp' s' e'} {dst : Memref sig .tc sp s e} {s2 : DmaSem sig}
    {w : src.view.WordExact} {w' : dst.view.WordExact} {k : PUnit → PP F α}
    (h2 : s2 = recvS i) (hN : dst.view.dmaCredit = NB i.1)
    (h : Sn E a (b + 1) d N M A B C ⊢ ww c (k ⟨⟩) K)
    (hR : rNo i = b := by decide) (hS : ∀ j, a ≤ sNo j → ph i.2 < ph j.2 := by decide) (hfree : ∀ k, jj k = i.2.succ → a ≤ sNo (i.1, k) := by decide) :
    Sn E a b d N M A B C ⊢ ww c (Prog.bind (Prog.lift (.waitDma2 s2 src dst w w')) k) K :=
  recv_core i h2 hN (by rw [mem_below]; omega) (fun j hj => hS j (by rw [mem_below] at hj; omega)) (fun k hk hm => by have := hfree k hk; rw [mem_below] at hm; omega)
    (by rw [below_succ rNo_inj hR]; exact h)

/-- Settling site `i`. -/
theorem fin (i : Site) {sp sp' : Space} {s s' : Shape} {e e' : EltTy} {src : Memref sig .tc sp' s' e'} {dst : Memref sig .tc sp s e} {s2 : DmaSem sig}
    {w : src.view.WordExact} {w' : dst.view.WordExact} {k : PUnit → PP F α}
    (h2 : s2 = sendS i) (hN : dst.view.dmaCredit = NB i.1)
    (h : Sn E 21 21 (d + 1) N M A B C ⊢ ww c (k ⟨⟩) K) (hD : gNo i = d := by decide) :
    Sn E 21 21 d N M A B C ⊢ ww c (Prog.bind (Prog.lift (.waitDma2 s2 src dst w w')) k) K :=
  left_core i h2 hN (by rw [sent_all]; exact Finset.mem_univ i) (by rw [mem_below]; omega) (fun _ _ => by rw [received_all]; exact Finset.mem_univ _)
    (by rw [below_succ gNo_inj hD]; exact h)

/-- Asking for chunk `q` of the weight, into slot `s`. -/
theorem wgo (q : Fin 4) (s : Fin 2) {m : Memref sig .tc .hbm S1024x1024 .f32} {n : Memref sig .tc .vmem S1024x1024 .f32} {s1 : DmaSem sig} {w w' hs} {k : PUnit → PP F α}
    (hm : m = chunkM q) (hn : n = slotM s) (h1 : s1 = wgtS s) (h : St E S R Dn N M (A + 1) B C ⊢ ww c (k ⟨⟩) K)
    (hq : q.val = A := by decide) (ha : A = 2 * (A / 2) + s.val := by decide) (hfree : (B + 1 - s.val) / 2 = A / 2 := by decide) (hB : B ≤ A := by decide) :
    St E S R Dn N M A B C ⊢ ww c (Prog.bind (Prog.lift (.enqueueDma m (.here n) (.dma s1) w w' hs)) k) K :=
  weight_start q s (A / 2) hm hn h1 hq ha hfree hB h

/-- The arrival of chunk `q` of the weight, in slot `s`. -/
theorem war (q : Fin 4) (s : Fin 2) {sp sp' : Space} {s0 s' : Shape} {e e' : EltTy} {src : Memref sig .tc sp' s' e'} {dst : Memref sig .tc sp s0 e} {s1 : DmaSem sig}
    {w : src.view.WordExact} {w' : dst.view.WordExact} {k : PUnit → PP F α}
    (h1 : s1 = wgtS s) (hN : dst.view.dmaCredit = NW) (h : St E S R Dn N M A (B + 1) C ⊢ ww c (k ⟨⟩) K)
    (hq : q.val = B := by decide) (hb : B = 2 * (B / 2) + s.val := by decide) (hbusy : (A + 1 - s.val) / 2 = B / 2 + 1 := by decide) :
    St E S R Dn N M A B C ⊢ ww c (Prog.bind (Prog.lift (.waitDma2 s1 src dst w w')) k) K :=
  weight_arrive q s (B / 2) h1 hN hq hb hbusy h

/-- Reading chunk `q` from slot `s`. -/
theorem lds (q : Fin 4) (s : Fin 2) {hl} {k : (S1x1024x1024.Idx → Elt F .f32) → PP F α} (h : St E S R Dn N M A B C ⊢ ww c (k (chunkC E.D c q)) K)
    (hfree : (A + 1 - s.val) / 2 ≤ (B + 1 - s.val) / 2 := by decide) (hq : q.val + 2 = 2 * ((B + 1 - s.val) / 2) + s.val := by decide) :
    St E S R Dn N M A B C ⊢ ww c (Prog.bind (Prog.lift (.load tM (slotR s) hl)) k) K :=
  ld_slot q s hfree hq h

/-- Reading rows of the rounded weight whose values are not used. -/
theorem ldr {r : Rect S4096x1024} {hl} {k : (r.shape.Idx → Elt F .bf16) → PP F α} (h : ∀ v, St E S R Dn N M A B C ⊢ ww c (k v) K) :
    St E S R Dn N M A B C ⊢ ww c (Prog.bind (Prog.lift (.load wM r hl)) k) K := ld_rows h

/-- Writing the rounded chunk `q`. -/
theorem stc (q : Fin 4) {w : S1024x1024.Idx → Elt F .bf16} {hx hm} {k : PUnit → PP F α} (hw : w = k0_pay2 (chunkC E.D c q))
    (h : St E S R Dn N M A B (C + 1) ⊢ ww c (k ⟨⟩) K) (hq : q.val = C := by decide) :
    St E S R Dn N M A B C ⊢ ww c (Prog.bind (Prog.lift (.store wM (chunkR q) w Finset.univ hx hm)) k) K := st_chunk q hw hq h

/-- Reading the whole rounded weight. -/
theorem ldw {inb} {hl} {k : (S4096x1024.Idx → Elt F .bf16) → PP F α} (h : St E S R Dn N M A B 4 ⊢ ww c (k (wC E.D c)) K) :
    St E S R Dn N M A B 4 ⊢ ww c (Prog.bind (Prog.lift (.load wM (Rect.unit (s := S4096x1024) ![0, 0] S4096x1024.size inb) hl)) k) K := ld_weight h

/-- Reading band `t` of the block at place `y`. -/
theorem ldb (t : Fin 3) (y : Fin 8) {off : Fin 3 → Nat} {inb} {hl} {k : ((bShape3 t).Idx → Elt F .bf16) → PP F α}
    (hoff : off = ![(held c t y).val, boff t, 0]) (h : Sn E a b d N M A B C ⊢ ww c (k (bandC E.D (held c t y) t)) K)
    (hR : ∀ k : Fin 7, k.succ = y → rNo (t, k) < b := by decide) :
    Sn E a b d N M A B C ⊢ ww c (Prog.bind (Prog.lift (.load gM (Rect.unit (s := S8x512x4096) off (bShape3 t).size inb) hl)) k) K :=
  ld_band _ t y rfl hoff (fun k hk => mem_below.2 (hR k hk)) h

/-- Reading the staging slot `s`, whose values are not used. -/
theorem ldt (s : Fin 2) (t : Fin 3) {hl} {k : ((oShape3 t).Idx → Elt F .f32) → PP F α} (h : ∀ v, St E S R Dn N M A B C ⊢ ww c (k v) K)
    (hfree : (N + 1 - s.val) / 2 ≤ (M + 1 - s.val) / 2 := by decide) :
    St E S R Dn N M A B C ⊢ ww c (Prog.bind (Prog.lift (.load sM (stageR s t) hl)) k) K := ld_stage s t hfree h

/-- Writing a product into the staging slot `s`. -/
theorem stt (s : Fin 2) (t : Fin 3) (y : Fin 8) {w : (oShape3 t).Idx → Elt F .f32} {hx hm} {k : PUnit → PP F α}
    (hw : w = prodP t (bandC E.D (held c t y) t) (wC E.D c)) (h : staged E S R Dn N M A B C s (held c t y) t ⊢ ww c (k ⟨⟩) K)
    (hy : em N = (t, y) := by decide) (ha : N = 2 * (N / 2) + s.val := by decide) (hN : N < 24 := by decide) (hfree : (M + 1 - s.val) / 2 = N / 2 := by decide) :
    St E S R Dn N M A B C ⊢ ww c (Prog.bind (Prog.lift (.store sM (stageR s t) w Finset.univ hx hm)) k) K :=
  st_stage s y t (N / 2) hw hy ha hN hfree h

/-- The copy of a product to the result. -/
theorem ogo (s : Fin 2) (t : Fin 3) (y : Fin 8) {m : Memref sig .tc .vmem (oShape t) .f32} {m' : Memref sig .tc .hbm (oShape t) .f32} {s1 : DmaSem sig} {w w' hs} {k : PUnit → PP F α}
    (hm : m = stageM s t) (hm' : m' = outM (held c t y) t) (h1 : s1 = outS s) (h : St E S R Dn (N + 1) M A B C ⊢ ww c (k ⟨⟩) K)
    (hy : em N = (t, y) := by decide) (ha : N = 2 * ((N + 1 - s.val) / 2) + s.val := by decide) (hN : N < 24 := by decide) :
    staged E S R Dn N M A B C s (held c t y) t ⊢ ww c (Prog.bind (Prog.lift (.enqueueDma m (.here m') (.dma s1) w w' hs)) k) K :=
  out_start s t _ hm hm' h1 y rfl hy ha hN h

/-- The arrival of a product in the result. -/
theorem oar (s : Fin 2) (t : Fin 3) (y : Fin 8) {sp sp' : Space} {s0 s' : Shape} {e e' : EltTy} {src : Memref sig .tc sp' s' e'} {dst : Memref sig .tc sp s0 e} {s1 : DmaSem sig}
    {w : src.view.WordExact} {w' : dst.view.WordExact} {k : PUnit → PP F α}
    (h1 : s1 = outS s) (hN : dst.view.dmaCredit = NO t) (h : St E S R Dn N (M + 1) A B C ⊢ ww c (k ⟨⟩) K)
    (hy : em M = (t, y) := by decide) (hb : M = 2 * (M / 2) + s.val := by decide) (hM : M < 24 := by decide) (hbusy : (N + 1 - s.val) / 2 = M / 2 + 1 := by decide) :
    St E S R Dn N M A B C ⊢ ww c (Prog.bind (Prog.lift (.waitDma2 s1 src dst w w')) k) K :=
  out_arrive s t y (M / 2) h1 hN hy hb hM hbusy h

/-- Running a part, then the rest. -/
theorem seq {X : sProp 𝕄} {β : Type} {p : PP F β} {k : β → PP F α} (h : X ⊢ ww c p fun v => ww c (k v) K) : X ⊢ ww c (Prog.bind p k) K :=
  h.trans (Entails.of_eq (wp_bind (Fr := frame) (wpE := wpE (defs₀ (F := F)) 𝒱₀ c none) (E := Set.univ) p k K).symm)

/-- A program is that program and then its result. -/
theorem last {X : sProp 𝕄} {p : PP F α} (h : X ⊢ ww c (Prog.bind p .ret) K) : X ⊢ ww c p K :=
  h.trans (Entails.of_eq (congrArg (fun p => ww c p K) (Prog.bind_pure p)))

/-- A part's end. -/
theorem ret {X : sProp 𝕄} {v : α} (h : X ⊢ K v) : X ⊢ ww c (.ret v) K := h.trans (fupd_intro ..)

end Cert.Hyper

end
-- ==== Proof.Walk.lean ====
/-
  What the parts of the body need besides the actions: a state with a product staged, and the
  offsets of a device's own block.
-/
module

public import proofs.«01_k».proof.Proof.Steps

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} {E : Env F c} {S R Dn : Finset Site} {N M A B C : ℕ} {α : Type} {K : α → sProp (MT nD τ sig Unit (Elt F) ℕ UU ℕ)}
/-- The state with a product of band `t` at place `y` written in staging slot `s` and not yet copied out. -/
abbrev Stg (E : Env F c) (a b d N M A B C : ℕ) (s : Fin 2) (t : Fin 3) (y : Fin 8) : sProp 𝕄 :=
  staged E (below sNo a) (below rNo b) (below gNo d) N M A B C s (held c t y) t

/-- A band of the block a word names lies in the gathered blocks, and its rows in the result. -/
theorem chkLast (t : Fin 3) (n : Fin 8) :
    (∀ a, (![(BitVec.ofNat 32 n.val).toNat, boff t, 0] : Fin 3 → Nat) a + (bShape3 t).size a ≤ S8x512x4096.size a) ∧
    (∀ a, (![rowsWord t (BitVec.ofNat 32 n.val), 0] : Fin 2 → ℕ) a + (oShape t).size a ≤ S4096x1024.size a) :=
  ⟨(chkProd t n).1, (chkProd t n).2.1⟩

/-! ## A device's own block: its bands among the gathered blocks, its rows in the result -/

theorem own11 : ∀ c : Dev nD, k0_off11 c = ![(held c 0 0).val, boff 0, 0] := by decide +kernel
theorem own13 : ∀ c : Dev nD, k0_off13 c = ![(held c 1 0).val, boff 1, 0] := by decide +kernel
theorem own14 : ∀ c : Dev nD, k0_off14 c = ![(held c 2 0).val, boff 2, 0] := by decide +kernel
theorem own120 : ∀ c : Dev nD, k0_off12 c 0#32 = ![512 * (held c 0 0).val + boff 0, 0] := by decide +kernel
theorem own121 : ∀ c : Dev nD, k0_off12 c 176#32 = ![512 * (held c 1 0).val + boff 1, 0] := by decide +kernel
theorem own15 : ∀ c : Dev nD, k0_off15 c = ![512 * (held c 2 0).val + boff 2, 0] := by decide +kernel

end Cert.Hyper

end
-- ==== Proof.PartsA.lean ====
/-
  The parts of the body: the first exchanges, the weight and the own block.
-/
module

public import proofs.«01_k».proof.Proof.Walk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

local notation "𝕄" => MT nD τ sig Unit (Elt F) ℕ UU ℕ

/-- Part 2 of the body ends with 2 sites sent. -/
theorem part2 {K} {p4 p5} (h : ∀ q8 q9, Sn E 2 0 0 0 0 0 0 0 ⊢ K ⟨(hw c 0 0), q8, (nw c 2), q9⟩) :
    Sn E 0 0 0 0 0 0 0 0 ⊢ ww c (k0_part2 (F := F) a0 h0 hM h1 E.arg2 h2 E.arg3 h3 E.arg4 h4 oM h5 gM h6 wM h7 tM h8 sM h9
      cc0_scratch4 cc0_scratch5 cc0_scratch6 cc0_scratch7 (hw c 0 0) p4 (nw c 0) p5) K := by
  rw [k0_part2_eq_skeleton]
  unfold k0_part2_skel
  refine snd (0, 0) (piece_eq 0 _ rfl) (Fin.ext (devWord _)) rfl rfl ?_
  refine sm3 (0, 1) ?_
  refine chk (chkPiece 0 _) ?_
  refine sm2 1 ?_
  refine chk (chkDev _) ?_
  refine snd (0, 1) (piece_eq 0 _ rfl) (Fin.ext (devWord _)) rfl rfl ?_
  refine sm3 (0, 3) ?_
  refine chk (chkPiece 0 _) ?_
  refine sm2 2 ?_
  refine chk (chkDev _) ?_
  exact ret (h _ _)

/-- Part 3 of the body ends with 4 sites sent. -/
theorem part3 {K} {p8 p9} (h : ∀ q12, Sn E 4 0 0 0 0 0 0 0 ⊢ K ⟨(hw c 1 0), q12, (nw c 2)⟩) :
    Sn E 2 0 0 0 0 0 0 0 ⊢ ww c (k0_part3 (F := F) a0 h0 hM h1 E.arg2 h2 E.arg3 h3 E.arg4 h4 oM h5 gM h6 wM h7 tM h8 sM h9
      cc0_scratch4 cc0_scratch5 cc0_scratch6 cc0_scratch7 (hw c 0 0) p8 (nw c 2) p9) K := by
  rw [k0_part3_eq_skeleton]
  unfold k0_part3_skel
  refine snd (0, 3) (piece_eq 0 _ rfl) (Fin.ext (devWord _)) rfl rfl ?_
  refine sm3 (1, 0) ?_
  refine chk (chkPiece 1 _) ?_
  refine sm2 1 ?_
  refine chk (chkDev _) ?_
  refine snd (1, 0) (piece_eq 1 _ rfl) (Fin.ext (devWord _)) rfl rfl ?_
  refine sm3 (1, 1) ?_
  refine chk (chkPiece 1 _) ?_
  refine sm2 2 ?_
  exact ret (h _)

/-- Part 4 of the body ends with 6 sites sent. -/
theorem part4 {K} {p12} (h : ∀ q16, Sn E 6 0 0 0 0 0 0 0 ⊢ K ⟨(hw c 2 0), q16⟩) :
    Sn E 4 0 0 0 0 0 0 0 ⊢ ww c (k0_part4 (F := F) a0 h0 hM h1 E.arg2 h2 E.arg3 h3 E.arg4 h4 oM h5 gM h6 wM h7 tM h8 sM h9
      cc0_scratch4 cc0_scratch5 cc0_scratch6 cc0_scratch7 (hw c 1 0) p12 (nw c 2)) K := by
  rw [k0_part4_eq_skeleton]
  unfold k0_part4_skel
  refine chk (chkDev _) ?_
  refine snd (1, 1) (piece_eq 1 _ rfl) (Fin.ext (devWord _)) rfl rfl ?_
  refine sm3 (1, 3) ?_
  refine chk (chkPiece 1 _) ?_
  refine sm2 0 ?_
  refine chk (chkDev _) ?_
  refine snd (1, 3) (piece_eq 1 _ rfl) (Fin.ext (devWord _)) rfl rfl ?_
  refine sm3 (2, 0) ?_
  refine chk (chkPiece 2 _) ?_
  exact ret (h _)

/-- Part 5 of the body ends with 8 sites sent. -/
theorem part5 {K} {p16} (h : Sn E 8 0 0 0 0 0 0 0 ⊢ K ⟨⟩) :
    Sn E 6 0 0 0 0 0 0 0 ⊢ ww c (k0_part5 (F := F) a0 h0 hM h1 E.arg2 h2 E.arg3 h3 E.arg4 h4 oM h5 gM h6 wM h7 tM h8 sM h9
      cc0_scratch4 cc0_scratch5 cc0_scratch6 cc0_scratch7 (hw c 2 0) p16) K := by
  rw [k0_part5_eq_skeleton]
  unfold k0_part5_skel
  refine sm2 2 ?_
  refine chk (chkDev _) ?_
  refine snd (2, 0) (piece_eq 2 _ rfl) (Fin.ext (devWord _)) rfl rfl ?_
  refine sm3 (2, 1) ?_
  refine chk (chkPiece 2 _) ?_
  refine sm2 0 ?_
  refine chk (chkDev _) ?_
  refine snd (2, 1) (piece_eq 2 _ rfl) (Fin.ext (devWord _)) rfl rfl ?_
  exact ret h

/-- Part 6 of the body ends with 9 sites sent, 2 chunks asked for. -/
theorem part6 {K} (h : Sn E 9 0 0 0 0 2 0 0 ⊢ K ⟨⟩) :
    Sn E 8 0 0 0 0 0 0 0 ⊢ ww c (k0_part6 (F := F) a0 h0 hM h1 E.arg2 h2 E.arg3 h3 E.arg4 h4 oM h5 gM h6 wM h7 tM h8 sM h9
      cc0_scratch4 cc0_scratch5 cc0_scratch6 cc0_scratch7) K := by
  rw [k0_part6_eq_skeleton]
  unfold k0_part6_skel
  refine sm3 (2, 3) ?_
  refine chk (chkPiece 2 _) ?_
  refine sm2 1 ?_
  refine chk (chkDev _) ?_
  refine snd (2, 3) (piece_eq 2 _ rfl) (Fin.ext (devWord _)) rfl rfl ?_
  refine wgo 0 0 rfl rfl rfl ?_
  refine wgo 1 1 rfl rfl rfl ?_
  exact ret h

/-- Part 7 of the body ends with 3 chunks asked for, 2 chunks arrived, 2 chunks rounded. -/
theorem part7 {K} (h : Sn E 9 0 0 0 0 3 2 2 ⊢ K ⟨⟩) :
    Sn E 9 0 0 0 0 2 0 0 ⊢ ww c (k0_part7 (F := F) a0 h0 hM h1 E.arg2 h2 E.arg3 h3 E.arg4 h4 oM h5 gM h6 wM h7 tM h8 sM h9
      cc0_scratch4 cc0_scratch5 cc0_scratch6 cc0_scratch7) K := by
  rw [k0_part7_eq_skeleton]
  unfold k0_part7_skel
  refine war 0 0 rfl rfl ?_
  refine lds 0 0 ?_
  refine ldr fun _ => ?_
  refine stc 0 rfl ?_
  refine wgo 2 0 rfl rfl rfl ?_
  refine war 1 1 rfl rfl ?_
  refine lds 1 1 ?_
  refine ldr fun _ => ?_
  refine stc 1 rfl ?_
  exact ret h

/-- Part 8 of the body ends with 4 chunks asked for, 4 chunks arrived, 4 chunks rounded. -/
theorem part8 {K} {v2} (h : Sn E 9 0 0 0 0 4 4 4 ⊢ K ⟨k0_pay6 (bandC E.D (held c 0 0) 0), (Scalar.muli v2 512#32), 0#32⟩) :
    Sn E 9 0 0 0 0 3 2 2 ⊢ ww c (k0_part8 (F := F) a0 h0 hM h1 E.arg2 h2 E.arg3 h3 E.arg4 h4 oM h5 gM h6 wM h7 tM h8 sM h9
      cc0_scratch4 cc0_scratch5 cc0_scratch6 cc0_scratch7 c v2) K := by
  rw [k0_part8_eq_skeleton]
  unfold k0_part8_skel
  refine wgo 3 1 rfl rfl rfl ?_
  refine war 2 0 rfl rfl ?_
  refine lds 2 0 ?_
  refine ldr fun _ => ?_
  refine stc 2 rfl ?_
  refine war 3 1 rfl rfl ?_
  refine lds 3 1 ?_
  refine ldr fun _ => ?_
  refine stc 3 rfl ?_
  refine ldb 0 0 (own11 c) ?_
  exact ret h

/-- Part 9 of the body ends with 1 products copied out, one product staged. -/
theorem part9 {K} {v2} (h : Stg E 9 0 0 1 0 4 4 4 1 1 0 ⊢ K ⟨⟩) :
    Sn E 9 0 0 0 0 4 4 4 ⊢ ww c (k0_part9 (F := F) a0 h0 hM h1 E.arg2 h2 E.arg3 h3 E.arg4 h4 oM h5 gM h6 wM h7 tM h8 sM h9
      cc0_scratch4 cc0_scratch5 cc0_scratch6 cc0_scratch7 c v2 (k0_pay6 (bandC E.D (held c 0 0) 0)) (Scalar.muli v2 512#32) 0#32) K := by
  rw [k0_part9_eq_skeleton]
  unfold k0_part9_skel
  refine ldw ?_
  refine ldt 0 0 fun _ => ?_
  refine stt 0 0 0 rfl ?_
  refine ogo 0 0 0 rfl (out_eq _ 0 (own120 c)) rfl ?_
  refine ldb 1 0 (own13 c) ?_
  refine ldw ?_
  refine ldt 1 1 fun _ => ?_
  refine stt 1 1 0 rfl ?_
  exact ret h

/-- Part 10 of the body ends with 3 products copied out, 1 products in the result. -/
theorem part10 {K} {v2} (h : ∀ q22, Sn E 9 0 0 3 1 4 4 4 ⊢ K ⟨(hw c 0 1), q22, (nw c 0)⟩) :
    Stg E 9 0 0 1 0 4 4 4 1 1 0 ⊢ ww c (k0_part10 (F := F) a0 h0 hM h1 E.arg2 h2 E.arg3 h3 E.arg4 h4 oM h5 gM h6 wM h7 tM h8 sM h9
      cc0_scratch4 cc0_scratch5 cc0_scratch6 cc0_scratch7 c v2) K := by
  rw [k0_part10_eq_skeleton]
  unfold k0_part10_skel
  refine ogo 1 1 0 rfl (out_eq _ 1 (own121 c)) rfl ?_
  refine ldb 2 0 (own14 c) ?_
  refine oar 0 0 0 rfl rfl ?_
  refine ldw ?_
  refine ldt 0 2 fun _ => ?_
  refine stt 0 2 0 rfl ?_
  refine ogo 0 2 0 rfl (out_eq _ 2 (own15 c)) rfl ?_
  refine sm4 (0, 0) ?_
  refine chk (chkPiece 0 _) ?_
  refine sm2 0 ?_
  exact ret (h _)

/-- Part 11 of the body ends with 10 sites sent, 1 sites received. -/
theorem part11 {K} {p22} (h : ∀ q25 q26, Sn E 10 1 0 3 1 4 4 4 ⊢ K ⟨(hw c 0 1), q25, (nw c 2), q26⟩) :
    Sn E 9 0 0 3 1 4 4 4 ⊢ ww c (k0_part11 (F := F) a0 h0 hM h1 E.arg2 h2 E.arg3 h3 E.arg4 h4 oM h5 gM h6 wM h7 tM h8 sM h9
      cc0_scratch4 cc0_scratch5 cc0_scratch6 cc0_scratch7 (hw c 0 1) p22 (nw c 0)) K := by
  rw [k0_part11_eq_skeleton]
  unfold k0_part11_skel
  refine rcv (0, 0) rfl rfl ?_
  refine sm3 (0, 2) ?_
  refine chk (chkPiece 0 _) ?_
  refine sm2 1 ?_
  refine chk (chkDev _) ?_
  refine snd (0, 2) (piece_eq 0 _ rfl) (Fin.ext (devWord _)) rfl rfl ?_
  refine sm3 (0, 4) ?_
  refine chk (chkPiece 0 _) ?_
  refine sm2 2 ?_
  refine chk (chkDev _) ?_
  exact ret (h _ _)

/-- Part 12 of the body ends with 11 sites sent, 2 sites received. -/
theorem part12 {K} {p25 p26} (h : ∀ q28 q29, Sn E 11 2 0 3 1 4 4 4 ⊢ K ⟨(hw c 1 1), q28, (nw c 2), q29⟩) :
    Sn E 10 1 0 3 1 4 4 4 ⊢ ww c (k0_part12 (F := F) a0 h0 hM h1 E.arg2 h2 E.arg3 h3 E.arg4 h4 oM h5 gM h6 wM h7 tM h8 sM h9
      cc0_scratch4 cc0_scratch5 cc0_scratch6 cc0_scratch7 (hw c 0 1) p25 (nw c 2) p26) K := by
  rw [k0_part12_eq_skeleton]
  unfold k0_part12_skel
  refine snd (0, 4) (piece_eq 0 _ rfl) (Fin.ext (devWord _)) rfl rfl ?_
  refine sm4 (1, 0) ?_
  refine chk (chkPiece 1 _) ?_
  refine sm2 1 ?_
  refine rcv (1, 0) rfl rfl ?_
  refine sm3 (1, 2) ?_
  refine chk (chkPiece 1 _) ?_
  refine sm2 2 ?_
  refine chk (chkDev _) ?_
  exact ret (h _ _)

/-- Part 13 of the body ends with 13 sites sent. -/
theorem part13 {K} {p28 p29} (h : ∀ q32, Sn E 13 2 0 3 1 4 4 4 ⊢ K ⟨(hw c 2 1), q32, (nw c 2)⟩) :
    Sn E 11 2 0 3 1 4 4 4 ⊢ ww c (k0_part13 (F := F) a0 h0 hM h1 E.arg2 h2 E.arg3 h3 E.arg4 h4 oM h5 gM h6 wM h7 tM h8 sM h9
      cc0_scratch4 cc0_scratch5 cc0_scratch6 cc0_scratch7 (hw c 1 1) p28 (nw c 2) p29) K := by
  rw [k0_part13_eq_skeleton]
  unfold k0_part13_skel
  refine snd (1, 2) (piece_eq 1 _ rfl) (Fin.ext (devWord _)) rfl rfl ?_
  refine sm3 (1, 4) ?_
  refine chk (chkPiece 1 _) ?_
  refine sm2 0 ?_
  refine chk (chkDev _) ?_
  refine snd (1, 4) (piece_eq 1 _ rfl) (Fin.ext (devWord _)) rfl rfl ?_
  refine sm4 (2, 0) ?_
  refine chk (chkPiece 2 _) ?_
  refine sm2 2 ?_
  exact ret (h _)

/-- Part 14 of the body ends with 14 sites sent, 3 sites received. -/
theorem part14 {K} {p32} (h : ∀ q35 q36, Sn E 14 3 0 3 1 4 4 4 ⊢ K ⟨(hw c 2 1), q35, (nw c 1), q36⟩) :
    Sn E 13 2 0 3 1 4 4 4 ⊢ ww c (k0_part14 (F := F) a0 h0 hM h1 E.arg2 h2 E.arg3 h3 E.arg4 h4 oM h5 gM h6 wM h7 tM h8 sM h9
      cc0_scratch4 cc0_scratch5 cc0_scratch6 cc0_scratch7 (hw c 2 1) p32 (nw c 2)) K := by
  rw [k0_part14_eq_skeleton]
  unfold k0_part14_skel
  refine rcv (2, 0) rfl rfl ?_
  refine sm3 (2, 2) ?_
  refine chk (chkPiece 2 _) ?_
  refine sm2 0 ?_
  refine chk (chkDev _) ?_
  refine snd (2, 2) (piece_eq 2 _ rfl) (Fin.ext (devWord _)) rfl rfl ?_
  refine sm3 (2, 4) ?_
  refine chk (chkPiece 2 _) ?_
  refine sm2 1 ?_
  refine chk (chkDev _) ?_
  exact ret (h _ _)

end Cert.Hyper

end
-- ==== Proof.PartsB.lean ====
/-
  The parts of the body: the second and third rounds of sending, the products after them.
-/
module

public import proofs.«01_k».proof.Proof.Walk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

local notation "𝕄" => MT nD τ sig Unit (Elt F) ℕ UU ℕ

/-- Part 15 of the body ends with 15 sites sent, 2 products in the result, one product staged. -/
theorem part15 {K} {p35 p36} (h : ∀ q37, Stg E 15 3 0 3 2 4 4 4 1 0 1 ⊢ K ⟨(hw c 0 1), q37⟩) :
    Sn E 14 3 0 3 1 4 4 4 ⊢ ww c (k0_part15 (F := F) a0 h0 hM h1 E.arg2 h2 E.arg3 h3 E.arg4 h4 oM h5 gM h6 wM h7 tM h8 sM h9
      cc0_scratch4 cc0_scratch5 cc0_scratch6 cc0_scratch7 c (hw c 2 1) p35 (nw c 1) p36) K := by
  rw [k0_part15_eq_skeleton]
  unfold k0_part15_skel
  refine snd (2, 4) (piece_eq 2 _ rfl) (Fin.ext (devWord _)) rfl rfl ?_
  refine sm4 (0, 0) ?_
  refine chk (chkProd 0 _) ?_
  refine ldb 0 1 (piece_word 0 _) ?_
  refine oar 1 1 0 rfl rfl ?_
  refine ldw ?_
  refine ldt 1 0 fun _ => ?_
  refine stt 1 0 1 rfl ?_
  exact ret (h _)

/-- Part 16 of the body ends with 5 products copied out, 3 products in the result. -/
theorem part16 {K} {p37} (h : ∀ q38, Sn E 15 3 0 5 3 4 4 4 ⊢ K ⟨(hw c 1 1), q38⟩) :
    Stg E 15 3 0 3 2 4 4 4 1 0 1 ⊢ ww c (k0_part16 (F := F) a0 h0 hM h1 E.arg2 h2 E.arg3 h3 E.arg4 h4 oM h5 gM h6 wM h7 tM h8 sM h9
      cc0_scratch4 cc0_scratch5 cc0_scratch6 cc0_scratch7 c (hw c 0 1) p37) K := by
  rw [k0_part16_eq_skeleton]
  unfold k0_part16_skel
  refine ogo 1 0 1 rfl (out_eq _ 0 (rows_word 0 _)) rfl ?_
  refine sm4 (1, 0) ?_
  refine chk (chkProd 1 _) ?_
  refine ldb 1 1 (piece_word 1 _) ?_
  refine oar 0 2 0 rfl rfl ?_
  refine ldw ?_
  refine ldt 0 1 fun _ => ?_
  refine stt 0 1 1 rfl ?_
  refine ogo 0 1 1 rfl (out_eq _ 1 (rows_word 1 _)) rfl ?_
  exact ret (h _)

/-- Part 17 of the body ends with 6 products copied out, 4 products in the result. -/
theorem part17 {K} {p37} (h : ∀ q39 q40, Sn E 15 3 0 6 4 4 4 4 ⊢ K ⟨(hw c 2 1), q39, (hw c 0 2), q40, (nw c 1)⟩) :
    Sn E 15 3 0 5 3 4 4 4 ⊢ ww c (k0_part17 (F := F) a0 h0 hM h1 E.arg2 h2 E.arg3 h3 E.arg4 h4 oM h5 gM h6 wM h7 tM h8 sM h9
      cc0_scratch4 cc0_scratch5 cc0_scratch6 cc0_scratch7 (hw c 0 1) p37) K := by
  rw [k0_part17_eq_skeleton]
  unfold k0_part17_skel
  refine sm4 (2, 0) ?_
  refine chk (chkProd 2 _) ?_
  refine ldb 2 1 (piece_word 2 _) ?_
  refine oar 1 0 1 rfl rfl ?_
  refine ldw ?_
  refine ldt 1 2 fun _ => ?_
  refine stt 1 2 1 rfl ?_
  refine ogo 1 2 1 rfl (out_eq _ 2 (rows_word 2 _)) rfl ?_
  refine sm4 (0, 1) ?_
  refine chk (chkPiece 0 _) ?_
  refine sm2 1 ?_
  exact ret (h _ _)

/-- Part 18 of the body ends with 16 sites sent, 4 sites received. -/
theorem part18 {K} {p40} (h : ∀ q43, Sn E 16 4 0 6 4 4 4 4 ⊢ K ⟨(hw c 1 2), q43, (nw c 2)⟩) :
    Sn E 15 3 0 6 4 4 4 4 ⊢ ww c (k0_part18 (F := F) a0 h0 hM h1 E.arg2 h2 E.arg3 h3 E.arg4 h4 oM h5 gM h6 wM h7 tM h8 sM h9
      cc0_scratch4 cc0_scratch5 cc0_scratch6 cc0_scratch7 (hw c 0 2) p40 (nw c 1)) K := by
  rw [k0_part18_eq_skeleton]
  unfold k0_part18_skel
  refine rcv (0, 1) rfl rfl ?_
  refine sm3 (0, 5) ?_
  refine chk (chkPiece 0 _) ?_
  refine sm2 2 ?_
  refine chk (chkDev _) ?_
  refine snd (0, 5) (piece_eq 0 _ rfl) (Fin.ext (devWord _)) rfl rfl ?_
  refine sm4 (1, 1) ?_
  refine chk (chkPiece 1 _) ?_
  refine sm2 2 ?_
  exact ret (h _)

/-- Part 19 of the body ends with 17 sites sent, 5 sites received. -/
theorem part19 {K} {p43} (h : ∀ q46, Sn E 17 5 0 6 4 4 4 4 ⊢ K ⟨(hw c 2 2), q46, (nw c 0)⟩) :
    Sn E 16 4 0 6 4 4 4 4 ⊢ ww c (k0_part19 (F := F) a0 h0 hM h1 E.arg2 h2 E.arg3 h3 E.arg4 h4 oM h5 gM h6 wM h7 tM h8 sM h9
      cc0_scratch4 cc0_scratch5 cc0_scratch6 cc0_scratch7 (hw c 1 2) p43 (nw c 2)) K := by
  rw [k0_part19_eq_skeleton]
  unfold k0_part19_skel
  refine rcv (1, 1) rfl rfl ?_
  refine sm3 (1, 5) ?_
  refine chk (chkPiece 1 _) ?_
  refine sm2 0 ?_
  refine chk (chkDev _) ?_
  refine snd (1, 5) (piece_eq 1 _ rfl) (Fin.ext (devWord _)) rfl rfl ?_
  refine sm4 (2, 1) ?_
  refine chk (chkPiece 2 _) ?_
  refine sm2 0 ?_
  exact ret (h _)

/-- Part 20 of the body ends with 18 sites sent, 6 sites received. -/
theorem part20 {K} {p46} (h : ∀ q49, Sn E 18 6 0 6 4 4 4 4 ⊢ K ⟨(hw c 0 3), q49, (nw c 1)⟩) :
    Sn E 17 5 0 6 4 4 4 4 ⊢ ww c (k0_part20 (F := F) a0 h0 hM h1 E.arg2 h2 E.arg3 h3 E.arg4 h4 oM h5 gM h6 wM h7 tM h8 sM h9
      cc0_scratch4 cc0_scratch5 cc0_scratch6 cc0_scratch7 (hw c 2 2) p46 (nw c 0)) K := by
  rw [k0_part20_eq_skeleton]
  unfold k0_part20_skel
  refine rcv (2, 1) rfl rfl ?_
  refine sm3 (2, 5) ?_
  refine chk (chkPiece 2 _) ?_
  refine sm2 1 ?_
  refine chk (chkDev _) ?_
  refine snd (2, 5) (piece_eq 2 _ rfl) (Fin.ext (devWord _)) rfl rfl ?_
  refine sm4 (0, 2) ?_
  refine chk (chkPiece 0 _) ?_
  refine sm2 1 ?_
  exact ret (h _)

/-- Part 21 of the body ends with 19 sites sent, 7 sites received. -/
theorem part21 {K} {p49} (h : ∀ q52, Sn E 19 7 0 6 4 4 4 4 ⊢ K ⟨(hw c 1 3), q52, (nw c 2)⟩) :
    Sn E 18 6 0 6 4 4 4 4 ⊢ ww c (k0_part21 (F := F) a0 h0 hM h1 E.arg2 h2 E.arg3 h3 E.arg4 h4 oM h5 gM h6 wM h7 tM h8 sM h9
      cc0_scratch4 cc0_scratch5 cc0_scratch6 cc0_scratch7 (hw c 0 3) p49 (nw c 1)) K := by
  rw [k0_part21_eq_skeleton]
  unfold k0_part21_skel
  refine rcv (0, 2) rfl rfl ?_
  refine sm3 (0, 6) ?_
  refine chk (chkPiece 0 _) ?_
  refine sm2 2 ?_
  refine chk (chkDev _) ?_
  refine snd (0, 6) (piece_eq 0 _ rfl) (Fin.ext (devWord _)) rfl rfl ?_
  refine sm4 (1, 2) ?_
  refine chk (chkPiece 1 _) ?_
  refine sm2 2 ?_
  exact ret (h _)

/-- Part 22 of the body ends with 20 sites sent, 8 sites received. -/
theorem part22 {K} {p52} (h : ∀ q55, Sn E 20 8 0 6 4 4 4 4 ⊢ K ⟨(hw c 2 3), q55, (nw c 0), 1#32⟩) :
    Sn E 19 7 0 6 4 4 4 4 ⊢ ww c (k0_part22 (F := F) a0 h0 hM h1 E.arg2 h2 E.arg3 h3 E.arg4 h4 oM h5 gM h6 wM h7 tM h8 sM h9
      cc0_scratch4 cc0_scratch5 cc0_scratch6 cc0_scratch7 (hw c 1 3) p52 (nw c 2)) K := by
  rw [k0_part22_eq_skeleton]
  unfold k0_part22_skel
  refine rcv (1, 2) rfl rfl ?_
  refine sm3 (1, 6) ?_
  refine chk (chkPiece 1 _) ?_
  refine sm2 0 ?_
  refine chk (chkDev _) ?_
  refine snd (1, 6) (piece_eq 1 _ rfl) (Fin.ext (devWord _)) rfl rfl ?_
  refine sm4 (2, 2) ?_
  refine chk (chkPiece 2 _) ?_
  refine sm2 0 ?_
  exact ret (h _)

/-- Part 23 of the body ends with 21 sites sent, 9 sites received. -/
theorem part23 {K} {p55} (h : ∀ q58, Sn E 21 9 0 6 4 4 4 4 ⊢ K ⟨(hw c 0 2), q58, k0_pay13 (bandC E.D (held c 0 2) 0)⟩) :
    Sn E 20 8 0 6 4 4 4 4 ⊢ ww c (k0_part23 (F := F) a0 h0 hM h1 E.arg2 h2 E.arg3 h3 E.arg4 h4 oM h5 gM h6 wM h7 tM h8 sM h9
      cc0_scratch4 cc0_scratch5 cc0_scratch6 cc0_scratch7 (hw c 2 3) p55 (nw c 0) 1#32) K := by
  rw [k0_part23_eq_skeleton]
  unfold k0_part23_skel
  refine rcv (2, 2) rfl rfl ?_
  refine sm3 (2, 6) ?_
  refine chk (chkPiece 2 _) ?_
  refine sm2 1 ?_
  refine chk (chkDev _) ?_
  refine snd (2, 6) (piece_eq 2 _ rfl) (Fin.ext (devWord _)) rfl rfl ?_
  refine sm4 (0, 1) ?_
  refine chk (chkProd 0 _) ?_
  refine ldb 0 2 (piece_word 0 _) ?_
  exact ret (h _)

/-- Part 24 of the body ends with 7 products copied out, 5 products in the result. -/
theorem part24 {K} {p38 p39 p58} (h : ∀ q59, Sn E 21 9 0 7 5 4 4 4 ⊢ K ⟨(hw c 0 3), q59, k0_pay15 (bandC E.D (held c 0 3) 0)⟩) :
    Sn E 21 9 0 6 4 4 4 4 ⊢ ww c (k0_part24 (F := F) a0 h0 hM h1 E.arg2 h2 E.arg3 h3 E.arg4 h4 oM h5 gM h6 wM h7 tM h8 sM h9
      cc0_scratch4 cc0_scratch5 cc0_scratch6 cc0_scratch7 (hw c 1 1) p38 (hw c 2 1) p39 (hw c 0 2) p58 (k0_pay13 (bandC E.D (held c 0 2) 0))) K := by
  rw [k0_part24_eq_skeleton]
  unfold k0_part24_skel
  refine oar 0 1 1 rfl rfl ?_
  refine ldw ?_
  refine ldt 0 0 fun _ => ?_
  refine stt 0 0 2 rfl ?_
  refine ogo 0 0 2 rfl (out_eq _ 0 (rows_word 0 _)) rfl ?_
  refine sm4 (0, 2) ?_
  refine chk (chkProd 0 _) ?_
  refine ldb 0 3 (piece_word 0 _) ?_
  exact ret (h _)

/-- Part 25 of the body ends with 8 products copied out, 7 products in the result. -/
theorem part25 {K} {p39 p58 p59} (h : ∀ q60, Sn E 21 9 0 8 7 4 4 4 ⊢ K ⟨(hw c 1 2), q60, k0_pay17 (bandC E.D (held c 1 2) 1) (wC E.D c)⟩) :
    Sn E 21 9 0 7 5 4 4 4 ⊢ ww c (k0_part25 (F := F) a0 h0 hM h1 E.arg2 h2 E.arg3 h3 E.arg4 h4 oM h5 gM h6 wM h7 tM h8 sM h9
      cc0_scratch4 cc0_scratch5 cc0_scratch6 cc0_scratch7 (hw c 2 1) p39 (hw c 0 2) p58 (hw c 0 3) p59 (k0_pay15 (bandC E.D (held c 0 3) 0))) K := by
  rw [k0_part25_eq_skeleton]
  unfold k0_part25_skel
  refine oar 1 2 1 rfl rfl ?_
  refine ldw ?_
  refine ldt 1 0 fun _ => ?_
  refine stt 1 0 3 rfl ?_
  refine ogo 1 0 3 rfl (out_eq _ 0 (rows_word 0 _)) rfl ?_
  refine sm4 (1, 1) ?_
  refine chk (chkProd 1 _) ?_
  refine ldb 1 2 (piece_word 1 _) ?_
  refine oar 0 0 2 rfl rfl ?_
  refine ldw ?_
  exact ret (h _)

/-- Part 26 of the body ends with 9 products copied out, 8 products in the result, one product staged. -/
theorem part26 {K} {p59 p60} (h : ∀ q61, Stg E 21 9 0 9 8 4 4 4 1 1 3 ⊢ K ⟨(hw c 1 3), q61⟩) :
    Sn E 21 9 0 8 7 4 4 4 ⊢ ww c (k0_part26 (F := F) a0 h0 hM h1 E.arg2 h2 E.arg3 h3 E.arg4 h4 oM h5 gM h6 wM h7 tM h8 sM h9
      cc0_scratch4 cc0_scratch5 cc0_scratch6 cc0_scratch7 (hw c 0 3) p59 (hw c 1 2) p60 (k0_pay17 (bandC E.D (held c 1 2) 1) (wC E.D c))) K := by
  rw [k0_part26_eq_skeleton]
  unfold k0_part26_skel
  refine ldt 0 1 fun _ => ?_
  refine stt 0 1 2 rfl ?_
  refine ogo 0 1 2 rfl (out_eq _ 1 (rows_word 1 _)) rfl ?_
  refine sm4 (1, 2) ?_
  refine chk (chkProd 1 _) ?_
  refine ldb 1 3 (piece_word 1 _) ?_
  refine oar 1 0 3 rfl rfl ?_
  refine ldw ?_
  refine ldt 1 1 fun _ => ?_
  refine stt 1 1 3 rfl ?_
  exact ret (h _)

/-- Part 27 of the body ends with 11 products copied out, 9 products in the result. -/
theorem part27 {K} {p60 p61} (h : ∀ q62, Sn E 21 9 0 11 9 4 4 4 ⊢ K ⟨(hw c 2 2), q62⟩) :
    Stg E 21 9 0 9 8 4 4 4 1 1 3 ⊢ ww c (k0_part27 (F := F) a0 h0 hM h1 E.arg2 h2 E.arg3 h3 E.arg4 h4 oM h5 gM h6 wM h7 tM h8 sM h9
      cc0_scratch4 cc0_scratch5 cc0_scratch6 cc0_scratch7 (hw c 1 2) p60 (hw c 1 3) p61) K := by
  rw [k0_part27_eq_skeleton]
  unfold k0_part27_skel
  refine ogo 1 1 3 rfl (out_eq _ 1 (rows_word 1 _)) rfl ?_
  refine sm4 (2, 1) ?_
  refine chk (chkProd 2 _) ?_
  refine ldb 2 2 (piece_word 2 _) ?_
  refine oar 0 1 2 rfl rfl ?_
  refine ldw ?_
  refine ldt 0 2 fun _ => ?_
  refine stt 0 2 2 rfl ?_
  refine ogo 0 2 2 rfl (out_eq _ 2 (rows_word 2 _)) rfl ?_
  exact ret (h _)

/-- Part 28 of the body ends with 12 products copied out, 10 products in the result. -/
theorem part28 {K} {p61} (h : ∀ q63 q64, Sn E 21 9 0 12 10 4 4 4 ⊢ K ⟨(hw c 2 3), q63, (hw c 0 4), q64, (nw c 2)⟩) :
    Sn E 21 9 0 11 9 4 4 4 ⊢ ww c (k0_part28 (F := F) a0 h0 hM h1 E.arg2 h2 E.arg3 h3 E.arg4 h4 oM h5 gM h6 wM h7 tM h8 sM h9
      cc0_scratch4 cc0_scratch5 cc0_scratch6 cc0_scratch7 (hw c 1 3) p61) K := by
  rw [k0_part28_eq_skeleton]
  unfold k0_part28_skel
  refine sm4 (2, 2) ?_
  refine chk (chkProd 2 _) ?_
  refine ldb 2 3 (piece_word 2 _) ?_
  refine oar 1 1 3 rfl rfl ?_
  refine ldw ?_
  refine ldt 1 2 fun _ => ?_
  refine stt 1 2 3 rfl ?_
  refine ogo 1 2 3 rfl (out_eq _ 2 (rows_word 2 _)) rfl ?_
  refine sm4 (0, 3) ?_
  refine chk (chkPiece 0 _) ?_
  refine sm2 2 ?_
  exact ret (h _ _)

end Cert.Hyper

end
-- ==== Proof.PartsC.lean ====
/-
  The parts of the body: the last round of receiving.
-/
module

public import proofs.«01_k».proof.Proof.Walk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

local notation "𝕄" => MT nD τ sig Unit (Elt F) ℕ UU ℕ

/-- Part 29 of the body ends with 10 sites received, 11 products in the result, one product staged. -/
theorem part29 {K} {p62 p64} (h : ∀ q65, Stg E 21 10 0 12 11 4 4 4 0 0 4 ⊢ K ⟨(hw c 0 4), q65⟩) :
    Sn E 21 9 0 12 10 4 4 4 ⊢ ww c (k0_part29 (F := F) a0 h0 hM h1 E.arg2 h2 E.arg3 h3 E.arg4 h4 oM h5 gM h6 wM h7 tM h8 sM h9
      cc0_scratch4 cc0_scratch5 cc0_scratch6 cc0_scratch7 (hw c 2 2) p62 (hw c 0 4) p64 (nw c 2)) K := by
  rw [k0_part29_eq_skeleton]
  unfold k0_part29_skel
  refine rcv (0, 3) rfl rfl ?_
  refine sm4 (0, 3) ?_
  refine chk (chkProd 0 _) ?_
  refine ldb 0 4 (piece_word 0 _) ?_
  refine oar 0 2 2 rfl rfl ?_
  refine ldw ?_
  refine ldt 0 0 fun _ => ?_
  refine stt 0 0 4 rfl ?_
  exact ret (h _)

/-- Part 30 of the body ends with 11 sites received, 13 products copied out. -/
theorem part30 {K} {p63 p65} (h : ∀ q67, Sn E 21 11 0 13 11 4 4 4 ⊢ K ⟨(hw c 1 4), q67, k0_pay23 (bandC E.D (held c 1 4) 1)⟩) :
    Stg E 21 10 0 12 11 4 4 4 0 0 4 ⊢ ww c (k0_part30 (F := F) a0 h0 hM h1 E.arg2 h2 E.arg3 h3 E.arg4 h4 oM h5 gM h6 wM h7 tM h8 sM h9
      cc0_scratch4 cc0_scratch5 cc0_scratch6 cc0_scratch7 (hw c 2 3) p63 (hw c 0 4) p65) K := by
  rw [k0_part30_eq_skeleton]
  unfold k0_part30_skel
  refine ogo 0 0 4 rfl (out_eq _ 0 (rows_word 0 _)) rfl ?_
  refine sm4 (1, 3) ?_
  refine chk (chkPiece 1 _) ?_
  refine sm2 0 ?_
  refine rcv (1, 3) rfl rfl ?_
  refine sm4 (1, 3) ?_
  refine chk (chkProd 1 _) ?_
  refine ldb 1 4 (piece_word 1 _) ?_
  exact ret (h _)

/-- Part 31 of the body ends with 12 sites received, 14 products copied out, 12 products in the result. -/
theorem part31 {K} {p63 p67} (h : Sn E 21 12 0 14 12 4 4 4 ⊢ K ⟨⟩) :
    Sn E 21 11 0 13 11 4 4 4 ⊢ ww c (k0_part31 (F := F) a0 h0 hM h1 E.arg2 h2 E.arg3 h3 E.arg4 h4 oM h5 gM h6 wM h7 tM h8 sM h9
      cc0_scratch4 cc0_scratch5 cc0_scratch6 cc0_scratch7 (hw c 2 3) p63 (hw c 1 4) p67 (k0_pay23 (bandC E.D (held c 1 4) 1))) K := by
  rw [k0_part31_eq_skeleton]
  unfold k0_part31_skel
  refine oar 1 2 3 rfl rfl ?_
  refine ldw ?_
  refine ldt 1 1 fun _ => ?_
  refine stt 1 1 4 rfl ?_
  refine ogo 1 1 4 rfl (out_eq _ 1 (rows_word 1 _)) rfl ?_
  refine sm4 (2, 3) ?_
  refine chk (chkPiece 2 _) ?_
  refine sm2 1 ?_
  refine rcv (2, 3) rfl rfl ?_
  exact ret h

/-- Part 32 of the body ends with 15 products copied out, 13 products in the result. -/
theorem part32 {K} {p65} (h : ∀ q69 q70, Sn E 21 12 0 15 13 4 4 4 ⊢ K ⟨(hw c 2 4), q69, (hw c 0 5), q70, (nw c 2)⟩) :
    Sn E 21 12 0 14 12 4 4 4 ⊢ ww c (k0_part32 (F := F) a0 h0 hM h1 E.arg2 h2 E.arg3 h3 E.arg4 h4 oM h5 gM h6 wM h7 tM h8 sM h9
      cc0_scratch4 cc0_scratch5 cc0_scratch6 cc0_scratch7 (hw c 0 4) p65) K := by
  rw [k0_part32_eq_skeleton]
  unfold k0_part32_skel
  refine sm4 (2, 3) ?_
  refine chk (chkProd 2 _) ?_
  refine ldb 2 4 (piece_word 2 _) ?_
  refine oar 0 0 4 rfl rfl ?_
  refine ldw ?_
  refine ldt 0 2 fun _ => ?_
  refine stt 0 2 4 rfl ?_
  refine ogo 0 2 4 rfl (out_eq _ 2 (rows_word 2 _)) rfl ?_
  refine sm4 (0, 4) ?_
  refine chk (chkPiece 0 _) ?_
  refine sm2 2 ?_
  exact ret (h _ _)

/-- Part 33 of the body ends with 13 sites received, 14 products in the result, one product staged. -/
theorem part33 {K} {p67 p70} (h : ∀ q71, Stg E 21 13 0 15 14 4 4 4 1 0 5 ⊢ K ⟨(hw c 0 5), q71⟩) :
    Sn E 21 12 0 15 13 4 4 4 ⊢ ww c (k0_part33 (F := F) a0 h0 hM h1 E.arg2 h2 E.arg3 h3 E.arg4 h4 oM h5 gM h6 wM h7 tM h8 sM h9
      cc0_scratch4 cc0_scratch5 cc0_scratch6 cc0_scratch7 (hw c 1 4) p67 (hw c 0 5) p70 (nw c 2)) K := by
  rw [k0_part33_eq_skeleton]
  unfold k0_part33_skel
  refine rcv (0, 4) rfl rfl ?_
  refine sm4 (0, 4) ?_
  refine chk (chkProd 0 _) ?_
  refine ldb 0 5 (piece_word 0 _) ?_
  refine oar 1 1 4 rfl rfl ?_
  refine ldw ?_
  refine ldt 1 0 fun _ => ?_
  refine stt 1 0 5 rfl ?_
  exact ret (h _)

/-- Part 34 of the body ends with 14 sites received, 16 products copied out, 15 products in the result. -/
theorem part34 {K} {p69 p71} (h : ∀ q73, Sn E 21 14 0 16 15 4 4 4 ⊢ K ⟨(hw c 1 5), q73, k0_pay27 (bandC E.D (held c 1 5) 1)⟩) :
    Stg E 21 13 0 15 14 4 4 4 1 0 5 ⊢ ww c (k0_part34 (F := F) a0 h0 hM h1 E.arg2 h2 E.arg3 h3 E.arg4 h4 oM h5 gM h6 wM h7 tM h8 sM h9
      cc0_scratch4 cc0_scratch5 cc0_scratch6 cc0_scratch7 (hw c 2 4) p69 (hw c 0 5) p71) K := by
  rw [k0_part34_eq_skeleton]
  unfold k0_part34_skel
  refine ogo 1 0 5 rfl (out_eq _ 0 (rows_word 0 _)) rfl ?_
  refine sm4 (1, 4) ?_
  refine chk (chkPiece 1 _) ?_
  refine sm2 0 ?_
  refine rcv (1, 4) rfl rfl ?_
  refine sm4 (1, 4) ?_
  refine chk (chkProd 1 _) ?_
  refine ldb 1 5 (piece_word 1 _) ?_
  refine oar 0 2 4 rfl rfl ?_
  exact ret (h _)

/-- Part 35 of the body ends with 15 sites received, 17 products copied out. -/
theorem part35 {K} {p73} (h : ∀ q75, Sn E 21 15 0 17 15 4 4 4 ⊢ K ⟨(hw c 2 5), q75⟩) :
    Sn E 21 14 0 16 15 4 4 4 ⊢ ww c (k0_part35 (F := F) a0 h0 hM h1 E.arg2 h2 E.arg3 h3 E.arg4 h4 oM h5 gM h6 wM h7 tM h8 sM h9
      cc0_scratch4 cc0_scratch5 cc0_scratch6 cc0_scratch7 (hw c 1 5) p73 (k0_pay27 (bandC E.D (held c 1 5) 1))) K := by
  rw [k0_part35_eq_skeleton]
  unfold k0_part35_skel
  refine ldw ?_
  refine ldt 0 1 fun _ => ?_
  refine stt 0 1 5 rfl ?_
  refine ogo 0 1 5 rfl (out_eq _ 1 (rows_word 1 _)) rfl ?_
  refine sm4 (2, 4) ?_
  refine chk (chkPiece 2 _) ?_
  refine sm2 1 ?_
  refine rcv (2, 4) rfl rfl ?_
  refine sm4 (2, 4) ?_
  refine chk (chkProd 2 _) ?_
  exact ret (h _)

/-- Part 36 of the body ends with 18 products copied out, 16 products in the result. -/
theorem part36 {K} {p71 p75} (h : ∀ q76, Sn E 21 15 0 18 16 4 4 4 ⊢ K ⟨(hw c 0 6), q76, (Scalar.muli (nw c 2) 1#32)⟩) :
    Sn E 21 15 0 17 15 4 4 4 ⊢ ww c (k0_part36 (F := F) a0 h0 hM h1 E.arg2 h2 E.arg3 h3 E.arg4 h4 oM h5 gM h6 wM h7 tM h8 sM h9
      cc0_scratch4 cc0_scratch5 cc0_scratch6 cc0_scratch7 (hw c 0 5) p71 (hw c 2 5) p75) K := by
  rw [k0_part36_eq_skeleton]
  unfold k0_part36_skel
  refine ldb 2 5 (piece_word 2 _) ?_
  refine oar 1 0 5 rfl rfl ?_
  refine ldw ?_
  refine ldt 1 2 fun _ => ?_
  refine stt 1 2 5 rfl ?_
  refine ogo 1 2 5 rfl (out_eq _ 2 (rows_word 2 _)) rfl ?_
  refine sm4 (0, 5) ?_
  refine chk (chkPiece 0 _) ?_
  refine sm2 2 ?_
  exact ret (h _)

/-- Part 37 of the body ends with 16 sites received, 17 products in the result, one product staged. -/
theorem part37 {K} {p73 p76} (h : ∀ q77, Stg E 21 16 0 18 17 4 4 4 0 0 6 ⊢ K ⟨(hw c 0 6), q77⟩) :
    Sn E 21 15 0 18 16 4 4 4 ⊢ ww c (k0_part37 (F := F) a0 h0 hM h1 E.arg2 h2 E.arg3 h3 E.arg4 h4 oM h5 gM h6 wM h7 tM h8 sM h9
      cc0_scratch4 cc0_scratch5 cc0_scratch6 cc0_scratch7 (hw c 1 5) p73 (hw c 0 6) p76 (Scalar.muli (nw c 2) 1#32)) K := by
  rw [k0_part37_eq_skeleton]
  unfold k0_part37_skel
  refine rcv (0, 5) rfl rfl ?_
  refine sm4 (0, 5) ?_
  refine chk (chkProd 0 _) ?_
  refine ldb 0 6 (piece_word 0 _) ?_
  refine oar 0 1 5 rfl rfl ?_
  refine ldw ?_
  refine ldt 0 0 fun _ => ?_
  refine stt 0 0 6 rfl ?_
  exact ret (h _)

/-- Part 38 of the body ends with 17 sites received, 19 products copied out, 18 products in the result. -/
theorem part38 {K} {p75 p77} (h : ∀ q79, Sn E 21 17 0 19 18 4 4 4 ⊢ K ⟨(hw c 1 6), q79, k0_pay31 (bandC E.D (held c 1 6) 1), (wC E.D c)⟩) :
    Stg E 21 16 0 18 17 4 4 4 0 0 6 ⊢ ww c (k0_part38 (F := F) a0 h0 hM h1 E.arg2 h2 E.arg3 h3 E.arg4 h4 oM h5 gM h6 wM h7 tM h8 sM h9
      cc0_scratch4 cc0_scratch5 cc0_scratch6 cc0_scratch7 (hw c 2 5) p75 (hw c 0 6) p77) K := by
  rw [k0_part38_eq_skeleton]
  unfold k0_part38_skel
  refine ogo 0 0 6 rfl (out_eq _ 0 (rows_word 0 _)) rfl ?_
  refine sm4 (1, 5) ?_
  refine chk (chkPiece 1 _) ?_
  refine sm2 0 ?_
  refine rcv (1, 5) rfl rfl ?_
  refine sm4 (1, 5) ?_
  refine chk (chkProd 1 _) ?_
  refine ldb 1 6 (piece_word 1 _) ?_
  refine oar 1 2 5 rfl rfl ?_
  refine ldw ?_
  exact ret (h _)

/-- Part 39 of the body ends with 18 sites received, 20 products copied out. -/
theorem part39 {K} {p79} (h : ∀ q81, Sn E 21 18 0 20 18 4 4 4 ⊢ K ⟨(hw c 2 6), q81, (bandC E.D (held c 2 6) 2)⟩) :
    Sn E 21 17 0 19 18 4 4 4 ⊢ ww c (k0_part39 (F := F) a0 h0 hM h1 E.arg2 h2 E.arg3 h3 E.arg4 h4 oM h5 gM h6 wM h7 tM h8 sM h9
      cc0_scratch4 cc0_scratch5 cc0_scratch6 cc0_scratch7 (hw c 1 6) p79 (k0_pay31 (bandC E.D (held c 1 6) 1)) (wC E.D c)) K := by
  rw [k0_part39_eq_skeleton]
  unfold k0_part39_skel
  refine ldt 1 1 fun _ => ?_
  refine stt 1 1 6 rfl ?_
  refine ogo 1 1 6 rfl (out_eq _ 1 (rows_word 1 _)) rfl ?_
  refine sm4 (2, 5) ?_
  refine chk (chkPiece 2 _) ?_
  refine sm2 1 ?_
  refine rcv (2, 5) rfl rfl ?_
  refine sm4 (2, 5) ?_
  refine chk (chkProd 2 _) ?_
  refine ldb 2 6 (piece_word 2 _) ?_
  exact ret (h _)

/-- Part 40 of the body ends with 21 products copied out, 19 products in the result. -/
theorem part40 {K} {p77 p81} (h : ∀ q82, Sn E 21 18 0 21 19 4 4 4 ⊢ K ⟨(hw c 0 7), q82⟩) :
    Sn E 21 18 0 20 18 4 4 4 ⊢ ww c (k0_part40 (F := F) a0 h0 hM h1 E.arg2 h2 E.arg3 h3 E.arg4 h4 oM h5 gM h6 wM h7 tM h8 sM h9
      cc0_scratch4 cc0_scratch5 cc0_scratch6 cc0_scratch7 (hw c 0 6) p77 (hw c 2 6) p81 (bandC E.D (held c 2 6) 2)) K := by
  rw [k0_part40_eq_skeleton]
  unfold k0_part40_skel
  refine oar 0 0 6 rfl rfl ?_
  refine ldw ?_
  refine ldt 0 2 fun _ => ?_
  refine stt 0 2 6 rfl ?_
  refine ogo 0 2 6 rfl (out_eq _ 2 (rows_word 2 _)) rfl ?_
  refine sm4 (0, 6) ?_
  refine chk (chkPiece 0 _) ?_
  refine sm2 2 ?_
  exact ret (h _)

/-- Part 41 of the body ends with 19 sites received, 20 products in the result, one product staged. -/
theorem part41 {K} {p79 p82} (h : ∀ q83, Stg E 21 19 0 21 20 4 4 4 1 0 7 ⊢ K ⟨(hw c 0 7), q83⟩) :
    Sn E 21 18 0 21 19 4 4 4 ⊢ ww c (k0_part41 (F := F) a0 h0 hM h1 E.arg2 h2 E.arg3 h3 E.arg4 h4 oM h5 gM h6 wM h7 tM h8 sM h9
      cc0_scratch4 cc0_scratch5 cc0_scratch6 cc0_scratch7 (hw c 1 6) p79 (hw c 0 7) p82) K := by
  rw [k0_part41_eq_skeleton]
  unfold k0_part41_skel
  refine rcv (0, 6) rfl rfl ?_
  refine sm4 (0, 6) ?_
  refine chk (chkProd 0 _) ?_
  refine ldb 0 7 (piece_word 0 _) ?_
  refine oar 1 1 6 rfl rfl ?_
  refine ldw ?_
  refine ldt 1 0 fun _ => ?_
  refine stt 1 0 7 rfl ?_
  exact ret (h _)

end Cert.Hyper

end
-- ==== Proof.PartsD.lean ====
/-
  The parts of the body: the last products and the settling of the sends.
-/
module

public import proofs.«01_k».proof.Proof.Walk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

local notation "𝕄" => MT nD τ sig Unit (Elt F) ℕ UU ℕ

/-- Part 42 of the body ends with 20 sites received, 22 products copied out, 21 products in the result. -/
theorem part42 {K} {p81 p83} (h : ∀ q85, Sn E 21 20 0 22 21 4 4 4 ⊢ K ⟨(hw c 1 7), q85, k0_pay35 (bandC E.D (held c 1 7) 1) (wC E.D c), (Scalar.ofBits .f32 0x00000000#32)⟩) :
    Stg E 21 19 0 21 20 4 4 4 1 0 7 ⊢ ww c (k0_part42 (F := F) a0 h0 hM h1 E.arg2 h2 E.arg3 h3 E.arg4 h4 oM h5 gM h6 wM h7 tM h8 sM h9
      cc0_scratch4 cc0_scratch5 cc0_scratch6 cc0_scratch7 (hw c 2 6) p81 (hw c 0 7) p83) K := by
  rw [k0_part42_eq_skeleton]
  unfold k0_part42_skel
  refine ogo 1 0 7 rfl (out_eq _ 0 (rows_word 0 _)) rfl ?_
  refine sm4 (1, 6) ?_
  refine chk (chkPiece 1 _) ?_
  refine sm2 0 ?_
  refine rcv (1, 6) rfl rfl ?_
  refine sm4 (1, 6) ?_
  refine chk (chkProd 1 _) ?_
  refine ldb 1 7 (piece_word 1 _) ?_
  refine oar 0 2 6 rfl rfl ?_
  refine ldw ?_
  exact ret (h _)

/-- Part 43 of the body ends with 21 sites received, 23 products copied out. -/
theorem part43 {K} {p85} (h : ∀ q87, Sn E 21 21 0 23 21 4 4 4 ⊢ K ⟨(hw c 2 7), q87, k0_pay37 (bandC E.D (held c 2 7) 2), (Scalar.muli (hw c 2 7) 512#32)⟩) :
    Sn E 21 20 0 22 21 4 4 4 ⊢ ww c (k0_part43 (F := F) a0 h0 hM h1 E.arg2 h2 E.arg3 h3 E.arg4 h4 oM h5 gM h6 wM h7 tM h8 sM h9
      cc0_scratch4 cc0_scratch5 cc0_scratch6 cc0_scratch7 (hw c 1 7) p85 (k0_pay35 (bandC E.D (held c 1 7) 1) (wC E.D c)) (Scalar.ofBits .f32 0x00000000#32)) K := by
  rw [k0_part43_eq_skeleton]
  unfold k0_part43_skel
  refine ldt 0 1 fun _ => ?_
  refine stt 0 1 7 rfl ?_
  refine ogo 0 1 7 rfl (out_eq _ 1 (rows_word 1 _)) rfl ?_
  refine sm4 (2, 6) ?_
  refine chk (chkPiece 2 _) ?_
  refine sm2 1 ?_
  refine rcv (2, 6) rfl rfl ?_
  refine sm4 (2, 6) ?_
  refine chk (chkLast 2 _) ?_
  refine ldb 2 7 (piece_word 2 _) ?_
  exact ret (h _)

/-- Part 44 of the body ends with 24 products copied out, 23 products in the result. -/
theorem part44 {K} {p83 p85 p87} (h : Sn E 21 21 0 24 23 4 4 4 ⊢ K ⟨⟩) :
    Sn E 21 21 0 23 21 4 4 4 ⊢ ww c (k0_part44 (F := F) a0 h0 hM h1 E.arg2 h2 E.arg3 h3 E.arg4 h4 oM h5 gM h6 wM h7 tM h8 sM h9
      cc0_scratch4 cc0_scratch5 cc0_scratch6 cc0_scratch7 (hw c 0 7) p83 (hw c 1 7) p85 (hw c 2 7) p87 (k0_pay37 (bandC E.D (held c 2 7) 2)) (Scalar.muli (hw c 2 7) 512#32)) K := by
  rw [k0_part44_eq_skeleton]
  unfold k0_part44_skel
  refine oar 1 0 7 rfl rfl ?_
  refine ldw ?_
  refine ldt 1 2 fun _ => ?_
  refine stt 1 2 7 rfl ?_
  refine ogo 1 2 7 rfl (out_eq _ 2 (rows_word 2 _)) rfl ?_
  refine oar 0 1 7 rfl rfl ?_
  exact ret h

/-- Part 45 of the body ends with 2 sites settled, 24 products in the result. -/
theorem part45 {K} {p87} (h : ∀ q90, Sn E 21 21 2 24 24 4 4 4 ⊢ K ⟨(hw c 2 0), q90⟩) :
    Sn E 21 21 0 24 23 4 4 4 ⊢ ww c (k0_part45 (F := F) a0 h0 hM h1 E.arg2 h2 E.arg3 h3 E.arg4 h4 oM h5 gM h6 wM h7 tM h8 sM h9
      cc0_scratch4 cc0_scratch5 cc0_scratch6 cc0_scratch7 (hw c 2 7) p87) K := by
  rw [k0_part45_eq_skeleton]
  unfold k0_part45_skel
  refine oar 1 2 7 rfl rfl ?_
  refine sm3 (0, 0) ?_
  refine chk (chkPiece 0 _) ?_
  refine sm2 0 ?_
  refine fin (0, 0) rfl rfl ?_
  refine sm3 (1, 0) ?_
  refine chk (chkPiece 1 _) ?_
  refine sm2 1 ?_
  refine fin (1, 0) rfl rfl ?_
  refine sm3 (2, 0) ?_
  refine chk (chkPiece 2 _) ?_
  refine sm2 2 ?_
  exact ret (h _)

/-- Part 46 of the body ends with 4 sites settled. -/
theorem part46 {K} {p90} (h : ∀ q92, Sn E 21 21 4 24 24 4 4 4 ⊢ K ⟨(hw c 0 1), q92⟩) :
    Sn E 21 21 2 24 24 4 4 4 ⊢ ww c (k0_part46 (F := F) a0 h0 hM h1 E.arg2 h2 E.arg3 h3 E.arg4 h4 oM h5 gM h6 wM h7 tM h8 sM h9
      cc0_scratch4 cc0_scratch5 cc0_scratch6 cc0_scratch7 (hw c 2 0) p90) K := by
  rw [k0_part46_eq_skeleton]
  unfold k0_part46_skel
  refine fin (2, 0) rfl rfl ?_
  refine sm3 (0, 1) ?_
  refine chk (chkPiece 0 _) ?_
  refine sm2 1 ?_
  refine fin (0, 1) rfl rfl ?_
  refine sm3 (0, 2) ?_
  refine chk (chkPiece 0 _) ?_
  refine sm2 1 ?_
  exact ret (h _)

/-- Part 47 of the body ends with 7 sites settled. -/
theorem part47 {K} {p92} (h : Sn E 21 21 7 24 24 4 4 4 ⊢ K (hw c 2 0)) :
    Sn E 21 21 4 24 24 4 4 4 ⊢ ww c (k0_part47 (F := F) a0 h0 hM h1 E.arg2 h2 E.arg3 h3 E.arg4 h4 oM h5 gM h6 wM h7 tM h8 sM h9
      cc0_scratch4 cc0_scratch5 cc0_scratch6 cc0_scratch7 (hw c 0 1) p92) K := by
  rw [k0_part47_eq_skeleton]
  unfold k0_part47_skel
  refine fin (0, 2) rfl rfl ?_
  refine sm3 (1, 1) ?_
  refine chk (chkPiece 1 _) ?_
  refine sm2 2 ?_
  refine fin (1, 1) rfl rfl ?_
  refine sm3 (1, 2) ?_
  refine chk (chkPiece 1 _) ?_
  refine sm2 2 ?_
  refine fin (1, 2) rfl rfl ?_
  refine last ?_
  refine sm3 (2, 1) ?_
  exact ret h

/-- Part 48 of the body ends with 9 sites settled. -/
theorem part48 {K} (h : ∀ q97, Sn E 21 21 9 24 24 4 4 4 ⊢ K ⟨(hw c 0 0), q97⟩) :
    Sn E 21 21 7 24 24 4 4 4 ⊢ ww c (k0_part48 (F := F) a0 h0 hM h1 E.arg2 h2 E.arg3 h3 E.arg4 h4 oM h5 gM h6 wM h7 tM h8 sM h9
      cc0_scratch4 cc0_scratch5 cc0_scratch6 cc0_scratch7 (hw c 2 0)) K := by
  rw [k0_part48_eq_skeleton]
  unfold k0_part48_skel
  refine chk (chkPiece 2 _) ?_
  refine sm2 0 ?_
  refine fin (2, 1) rfl rfl ?_
  refine sm3 (2, 2) ?_
  refine chk (chkPiece 2 _) ?_
  refine sm2 0 ?_
  refine fin (2, 2) rfl rfl ?_
  refine sm3 (0, 3) ?_
  refine chk (chkPiece 0 _) ?_
  refine sm2 2 ?_
  exact ret (h _)

/-- Part 49 of the body ends with 11 sites settled. -/
theorem part49 {K} {p97} (h : ∀ q99, Sn E 21 21 11 24 24 4 4 4 ⊢ K ⟨(hw c 0 2), q99⟩) :
    Sn E 21 21 9 24 24 4 4 4 ⊢ ww c (k0_part49 (F := F) a0 h0 hM h1 E.arg2 h2 E.arg3 h3 E.arg4 h4 oM h5 gM h6 wM h7 tM h8 sM h9
      cc0_scratch4 cc0_scratch5 cc0_scratch6 cc0_scratch7 (hw c 0 0) p97) K := by
  rw [k0_part49_eq_skeleton]
  unfold k0_part49_skel
  refine fin (0, 3) rfl rfl ?_
  refine sm3 (0, 4) ?_
  refine chk (chkPiece 0 _) ?_
  refine sm2 2 ?_
  refine fin (0, 4) rfl rfl ?_
  refine sm3 (0, 5) ?_
  refine chk (chkPiece 0 _) ?_
  refine sm2 2 ?_
  exact ret (h _)

/-- Part 50 of the body ends with 14 sites settled. -/
theorem part50 {K} {p99} (h : ∀ q102, Sn E 21 21 14 24 24 4 4 4 ⊢ K ⟨(hw c 1 1), q102⟩) :
    Sn E 21 21 11 24 24 4 4 4 ⊢ ww c (k0_part50 (F := F) a0 h0 hM h1 E.arg2 h2 E.arg3 h3 E.arg4 h4 oM h5 gM h6 wM h7 tM h8 sM h9
      cc0_scratch4 cc0_scratch5 cc0_scratch6 cc0_scratch7 (hw c 0 2) p99) K := by
  rw [k0_part50_eq_skeleton]
  unfold k0_part50_skel
  refine fin (0, 5) rfl rfl ?_
  refine sm3 (0, 6) ?_
  refine chk (chkPiece 0 _) ?_
  refine sm2 2 ?_
  refine fin (0, 6) rfl rfl ?_
  refine sm3 (1, 3) ?_
  refine chk (chkPiece 1 _) ?_
  refine sm2 0 ?_
  refine fin (1, 3) rfl rfl ?_
  refine sm3 (1, 4) ?_
  refine chk (chkPiece 1 _) ?_
  refine sm2 0 ?_
  exact ret (h _)

/-- Part 51 of the body ends with 16 sites settled. -/
theorem part51 {K} {p102} (h : ∀ q104, Sn E 21 21 16 24 24 4 4 4 ⊢ K ⟨(hw c 1 3), q104⟩) :
    Sn E 21 21 14 24 24 4 4 4 ⊢ ww c (k0_part51 (F := F) a0 h0 hM h1 E.arg2 h2 E.arg3 h3 E.arg4 h4 oM h5 gM h6 wM h7 tM h8 sM h9
      cc0_scratch4 cc0_scratch5 cc0_scratch6 cc0_scratch7 (hw c 1 1) p102) K := by
  rw [k0_part51_eq_skeleton]
  unfold k0_part51_skel
  refine fin (1, 4) rfl rfl ?_
  refine sm3 (1, 5) ?_
  refine chk (chkPiece 1 _) ?_
  refine sm2 0 ?_
  refine fin (1, 5) rfl rfl ?_
  refine sm3 (1, 6) ?_
  refine chk (chkPiece 1 _) ?_
  refine sm2 0 ?_
  exact ret (h _)

/-- Part 52 of the body ends with 19 sites settled. -/
theorem part52 {K} {p104} (h : Sn E 21 21 19 24 24 4 4 4 ⊢ K (hw c 2 2)) :
    Sn E 21 21 16 24 24 4 4 4 ⊢ ww c (k0_part52 (F := F) a0 h0 hM h1 E.arg2 h2 E.arg3 h3 E.arg4 h4 oM h5 gM h6 wM h7 tM h8 sM h9
      cc0_scratch4 cc0_scratch5 cc0_scratch6 cc0_scratch7 (hw c 1 3) p104) K := by
  rw [k0_part52_eq_skeleton]
  unfold k0_part52_skel
  refine fin (1, 6) rfl rfl ?_
  refine sm3 (2, 3) ?_
  refine chk (chkPiece 2 _) ?_
  refine sm2 1 ?_
  refine fin (2, 3) rfl rfl ?_
  refine sm3 (2, 4) ?_
  refine chk (chkPiece 2 _) ?_
  refine sm2 1 ?_
  refine fin (2, 4) rfl rfl ?_
  refine last ?_
  refine sm3 (2, 5) ?_
  exact ret h

end Cert.Hyper

end
-- ==== Proof.Body.lean ====
/-
  The body of the kernel from the state after its first part to the state in which everything is
  sent, received, settled and written.
-/
module

public import proofs.«01_k».proof.Proof.PartsA
public import proofs.«01_k».proof.Proof.PartsB
public import proofs.«01_k».proof.Proof.PartsC
public import proofs.«01_k».proof.Proof.PartsD

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

local notation "𝕄" => MT nD τ sig Unit (Elt F) ℕ UU ℕ

/-- The body, given its first part: if that part leads to the state in which the device's own block is in place and
    nothing has been sent, the body ends with everything sent, received, settled and written. -/
theorem body_run {X : sProp 𝕄} {K : PUnit → sProp 𝕄}
    (h1' : ∀ K', (∀ v q q', Sn E 0 0 0 0 0 0 0 0 ⊢ K' ⟨c, v, hw c 0 0, q, nw c 0, q'⟩) →
      X ⊢ ww c (k0_part1 (F := F) a0 h0 hM h1 E.arg2 h2 E.arg3 h3 E.arg4 h4 oM h5 gM h6 wM h7 tM h8 sM h9 cc0_scratch4 cc0_scratch5 cc0_scratch6 cc0_scratch7) K')
    (h : Sn E 21 21 21 24 24 4 4 4 ⊢ K ⟨⟩) :
    X ⊢ ww c (cc0_body (F := F) a0 h0 hM h1 E.arg2 h2 E.arg3 h3 E.arg4 h4 oM h5 gM h6 wM h7 tM h8 sM h9 cc0_scratch4 cc0_scratch5 cc0_scratch6 cc0_scratch7) K := by
  rw [cc0_body_eq_skeleton]
  unfold cc0_body_skel
  refine seq ?_
  rw [k0_part53_eq_skeleton]
  unfold k0_part53_skel
  refine seq (h1' _ fun _ _ _ => ?_)
  refine seq (part2 fun _ _ => ?_)
  refine seq (part3 fun _ => ?_)
  refine seq (part4 fun _ => ?_)
  refine seq (part5 ?_)
  refine seq (part6 ?_)
  refine seq (part7 ?_)
  refine seq (part8 ?_)
  refine seq (part9 ?_)
  refine seq (part10 fun _ => ?_)
  refine seq (part11 fun _ _ => ?_)
  refine seq (part12 fun _ _ => ?_)
  refine seq (part13 fun _ => ?_)
  refine seq (part14 fun _ _ => ?_)
  refine seq (part15 fun _ => ?_)
  refine seq (part16 fun _ => ?_)
  refine seq (part17 fun _ _ => ?_)
  refine seq (part18 fun _ => ?_)
  refine seq (part19 fun _ => ?_)
  refine seq (part20 fun _ => ?_)
  refine seq (part21 fun _ => ?_)
  refine seq (part22 fun _ => ?_)
  refine seq (part23 fun _ => ?_)
  refine seq (part24 fun _ => ?_)
  refine seq (part25 fun _ => ?_)
  refine seq (part26 fun _ => ?_)
  refine seq (part27 fun _ => ?_)
  refine seq (part28 fun _ _ => ?_)
  refine seq (part29 fun _ => ?_)
  refine seq (part30 fun _ => ?_)
  refine seq (part31 ?_)
  refine seq (part32 fun _ _ => ?_)
  refine seq (part33 fun _ => ?_)
  refine seq (part34 fun _ => ?_)
  refine seq (part35 fun _ => ?_)
  refine seq (part36 fun _ => ?_)
  refine seq (part37 fun _ => ?_)
  refine seq (part38 fun _ => ?_)
  refine seq (part39 fun _ => ?_)
  refine seq (part40 fun _ => ?_)
  refine seq (part41 fun _ => ?_)
  refine seq (part42 fun _ => ?_)
  refine seq (part43 fun _ => ?_)
  refine seq (part44 ?_)
  refine seq (part45 fun _ => ?_)
  refine seq (part46 fun _ => ?_)
  refine seq (part47 ?_)
  refine seq (part48 fun _ => ?_)
  refine seq (part49 fun _ => ?_)
  refine seq (part50 fun _ => ?_)
  refine seq (part51 fun _ => ?_)
  refine seq (part52 ?_)
  refine chk (chkPiece 2 _) ?_
  refine sm2 1 ?_
  refine ret ?_
  refine fin (2, 5) rfl rfl ?_
  refine sm3 (2, 6) ?_
  refine chk (chkPiece 2 _) ?_
  refine sm2 1 ?_
  refine fin (2, 6) rfl rfl ?_
  exact ret h

end Cert.Hyper

end
-- ==== Proof.Cut.lean ====
/-
  Cutting the buffers into the parts that are copied and joining the parts again.
-/
module

public import proofs.«01_k».proof.Proof.Body

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families -/

/-- A part of a buffer is the parts that make it up. -/
theorem cutOn {ι : Type} [Fintype ι] [DecidableEq ι] {ℓ : Loc nD τ sig} {q : PosShare TreeShare} {f : Buf (Elt F) ℓ} (A : ι → Finset (Idx ℓ)) (I : Finset (Idx ℓ))
    (hd : ∀ y y', y ≠ y' → Disjoint (A y) (A y')) (hI : ∀ i, i ∈ I ↔ ∃ y, i ∈ A y) :
    (ℓ ↦[I]{q} f : sProp 𝕄) = bigSep Finset.univ fun y => ℓ ↦[A y]{q} f := by
  rw [← pointsTo_biUnion Finset.univ A fun y _ y' _ h => hd y y' h]
  congr 1
  ext i
  rw [hI, Finset.mem_biUnion]
  exact ⟨fun ⟨y, h⟩ => ⟨y, Finset.mem_univ y, h⟩, fun ⟨y, _, h⟩ => ⟨y, h⟩⟩

/-- A buffer is its parts. -/
theorem cut {ι : Type} [Fintype ι] [DecidableEq ι] {ℓ : Loc nD τ sig} {q : PosShare TreeShare} {f : Buf (Elt F) ℓ} (A : ι → Finset (Idx ℓ))
    (hd : ∀ y y', y ≠ y' → Disjoint (A y) (A y')) (hc : ∀ i, ∃ y, i ∈ A y) :
    (ℓ ↦[Finset.univ]{q} f : sProp 𝕄) = bigSep Finset.univ fun y => ℓ ↦[A y]{q} f :=
  cutOn A Finset.univ hd fun i => ⟨fun _ => hc i, fun _ => Finset.mem_univ i⟩

/-- Parts with some contents each make the buffer with some contents. -/
theorem glue {ι : Type} [Fintype ι] [DecidableEq ι] {ℓ : Loc nD τ sig} {q : PosShare TreeShare} (A : ι → Finset (Idx ℓ)) (f₀ : Buf (Elt F) ℓ)
    (hd : ∀ y y', y ≠ y' → Disjoint (A y) (A y')) (hc : ∀ i, ∃ y, i ∈ A y) :
    (bigSep Finset.univ fun y => iprop(∃ f, ℓ ↦[A y]{q} f) : sProp 𝕄) ⊢ iprop(∃ f, ℓ ↦[Finset.univ]{q} f) := by
  haveI : Nonempty (Buf (Elt F) ℓ) := ⟨f₀⟩
  refine (bigSep_exists_pi Finset.univ fun y f => (ℓ ↦[A y]{q} f : sProp 𝕄)).trans ?_
  iintro ⟨%fs, H⟩
  ihave H := (pointsTo_biUnion_join Finset.univ A fs f₀ fun y _ y' _ h => hd y y' h) $$ H
  icases H with ⟨%g, -, H⟩
  iexists g
  rw [show Finset.univ.biUnion A = Finset.univ from Finset.eq_univ_of_forall fun i => by
    obtain ⟨y, hy⟩ := hc i
    exact Finset.mem_biUnion.2 ⟨y, Finset.mem_univ y, hy⟩]
  iexact H

/-- What is handed over by dimension, by site. -/
theorem regroup (Ψ : Fin 3 → Site → sProp 𝕄) :
    (bigSep Finset.univ fun d => bigSep Finset.univ fun i : Site => if dim i = d then Ψ d i else iprop(emp)) = bigSep Finset.univ fun i => Ψ (dim i) i := by
  rw [← bigSep_univ_prod (fun x : Fin 3 × Site => if dim x.2 = x.1 then Ψ x.1 x.2 else iprop(emp)),
    bigSep_univ_equiv (Equiv.prodComm Site (Fin 3)), bigSep_univ_prod]
  refine bigSep_congr fun i _ => ?_
  show (bigSep Finset.univ fun d => if dim i = d then Ψ d i else iprop(emp)) = _
  rw [bigSep_univ_at _ (dim i), if_pos rfl, bigSep_congr (Ψ := fun _ => iprop(emp)) fun d hd => if_neg (fun h => (Finset.mem_erase.mp hd).1 h.symm),
    show (bigSep (Finset.univ.erase (dim i)) fun _ : Fin 3 => (iprop(emp) : sProp 𝕄)) = iprop(emp) from bigSep_emp_const _]
  exact equiv_iff.mp sep_emp

/-! ## The gathered blocks -/

variable (c : Dev nD)

theorem piece_disj (o o' : Dev nD) (t t' : Fin 3) (h : ¬ (o = o' ∧ t = t')) : Disjoint (pieceR o t).set (pieceR o' t').set := by
  rw [Finset.disjoint_left]
  intro i hi hi'
  rw [mem_piece] at hi hi'
  exact h ⟨hi.1.symm.trans hi'.1, (bandOf_eq t _ hi.2.1 hi.2.2).symm.trans (bandOf_eq t' _ hi'.2.1 hi'.2.2)⟩

theorem pieces_disj (y y' : Fin 3 × Fin 8) (h : y ≠ y') : Disjoint (pieceR (held c y.1 y.2) y.1).set (pieceR (held c y'.1 y'.2) y'.1).set :=
  piece_disj _ _ _ _ fun e => h (by
    obtain ⟨t, a⟩ := y; obtain ⟨t', a'⟩ := y'
    obtain ⟨e1, e2⟩ := e
    change t = t' at e2; subst e2
    exact Prod.ext rfl (held_inj c t e1))

theorem pieces_cover (i : S8x512x4096.Idx) : ∃ y : Fin 3 × Fin 8, i ∈ (pieceR (held c y.1 y.2) y.1).set := by
  have hb := bandOf_spec (i 1).val (i 1).isLt
  refine ⟨(bandOf (i 1).val, place c (bandOf (i 1).val) (i 0)), ?_⟩
  rw [mem_piece]
  exact ⟨(held_place c _ _).symm, hb⟩

/-- A block is its three bands. -/
theorem slab_cut (o : Dev nD) (q : PosShare TreeShare) (f : Vec F S8x512x4096 .bf16) :
    (gPt c (slabR o).set q f : sProp 𝕄) = bigSep Finset.univ fun t : Fin 3 => gPt c (pieceR o t).set q f := by
  refine cutOn (ℓ := gM.view.loc (c : Thread nD τ)) (fun t : Fin 3 => (pieceR o t).set) (slabR o).set (fun t t' h => piece_disj o o t t' fun e => h e.2) fun i => ?_
  rw [mem_slab]
  constructor
  · intro h
    exact ⟨bandOf (i 1).val, mem_piece.2 ⟨h, bandOf_spec (i 1).val (i 1).isLt⟩⟩
  · rintro ⟨t, h⟩
    exact (mem_piece.1 h).1

/-- The gathered blocks are the device's own block and one band for each site. -/
theorem blocks_cut (q : PosShare TreeShare) (f : Vec F S8x512x4096 .bf16) :
    (gPt c Finset.univ q f : sProp 𝕄) ⊢ iprop(gPt c (slabR c).set q f ∗ bigSep Finset.univ fun i : Site => gPt c (pieceR (held c i.1 i.2.succ) i.1).set q f) := by
  refine (pointsTo_split_subset (Finset.subset_univ (slabR c).set)).1.trans (sep_mono_right (Entails.of_eq ?_))
  refine cutOn (ℓ := gM.view.loc (c : Thread nD τ)) (fun i : Site => (pieceR (held c i.1 i.2.succ) i.1).set) (Finset.univ \ (slabR c).set) (fun i i' h =>
    pieces_disj c (i.1, i.2.succ) (i'.1, i'.2.succ) fun e => h (Prod.ext (Prod.mk.inj e).1 (Fin.succ_inj.1 (Prod.mk.inj e).2))) fun x => ?_
  rw [Finset.mem_sdiff, mem_slab]
  constructor
  · rintro ⟨-, hx⟩
    obtain ⟨⟨t, h⟩, hy⟩ := pieces_cover c x
    have h0 : h ≠ 0 := fun e => hx (by rw [e] at hy; exact (mem_piece.1 hy).1.trans (held_zero c t))
    obtain ⟨k, rfl⟩ := Fin.exists_succ_eq.2 h0
    exact ⟨(t, k), hy⟩
  · rintro ⟨i, hi⟩
    refine ⟨Finset.mem_univ x, fun hx => ?_⟩
    have e : held c i.1 i.2.succ = held c i.1 0 := ((mem_piece.1 hi).1.symm.trans hx).trans (held_zero c i.1).symm
    exact Fin.succ_ne_zero _ (held_inj c i.1 e)

/-- The gathered blocks are the bands at all places. -/
theorem places_cut (q : PosShare TreeShare) (f : Vec F S8x512x4096 .bf16) :
    (gPt c Finset.univ q f : sProp 𝕄) = bigSep Finset.univ fun y : Fin 3 × Fin 8 => gPt c (pieceR (held c y.1 y.2) y.1).set q f :=
  cut (ℓ := gM.view.loc (c : Thread nD τ)) (fun y : Fin 3 × Fin 8 => (pieceR (held c y.1 y.2) y.1).set) (pieces_disj c) (pieces_cover c)

/-! ## The result -/

theorem rows_disj (y y' : Fin 3 × Fin 8) (h : y ≠ y') : Disjoint (rowsR (held c y.1 y.2) y.1).set (rowsR (held c y'.1 y'.2) y'.1).set := by
  rw [Finset.disjoint_left]
  intro i hi hi'
  rw [mem_rows] at hi hi'
  obtain ⟨t, a⟩ := y; obtain ⟨t', a'⟩ := y'
  change 512 * (held c t a).val + boff t ≤ (i 0).val ∧ (i 0).val < 512 * (held c t a).val + boff t + bw t at hi
  change 512 * (held c t' a').val + boff t' ≤ (i 0).val ∧ (i 0).val < 512 * (held c t' a').val + boff t' + bw t' at hi'
  have hb := boff_le t; have hb' := boff_le t'
  have e : (held c t a).val = (held c t' a').val := by omega
  have et : t = t' := (bandOf_eq t ((i 0).val - 512 * (held c t a).val) (by omega) (by omega)).symm.trans
    (by rw [e]; exact bandOf_eq t' _ (by omega) (by omega))
  subst et
  exact h (by rw [held_inj c t (Fin.ext e)])

theorem rows_cover (i : S4096x1024.Idx) : ∃ y : Fin 3 × Fin 8, i ∈ (rowsR (held c y.1 y.2) y.1).set := by
  have hi : (i 0).val < 4096 := (i 0).isLt
  have hb := bandOf_spec ((i 0).val % 512) (Nat.mod_lt _ (by decide))
  refine ⟨(bandOf ((i 0).val % 512), place c (bandOf ((i 0).val % 512)) ⟨(i 0).val / 512, by show _ < 8; omega⟩), ?_⟩
  rw [mem_rows, held_place]
  show 512 * ((i 0).val / 512) + boff (bandOf ((i 0).val % 512)) ≤ _ ∧ _ < 512 * ((i 0).val / 512) + boff (bandOf ((i 0).val % 512)) + bw (bandOf ((i 0).val % 512))
  omega

theorem result_cut (q : PosShare TreeShare) (f : Vec F S4096x1024 .f32) :
    (oPt c Finset.univ q f : sProp 𝕄) = bigSep Finset.univ fun y : Fin 3 × Fin 8 => oPt c (rowsR (held c y.1 y.2) y.1).set q f :=
  cut (ℓ := oM.view.loc (c : Thread nD τ)) (fun y : Fin 3 × Fin 8 => (rowsR (held c y.1 y.2) y.1).set) (rows_disj c) (rows_cover c)

/-! ## Slots and chunks -/

theorem stage_disj (s s' : Fin 2) (h : s ≠ s') : Disjoint (stageR s 0).set (stageR s' 0).set := by
  rw [Finset.disjoint_left]
  intro i hi hi'
  rw [mem_stage] at hi hi'
  exact h (hi.1.symm.trans hi'.1)
theorem stage_cover (i : S2x176x1024.Idx) : ∃ s : Fin 2, i ∈ (stageR s 0).set := ⟨i 0, mem_stage.2 ⟨rfl, (i 1).isLt⟩⟩
theorem slot_disj (s s' : Fin 2) (h : s ≠ s') : Disjoint (slotR s).set (slotR s').set := by
  rw [Finset.disjoint_left]
  intro i hi hi'
  rw [mem_slot] at hi hi'
  exact h (hi.symm.trans hi')
theorem slot_cover (i : S2x1024x1024.Idx) : ∃ s : Fin 2, i ∈ (slotR s).set := ⟨i 0, mem_slot.2 rfl⟩
theorem chunk_disj (q q' : Fin 4) (h : q ≠ q') : Disjoint (chunkR q).set (chunkR q').set := by
  rw [Finset.disjoint_left]
  intro i hi hi'
  rw [mem_chunk] at hi hi'
  exact h (Fin.ext (by omega))
theorem chunk_cover (i : S4096x1024.Idx) : ∃ q : Fin 4, i ∈ (chunkR q).set := by
  have hi : (i 0).val < 4096 := (i 0).isLt
  refine ⟨⟨(i 0).val / 1024, by omega⟩, mem_chunk.2 ?_⟩
  show 1024 * ((i 0).val / 1024) ≤ _ ∧ _ < 1024 * ((i 0).val / 1024) + 1024
  omega
theorem chunks_cut (q : PosShare TreeShare) (f : Vec F S4096x1024 .f32) :
    (hPt c Finset.univ q f : sProp 𝕄) = bigSep Finset.univ fun p : Fin 4 => hPt c (chunkR p).set q f :=
  cut (ℓ := hM.view.loc (c : Thread nD τ)) (fun p : Fin 4 => (chunkR p).set) chunk_disj chunk_cover
theorem stages_cut (q : PosShare TreeShare) (f : Vec F S2x176x1024 .f32) :
    (sPt c Finset.univ q f : sProp 𝕄) = bigSep Finset.univ fun s : Fin 2 => sPt c (stageR s 0).set q f :=
  cut (ℓ := sM.view.loc (c : Thread nD τ)) (fun s : Fin 2 => (stageR s 0).set) stage_disj stage_cover
theorem slots_cut (q : PosShare TreeShare) (f : Vec F S2x1024x1024 .f32) :
    (tPt c Finset.univ q f : sProp 𝕄) = bigSep Finset.univ fun s : Fin 2 => tPt c (slotR s).set q f :=
  cut (ℓ := tM.view.loc (c : Thread nD τ)) (fun s : Fin 2 => (slotR s).set) slot_disj slot_cover
theorem stages_glue (f₀ : Vec F S2x176x1024 .f32) :
    (bigSep Finset.univ fun s : Fin 2 => iprop(∃ f, sPt c (stageR s 0).set fullShare f) : sProp 𝕄) ⊢ iprop(∃ f, sPt c Finset.univ fullShare f) :=
  glue (ℓ := sM.view.loc (c : Thread nD τ)) (fun s : Fin 2 => (stageR s 0).set) f₀ stage_disj stage_cover
theorem slots_glue (f₀ : Vec F S2x1024x1024 .f32) :
    (bigSep Finset.univ fun s : Fin 2 => iprop(∃ f, tPt c (slotR s).set fullShare f) : sProp 𝕄) ⊢ iprop(∃ f, tPt c Finset.univ fullShare f) :=
  glue (ℓ := tM.view.loc (c : Thread nD τ)) (fun s : Fin 2 => (slotR s).set) f₀ slot_disj slot_cover

end Cert.Hyper

end
-- ==== Proof.Start.lean ====
/-
  The first part of the body: the barrier, at which neighbours lend each other the places for their copies,
  and the device's own rows, rounded and put among the gathered blocks.
-/
module

public import proofs.«01_k».proof.Proof.Cut

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} (E : Env F c) {α : Type} {K : α → sProp (MT nD τ sig Unit (Elt F) ℕ UU ℕ)}

/-- A device reading its number. -/
theorem dev {X : sProp 𝕄} {k : Dev nD → PP F α} (h : X ⊢ ww c (k c) K) : X ⊢ ww c (Prog.bind (Prog.lift .deviceId) k) K :=
  h.trans (Entails.of_eq (wp_deviceId (k := k) 𝒱₀ (c : Thread nD τ) none Set.univ).symm)

/-! ## Before the barrier -/

/-- What is owed after `n` of the three neighbours were told. -/
def owedBar (c : Dev nD) (n : ℕ) : CellTallies nD τ sig Unit :=
  match n with
  | 0 => O₀ c
  | 1 => owed ∅ c + tallyAt (barC (nbr c 2)) () 1 + tallyAt (barC (nbr c 1)) () 1
  | 2 => owed ∅ c + tallyAt (barC (nbr c 2)) () 1
  | _ => owed ∅ c

theorem owedBar_step : ∀ d : Fin 3, owedBar c d.val = owedBar c (d.val + 1) + tallyAt (barC (nbr c d)) () 1
  | 0 => rfl
  | 1 => rfl
  | 2 => rfl

/-- What telling the neighbour in dimension `d` takes, until it is told. -/
def barI (c : Dev nD) (n : ℕ) (d : Fin 3) : sProp 𝕄 :=
  if d.val < n then iprop(emp) else iprop(dutyTok ER (barC (nbr c d)) 0 d ∗ reached ER (barC (nbr c d)) 0 ∗ barPay (nbr c d) d)

/-- The state when `n` neighbours were told, beside whatever else there is. -/
def Told (n : ℕ) (Y : sProp 𝕄) : sProp 𝕄 :=
  iprop((ctx E.D E.κ c ∗ owns c E.arg3 fullShare E.X3) ∗ owns c E.arg2 fullShare E.X2 ∗ (∃ W, owes (c : Thread nD τ) (owedBar c n) W)
    ∗ bigSep Finset.univ (barI c n) ∗ Y)

variable {E}

/-- Loading a word from the table of neighbours, which lies among other things. -/
theorem word_nbr (d : Fin 3) {X Y : sProp 𝕄} {h1 hp} {k : Elt F .i32 → PP F α}
    (h : iprop(X ∗ owns c E.arg2 fullShare E.X2 ∗ Y) ⊢ ww c (k (BitVec.ofNat 32 (nbr c d).val)) K) :
    iprop(X ∗ owns c E.arg2 fullShare E.X2 ∗ Y) ⊢ ww c (Prog.bind (smemLoad E.arg2 (r2 d) h1 hp) k) K := by
  iintro ⟨HX, H2, HY⟩
  iapply (smem_step c E.arg2 fullShare E.X2 (r2 d) h1 hp k K) $$ H2
  iintro H2

  rw [show E.X2 _ = _ from E.tabs.nbr d]
  iapply h
  isplitl [HX]; · iexact HX
  isplitl [H2]; · iexact H2
  iexact HY

/-- Telling the neighbour in dimension `d`. -/
theorem tell (d : Fin 3) {Y : sProp 𝕄} {e : Dev nD} {k : PUnit → PP F α} (he : e = nbr c d)
    (h : Told E (d.val + 1) Y ⊢ ww c (k ⟨⟩) K) :
    Told E d.val Y ⊢ ww c (Prog.bind (semSignalWord e barS 1#32) k) K := by
  subst he
  unfold Told
  iintro ⟨⟨#Hctx, H3⟩, H2, ⟨%W, HO⟩, Hb, HY⟩
  ihave Hb := (track d (barI c d.val) (barI c (d.val + 1)) fun d' hd => by
    unfold barI
    exact if_congr ⟨fun h => by omega, fun h => by have := fun e => hd (Fin.ext e); omega⟩ rfl rfl) $$ Hb
  rw [show (barI c d.val d : sProp 𝕄) = _ from if_neg (Nat.lt_irrefl _), show (barI c (d.val + 1) d : sProp 𝕄) = _ from if_pos (Nat.lt_succ_self _)]
  icases Hb with ⟨⟨Ht, #Hr, Hpay⟩, Hb⟩
  ihave #Hrec := (ctx_records E.D E.κ c) $$ Hctx
  ihave #Hi := (records_bar E.D E.κ (nbr c d)) $$ Hrec
  iapply (Rounds.wp_signal 𝒱₀ ER (Rd E.D) (c : Thread nD τ) none (dst := (nbr c d : Thread nD τ)) (sem := barS) (r := 0) (d := d) (k' := 1) (κ := E.κ (barC (nbr c d)))
      (by rw [duties_bar]; exact Finset.mem_univ d) (amount_bar E.D (nbr c d) d) () (owedBar c (d.val + 1)) (owedBar_step d)) $$ [HO Ht Hpay]
  · isplitr; · iexact Hi
    isplitl [HO]; · iexact HO
    isplitl [Ht]; · iexact Ht
    isplitl [Hpay]; · rw [payload_bar]; iexact Hpay
    iexact Hr
  iintro HO
  iapply h
  unfold Told
  isplitl [H3]
  · isplitr; · iexact Hctx
    iexact H3
  isplitl [H2]; · iexact H2
  isplitl [HO]; · iexists W; iexact HO
  isplitl [Hb]; · iapply Hb; iempintro
  iexact HY

theorem word_told (d : Fin 3) {n : ℕ} {Y : sProp 𝕄} {h1 hp} {k : Elt F .i32 → PP F α}
    (h : Told E n Y ⊢ ww c (k (BitVec.ofNat 32 (nbr c d).val)) K) : Told E n Y ⊢ ww c (Prog.bind (smemLoad E.arg2 (r2 d) h1 hp) k) K :=
  word_nbr d h

/-! ## After the barrier -/

variable (E) in
/-- The state past the barrier: the neighbours' places are lent. -/
def Met (Y : sProp 𝕄) : sProp 𝕄 :=
  iprop((ctx E.D E.κ c ∗ owns c E.arg3 fullShare E.X3) ∗ owns c E.arg2 fullShare E.X2 ∗ owesI (c := c) ∅ ∗ atPos ER (barC c) 1 ∅ 0
    ∗ (bigSep Finset.univ fun i => lend (peer c i) i) ∗ Y)

/-- Waiting for the three neighbours. -/
theorem meet {Y : sProp 𝕄} {k : PUnit → PP F α} (h : Met E Y ⊢ ww c (k ⟨⟩) K) :
    Told E 3 (iprop(atPos ER (barC c) 0 ∅ 0 ∗ cred (tallyAt (barC c) () 3) ∗ Y)) ⊢ ww c (Prog.bind (semWaitWord barS 3#32) k) K := by
  unfold Told
  iintro ⟨⟨#Hctx, H3⟩, H2, ⟨%W, HO⟩, -, Hat, Hc, HY⟩
  ihave #Hrec := (ctx_records E.D E.κ c) $$ Hctx
  ihave #Hi := (records_bar E.D E.κ c) $$ Hrec
  iapply (Rounds.wp_wait_rest_token 𝒱₀ ER (Rd E.D) (c : Thread nD τ) none (κ := E.κ (barC c))
      (wpE_semWait_eq 𝒱₀ (c : Thread nD τ) none Set.univ) (Set.mem_univ _) () (O := owed ∅ c) (W := W) (R := 0) (m := 0) (T := ∅)
      ((Nat.zero_add 3).trans (expect_bar E.D c).symm)) $$ [Hc HO Hat]
  · isplitr; · iexact Hi
    isplitl [Hc]; · iexact Hc
    isplitl [HO]; · iexact HO
    isplitr
    · iapply (mayWait_bar c)
      iapply (ctx_levels E.D E.κ c) $$ Hctx
    iexact Hat
  iintro ⟨HO, Hat, -, Hpay⟩
  ihave Hp := (Entails.of_eq ((rest_bar E.D c).trans (regroup fun d i => lend (nbr c d) i))) $$ Hpay
  iapply h
  unfold Met owesI
  isplitl [H3]
  · isplitr; · iexact Hctx
    iexact H3
  isplitl [H2]; · iexact H2
  isplitl [HO]; · iexists _; iexact HO
  isplitl [Hat]; · iexact Hat
  isplitl [Hp]; · iexact Hp
  iexact HY

/-- A whole rectangle from the origin leaves indices as they are. -/
theorem emb_whole {inb} (x : S512x4096.Idx) : (Rect.unit (s := S512x4096) ![0, 0] S512x4096.size inb).emb x = x := funext fun a => by
  match a with
  | 0 => exact Fin.ext (by show 0 + 1 * (x 0).val = (x 0).val; omega)
  | 1 => exact Fin.ext (by show 0 + 1 * (x 1).val = (x 1).val; omega)

/-- Loading the device's own rows. -/
theorem ld_self {X Y : sProp 𝕄} {m : Memref sig .tc .vmem S512x4096 .f32} {v : Vec F S512x4096 .f32} {inb} {hl} {k : (S512x4096.Idx → Elt F .f32) → PP F α}
    (h : iprop(X ∗ owns c m fullShare v ∗ Y) ⊢ ww c (k v) K) :
    iprop(X ∗ owns c m fullShare v ∗ Y) ⊢ ww c (Prog.bind (Prog.lift (.load m (Rect.unit (s := S512x4096) ![0, 0] S512x4096.size inb).toLoadRect hl)) k) K := by
  refine ld_known m m.view.set fullShare v (View.set_slice_subset m.view _) ?_ h
  unfold owns
  iintro ⟨HX, ⟨%f, %hf, Hm⟩, HY⟩
  iexists f
  isplitr
  · ipureintro
    subst hf
    funext x
    show m.view.read (Elt F) f ((Rect.unit (s := S512x4096) ![0, 0] S512x4096.size inb).emb x) = _
    rw [emb_whole]
  isplitl [Hm]; · iexact Hm
  iintro Hm
  isplitl [HX]; · iexact HX
  isplitl [Hm]
  · iexists f
    isplitr; · ipureintro; exact hf
    iexact Hm
  iexact HY

/-- The block of the gathered blocks that a device stores itself. -/
theorem off_slab : ∀ c : Dev nD, k0_off1 c = ![c.val, 0, 0] := by decide

theorem slab_set (o : Dev nD) : (gM.access (slabR o)).set = (slabR o).set := View.set_slice_whole _ _

/-- Loading the device's own block, whose contents do not matter. -/
theorem ld_block {X Y : sProp 𝕄} {off : Fin 3 → ℕ} (ho : off = ![c.val, 0, 0]) {inb} {k : (S1x512x4096.Idx → Elt F .bf16) → PP F α} {hl}
    (h : ∀ v, iprop(X ∗ (∃ f, gPt c (slabR c).set fullShare f) ∗ Y) ⊢ ww c (k v) K) :
    iprop(X ∗ (∃ f, gPt c (slabR c).set fullShare f) ∗ Y) ⊢ ww c (Prog.bind (Prog.lift (.load gM (Rect.unit (s := S8x512x4096) off S1x512x4096.size inb).toLoadRect hl)) k) K := by
  subst ho
  refine ld_any gM (slabR c).set fullShare (by rw [slab_set]) ?_ h
  iintro ⟨HX, ⟨%f, Hm⟩, HY⟩
  iexists f
  isplitl [Hm]; · iexact Hm
  iintro Hm
  isplitl [HX]; · iexact HX
  isplitl [Hm]; · iexists f; iexact Hm
  iexact HY

/-- Storing the device's own rows, rounded, as its block. -/
theorem st_block {X Y : sProp 𝕄} {D : Data F} {off : Fin 3 → ℕ} (ho : off = ![c.val, 0, 0]) {inb} {k : PUnit → PP F α} {hx hm}
    (h : iprop(X ∗ gPt c (slabR c).set fullShare (gC D) ∗ Y) ⊢ ww c (k ⟨⟩) K) :
    iprop(X ∗ (∃ f, gPt c (slabR c).set fullShare f) ∗ Y)
      ⊢ ww c (Prog.bind (Prog.lift (.store gM (Rect.unit (s := S8x512x4096) off S1x512x4096.size inb) (k0_pay1 (D.x c)) Finset.univ hx hm)) k) K := by
  subst ho
  refine st_all gM (slabR c).set (by rw [slab_set]) ?_ h
  iintro ⟨HX, ⟨%f, Hm⟩, HY⟩
  iexists f
  isplitl [Hm]; · iexact Hm
  iintro Hm
  isplitl [HX]; · iexact HX
  isplitl [Hm]
  · iapply (Entails.of_eq (pointsTo_congr (ℓ := gM.view.loc (c : Thread nD τ)) fun i hi =>
      write_on (gM.access (slabR c)) f (gC D) (k0_pay1 (D.x c)) (gC_slab D c) i (by rw [slab_set]; exact hi))) $$ Hm
  iexact HY

/-- Nothing gathered yet but the device's own block: its three pieces, whole. -/
theorem own_pieces (D : Data F) : (gPt c (slabR c).set fullShare (gC D) : sProp 𝕄) ⊢ bigSep Finset.univ (pieceI D c ∅ ∅ ∅) := by
  rw [slab_cut, bigSep_univ_prod]
  refine bigSep_mono fun t _ => ?_
  rw [bigSep_univ_at (fun h : Fin 8 => (pieceI D c ∅ ∅ ∅ (t, h) : sProp 𝕄)) 0]
  have hz : held c t 0 = c := held_zero c t
  have e1 : (pieceI D c ∅ ∅ ∅ (t, 0) : sProp 𝕄) = iprop(gPt c (pieceR (held c t 0) t).set (shR 0) (gC D)
      ∗ bigSep Finset.univ fun k : Fin 7 => if jj k = 0 then gPt c (pieceR (held c t 0) t).set (shS (ph k)) (gC D) else iprop(emp)) := by
    unfold pieceI
    rw [if_pos fun k hk => absurd hk (Fin.succ_ne_zero k)]
    refine congrArg _ (bigSep_congr fun k _ => if_congr ?_ rfl rfl)
    exact ⟨fun h => h.1, fun h => ⟨h, fun h' => absurd h' (Finset.notMem_empty _)⟩⟩
  have e2 : (bigSep (Finset.univ.erase (0 : Fin 8)) fun h => (pieceI D c ∅ ∅ ∅ (t, h) : sProp 𝕄)) = iprop(emp) := by
    refine (bigSep_congr fun h hh => ?_).trans (show (bigSep _ fun _ => (iprop(emp) : sProp 𝕄)) = iprop(emp) from bigSep_emp_const _)
    obtain ⟨k, hk⟩ := Fin.exists_succ_eq.2 (Finset.ne_of_mem_erase hh)
    unfold pieceI
    exact if_neg fun g => absurd (g k hk) (Finset.notMem_empty _)
  rw [e1, e2, hz]
  show (_ : sProp 𝕄) ⊢ _
  iintro H
  ihave H := (piece_shares (c := c) (pieceR c t).set (gC D) 0).1 $$ H
  isplitl [H]; · iexact H
  iempintro

variable (E) in
/-- What the first part does not touch. -/
def Side (Z : sProp 𝕄) : sProp 𝕄 :=
  iprop(owns c E.arg4 fullShare E.X4 ∗ posn c ∅ ∅ 0 0
    ∗ (bigSep Finset.univ fun i : Site => iprop(dutyTok ER (sendC c i) 0 0 ∗ dutyTok ER (recvC (peer c i) i) 0 0))
    ∗ bigSep Finset.univ (recvI c ∅) ∗ bigSep Finset.univ (outI E.D c 0 0) ∗ bigSep Finset.univ (slotI c 0 0)
    ∗ bigSep Finset.univ (wslotI E.D c 0 0) ∗ bigSep Finset.univ (chunkI E.D c 0 0) ∗ wrefI E.D c 0 ∗ Z)

/-- With the own block in place, the run over the sites begins. -/
theorem begin_run {a0 : Memref sig .tc .vmem S512x4096 .f32} {Z : sProp 𝕄}
    (hrest : E.rest = iprop(atPos ER (barC c) 1 ∅ 0 ∗ owns c a0 fullShare (E.D.x c) ∗ Z)) :
    Met E (iprop(owns c a0 fullShare (E.D.x c) ∗ gPt c (slabR c).set fullShare (gC E.D) ∗ Side E Z)) ⊢ Sn E 0 0 0 0 0 0 0 0 := by
  unfold Sn
  rw [below_zero, below_zero, below_zero]
  unfold Met Side St envP
  rw [hrest]
  have hs : iprop((bigSep Finset.univ fun i : Site => iprop(dutyTok ER (sendC c i) 0 0 ∗ dutyTok ER (recvC (peer c i) i) 0 0))
      ∗ bigSep Finset.univ fun i : Site => lend (peer c i) i) ⊢ bigSep Finset.univ (sendI (F := F) c ∅ ∅) := by
    refine (Entails.of_eq (bigSep_sep' _ _ _).symm).trans (bigSep_mono fun i _ => ?_)
    unfold sendI
    rw [if_neg (Finset.notMem_empty i)]
    show (_ : sProp 𝕄) ⊢ _
    iintro ⟨⟨H1, H2⟩, H3⟩
    isplitl [H1]; · iexact H1
    isplitl [H2]; · iexact H2
    iexact H3
  iintro ⟨⟨Hc, H3⟩, H2, HO, Hb, Hl, Ha, Hg, H4, Hp, Hd, Hr, Hout, Hsl, Hws, Hch, Hw, HZ⟩
  isplitl [Hc]; · iexact Hc
  isplitl [H2 H3 H4 Hb Ha HZ]
  · isplitl [H2]; · iexact H2
    isplitl [H3]; · iexact H3
    isplitl [H4]; · iexact H4
    isplitl [Hb]; · iexact Hb
    isplitl [Ha]; · iexact Ha
    iexact HZ
  isplitl [Hp]; · iexact Hp
  isplitl [HO]; · iexact HO
  isplitl [Hd Hl]
  · iapply hs
    isplitl [Hd]; · iexact Hd
    iexact Hl
  isplitl [Hr]; · iexact Hr
  isplitl [Hg]; · iapply (own_pieces E.D) $$ Hg
  isplitl [Hout]; · iexact Hout
  isplitl [Hsl]; · iexact Hsl
  isplitl [Hws]; · iexact Hws
  isplitl [Hch]; · iexact Hch
  iexact Hw

variable {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

/-- The state past the barrier without its last part. -/
def Met' (E : Env F c) : sProp 𝕄 :=
  iprop((ctx E.D E.κ c ∗ owns c E.arg3 fullShare E.X3) ∗ owns c E.arg2 fullShare E.X2 ∗ owesI (c := c) ∅ ∗ atPos ER (barC c) 1 ∅ 0
    ∗ (bigSep Finset.univ fun i => lend (peer c i) i))

theorem met_rows {X Y P : sProp 𝕄} (h : iprop(Met' E ∗ X ∗ Y) ⊢ P) : Met E (iprop(X ∗ Y)) ⊢ P := by
  refine BIBase.Entails.trans ?_ h
  unfold Met Met'
  iintro ⟨H1, H2, H3, H4, H5, HX, HY⟩
  isplitr [HX HY]
  · isplitl [H1]; · iexact H1
    isplitl [H2]; · iexact H2
    isplitl [H3]; · iexact H3
    isplitl [H4]; · iexact H4
    iexact H5
  isplitl [HX]; · iexact HX
  iexact HY

theorem met_block {X Y Z W P : sProp 𝕄} (h : iprop((X ∗ Y) ∗ Z ∗ W) ⊢ P) : iprop(X ∗ Y ∗ Z ∗ W) ⊢ P := by
  refine BIBase.Entails.trans ?_ h
  iintro ⟨HX, HY, HZ, HW⟩
  isplitr [HZ HW]
  · isplitl [HX]; · iexact HX
    iexact HY
  isplitl [HZ]; · iexact HZ
  iexact HW

/-- Part 1 of the body: it ends with the own block in place and nothing sent. -/
theorem part1 {K} {Z : sProp 𝕄} (hrest : E.rest = iprop(atPos ER (barC c) 1 ∅ 0 ∗ owns c a0 fullShare (E.D.x c) ∗ Z))
    (h : ∀ v q q', Sn E 0 0 0 0 0 0 0 0 ⊢ K ⟨c, v, hw c 0 0, q, nw c 0, q'⟩) :
    Told E 0 (iprop(atPos ER (barC c) 0 ∅ 0 ∗ cred (tallyAt (barC c) () 3)
        ∗ owns c a0 fullShare (E.D.x c) ∗ (∃ f, gPt c (slabR c).set fullShare f) ∗ Side E Z))
      ⊢ ww c (k0_part1 (F := F) a0 h0 hM h1 E.arg2 h2 E.arg3 h3 E.arg4 h4 oM h5 gM h6 wM h7 tM h8 sM h9 cc0_scratch4 cc0_scratch5 cc0_scratch6 cc0_scratch7) K := by
  rw [k0_part1_eq_skeleton]
  unfold k0_part1_skel
  refine dev ?_
  refine word_told 0 ?_
  refine chk (chkDev _) ?_
  refine tell 0 (Fin.ext (devWord _)) ?_
  refine word_told 1 ?_
  refine chk (chkDev _) ?_
  refine tell 1 (Fin.ext (devWord _)) ?_
  refine word_told 2 ?_
  refine chk (chkDev _) ?_
  refine tell 2 (Fin.ext (devWord _)) ?_
  refine meet ?_
  refine met_rows (ld_self ?_)
  refine met_block (ld_block (off_slab c) fun _ => ?_)
  refine st_block (D := E.D) (off_slab c) ?_
  refine BIBase.Entails.trans ?_ ?_ (Q := Sn E 0 0 0 0 0 0 0 0)
  · refine BIBase.Entails.trans ?_ (begin_run hrest)
    unfold Met
    iintro ⟨⟨H, Ha⟩, Hg, HS⟩
    unfold Met'
    icases H with ⟨H1, H2, H3, H4, H5⟩
    isplitl [H1]; · iexact H1
    isplitl [H2]; · iexact H2
    isplitl [H3]; · iexact H3
    isplitl [H4]; · iexact H4
    isplitl [H5]; · iexact H5
    isplitl [Ha]; · iexact Ha
    isplitl [Hg]; · iexact Hg
    iexact HS
  refine sm3 (0, 0) ?_
  refine chk (chkPiece 0 _) ?_
  refine sm2 0 ?_
  refine chk (chkDev _) ?_
  exact ret (h _ _ _)

end Cert.Hyper

end
-- ==== Proof.Ends.lean ====
/-
  The body from its first state to its last, in terms of whole buffers: how the first state is made of them, and
  how they come out of the last one.
-/
module

public import proofs.«01_k».proof.Proof.Start

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {c : Dev nD} (D : Data F) (κ : GSem nD τ sig → ℕ) (c)

/-! ## What the body starts from -/

/-- The device's own positions, tokens and credits before anything happened. -/
def Tools : sProp 𝕄 :=
  iprop(posn c ∅ ∅ 0 0 ∗ atPos ER (barC c) 0 ∅ 0 ∗ cred (tallyAt (barC c) () 3)
    ∗ (bigSep Finset.univ fun d : Fin 3 => iprop(dutyTok ER (barC (nbr c d)) 0 d ∗ reached ER (barC (nbr c d)) 0))
    ∗ (bigSep Finset.univ fun i : Site => iprop(dutyTok ER (sendC c i) 0 0 ∗ dutyTok ER (recvC (peer c i) i) 0 0))
    ∗ bigSep Finset.univ (recvI c ∅)
    ∗ (bigSep Finset.univ fun s : Fin 2 => bigSep (Finset.Ico 0 12) fun r => dutyTok ER (outC c s) r 0)
    ∗ bigSep Finset.univ fun s : Fin 2 => bigSep (Finset.Ico 0 2) fun r => dutyTok ER (wgtC c s) r 0)

/-- The kernel's scratch buffers, with some contents. -/
def Scratch : sProp 𝕄 :=
  iprop((∃ f, gPt c Finset.univ fullShare f) ∗ (∃ f, wPt c Finset.univ fullShare f) ∗ (∃ f, tPt c Finset.univ fullShare f)
    ∗ ∃ f, sPt c Finset.univ fullShare f)

/-- The blocks of others are lent, by the dimension in which they are. -/
theorem lends_all (f : Vec F S8x512x4096 .bf16) :
    iprop(ctx D κ c ∗ bigSep Finset.univ fun i : Site => gPt c (pieceR (held c i.1 i.2.succ) i.1).set fullShare f)
      ⊢ bigSep Finset.univ fun d : Fin 3 => (barPay (nbr c d) d : sProp 𝕄) := by
  have e : (bigSep Finset.univ fun d : Fin 3 => (barPay (nbr c d) d : sProp 𝕄)) = bigSep Finset.univ fun i : Site => lend c i := by
    refine Eq.trans ?_ (regroup fun _ i => lend c i)
    refine bigSep_congr fun d _ => ?_
    unfold barPay
    rw [nbr_nbr]
  rw [e]
  refine bigSep_with_persistent fun i _ => ?_
  show (_ : sProp 𝕄) ⊢ _
  unfold lend
  iintro ⟨#Hc, Hg⟩
  isplitl [Hg]; · iexists f; iexact Hg
  iapply (ctx_reached D κ c (osem_recv i)) $$ Hc

/-- What the three tellings take. -/
theorem bar_all :
    iprop((bigSep Finset.univ fun d : Fin 3 => iprop(dutyTok ER (barC (nbr c d)) 0 d ∗ reached ER (barC (nbr c d)) 0))
        ∗ bigSep Finset.univ fun d : Fin 3 => (barPay (nbr c d) d : sProp 𝕄))
      ⊢ bigSep Finset.univ (barI (F := F) c 0) := by
  refine (Entails.of_eq (bigSep_sep' _ _ _).symm).trans (bigSep_mono fun d _ => ?_)
  unfold barI
  rw [if_neg (Nat.not_lt_zero _)]
  show (_ : sProp 𝕄) ⊢ _
  iintro ⟨⟨H1, H2⟩, H3⟩
  isplitl [H1]; · iexact H1
  isplitl [H2]; · iexact H2
  iexact H3

theorem out_all (f : Vec F S4096x1024 .f32) : (oPt c Finset.univ fullShare f : sProp 𝕄) ⊢ bigSep Finset.univ (outI D c 0 0) := by
  rw [result_cut]
  refine bigSep_mono fun y _ => ?_
  unfold outI
  rw [if_pos (Nat.zero_le _)]
  show (_ : sProp 𝕄) ⊢ _
  iintro H
  iexists f
  iexact H

theorem slots_all (f : Vec F S2x176x1024 .f32) :
    iprop(ctx D κ c ∗ sPt c Finset.univ fullShare f ∗ bigSep Finset.univ fun s : Fin 2 => bigSep (Finset.Ico 0 12) fun r => dutyTok ER (outC c s) r 0)
      ⊢ bigSep Finset.univ (slotI (F := F) c 0 0) := by
  rw [stages_cut]
  refine (sep_mono_right (Entails.of_eq (bigSep_sep' _ _ _).symm)).trans (bigSep_with_persistent fun s _ => ?_)
  have hz : (0 + 1 - s.val) / 2 = 0 := by omega
  unfold slotI slotAt
  rw [hz, if_pos (Nat.le_refl 0)]
  show (_ : sProp 𝕄) ⊢ _
  iintro ⟨#Hc, Hs, Ht⟩
  isplitl [Hs]; · iexists f; iexact Hs
  isplitr; · iapply (ctx_reached D κ c (osem_out s)) $$ Hc
  iexact Ht

theorem wslots_all (f : Vec F S2x1024x1024 .f32) :
    iprop(ctx D κ c ∗ tPt c Finset.univ fullShare f ∗ bigSep Finset.univ fun s : Fin 2 => bigSep (Finset.Ico 0 2) fun r => dutyTok ER (wgtC c s) r 0)
      ⊢ bigSep Finset.univ (wslotI D c 0 0) := by
  rw [slots_cut]
  refine (sep_mono_right (Entails.of_eq (bigSep_sep' _ _ _).symm)).trans (bigSep_with_persistent fun s _ => ?_)
  have hz : (0 + 1 - s.val) / 2 = 0 := by omega
  unfold wslotI wslotAt
  rw [hz, if_pos (Nat.le_refl 0)]
  show (_ : sProp 𝕄) ⊢ _
  iintro ⟨#Hc, Hs, Ht⟩
  isplitl [Hs]
  · iexists f
    isplitr; · ipureintro; intro q hq; exact absurd hq (by omega)
    iexact Hs
  isplitr; · iapply (ctx_reached D κ c (osem_wgt s)) $$ Hc
  iexact Ht

theorem chunks_all : (hPt c Finset.univ fullShare (D.w c) : sProp 𝕄) = bigSep Finset.univ (chunkI D c 0 0) := by
  rw [chunks_cut]
  exact bigSep_congr fun q _ => by unfold chunkI; rw [if_pos (Or.inl (Nat.zero_le _))]

variable {D κ c} {E : Env F c} {a0 : Memref sig .tc .vmem S512x4096 .f32}

/-- The first state of the body, from whole buffers. -/
theorem open_state {Z : sProp 𝕄} :
    iprop(ctx E.D E.κ c ∗ Tools c ∗ Scratch c ∗ hPt c Finset.univ fullShare (E.D.w c) ∗ (∃ f, oPt c Finset.univ fullShare f)
        ∗ (owns c a0 fullShare (E.D.x c) ∗ owns c E.arg2 fullShare E.X2 ∗ owns c E.arg3 fullShare E.X3 ∗ owns c E.arg4 fullShare E.X4)
        ∗ (∃ W, owes (c : Thread nD τ) (O₀ c) W) ∗ Z)
      ⊢ Told E 0 (iprop(atPos ER (barC c) 0 ∅ 0 ∗ cred (tallyAt (barC c) () 3)
        ∗ owns c a0 fullShare (E.D.x c) ∗ (∃ f, gPt c (slabR c).set fullShare f) ∗ Side E Z)) := by
  unfold Told Tools Scratch Side
  iintro ⟨#Hc, ⟨Hp, Hb, Hcr, Hd, Hi, Hr, Hto, Htw⟩, ⟨⟨%fg, Hg⟩, ⟨%fw, Hw⟩, ⟨%ft, Ht⟩, ⟨%fs, Hs⟩⟩, Hh, ⟨%fo, Ho⟩, ⟨H0, H2, H3, H4⟩, HO, HZ⟩
  ihave Hg := (blocks_cut c fullShare fg) $$ Hg
  icases Hg with ⟨Hg, Hl⟩
  isplitl [H3]
  · isplitr; · iexact Hc
    iexact H3
  isplitl [H2]; · iexact H2
  isplitl [HO]; · iexact HO
  isplitl [Hd Hl]
  · iapply (bar_all c)
    isplitl [Hd]; · iexact Hd
    iapply (lends_all E.D E.κ c fg)
    isplitr; · iexact Hc
    iexact Hl
  isplitl [Hb]; · iexact Hb
  isplitl [Hcr]; · iexact Hcr
  isplitl [H0]; · iexact H0
  isplitl [Hg]; · iexists fg; iexact Hg
  isplitl [H4]; · iexact H4
  isplitl [Hp]; · iexact Hp
  isplitl [Hi]; · iexact Hi
  isplitl [Hr]; · iexact Hr
  isplitl [Ho]; · iapply (out_all E.D c fo) $$ Ho
  isplitl [Hs Hto]
  · iapply (slots_all E.D E.κ c fs)
    isplitr; · iexact Hc
    isplitl [Hs]; · iexact Hs
    iexact Hto
  isplitl [Ht Htw]
  · iapply (wslots_all E.D E.κ c ft)
    isplitr; · iexact Hc
    isplitl [Ht]; · iexact Ht
    iexact Htw
  isplitl [Hh]; · iapply (Entails.of_eq (chunks_all E.D c)) $$ Hh
  isplitl [Hw]
  · unfold wrefI
    iexists fw
    isplitr; · ipureintro; intro i hi; exact absurd hi (by omega)
    iexact Hw
  iexact HZ

/-! ## What the body ends in -/

variable (D κ c)

/-- At the end each semaphore is past its last round. -/
theorem rounds_end : ∀ k : Fin 76, rounds (use (osem k)) ≤ rnd Finset.univ Finset.univ 24 4 (use (osem k)) := by decide +kernel

/-- Every counter of the kernel's own semaphores is closed at zero. -/
theorem counters_close :
    iprop(ctx D κ c ∗ posn c Finset.univ Finset.univ 24 4) ⊢ (|={Set.univ}=> bigSep Finset.univ fun k : Fin 76 => semVal ((c : Thread nD τ), osem k) 0 : sProp 𝕄) := by
  refine BIBase.Entails.trans ?_ (Rounds.cells_close ER (Rd D) Finset.univ (fun k : Fin 76 => ((c : Thread nD τ), osem k)) (fun k => κ ((c : Thread nD τ), osem k))
    (fun _ _ => Set.mem_univ _) (fun _ _ h => h) (fun k => rnd Finset.univ Finset.univ 24 4 (use (osem k))) fun k _ r hr => duties_later D _ r ?_)
  · unfold posn
    refine bigSep_with_persistent fun k _ => ?_
    show (_ : sProp 𝕄) ⊢ _
    iintro ⟨#Hc, H⟩
    isplitr; · iapply (ctx_own D κ c c ⟨k, rfl⟩) $$ Hc
    iexact H
  · exact le_trans (rounds_end k) hr

theorem bar_close : iprop(ctx D κ c ∗ atPos ER (barC c) 1 ∅ 0) ⊢ (|={Set.univ}=> semVal (barC c) 0 : sProp 𝕄) := by
  refine BIBase.Entails.trans ?_ (Rounds.cell_close ER (Rd D) (κ := κ (barC c)) (R := 1) (Set.mem_univ _) id fun r hr => duties_later D _ r ?_)
  · iintro ⟨#Hc, H⟩
    isplitr
    · iapply (records_bar D κ c)
      iapply (ctx_records D κ c) $$ Hc
    iexact H
  · rw [use_bar]; exact hr

theorem out_done : (bigSep Finset.univ (outI D c 24 24) : sProp 𝕄) = oPt c Finset.univ fullShare (oC D c) := by
  rw [result_cut]
  refine bigSep_congr fun y _ => ?_
  have h : ¬ 24 ≤ emNo y := Nat.not_le.2 (emNo_lt y)
  unfold outI
  rw [if_neg h, if_neg h]

theorem pieces_done : (bigSep Finset.univ (pieceI D c Finset.univ Finset.univ Finset.univ) : sProp 𝕄) ⊢ gPt c Finset.univ fullShare (gC D) := by
  rw [places_cut]
  refine bigSep_mono fun y _ => ?_
  unfold pieceI
  rw [if_pos fun k _ => Finset.mem_univ _]
  refine BIBase.Entails.trans (sep_mono_right (Entails.of_eq (bigSep_congr fun k _ => if_congr ?_ rfl rfl))) (piece_shares (c := c) (pieceR (held c y.1 y.2) y.1).set (gC D) y.2).2
  exact ⟨fun h => h.1, fun h => ⟨h, fun _ => Finset.mem_univ _⟩⟩

theorem slots_done (D : Data F) (c : Dev nD) : (bigSep Finset.univ (slotI (F := F) c 24 24) : sProp 𝕄) ⊢ iprop(∃ f, sPt c Finset.univ fullShare f) := by
  refine BIBase.Entails.trans (bigSep_mono fun s _ => ?_) (stages_glue c fun i => D.w c fun | 0 => ⟨0, by decide⟩ | 1 => i 2)
  have hz : (24 + 1 - s.val) / 2 = 12 := by have := s.isLt; omega
  unfold slotI slotAt
  rw [hz, if_pos (Nat.le_refl 12)]
  show (_ : sProp 𝕄) ⊢ _
  iintro ⟨H, -⟩
  iexact H

theorem wslots_done : (bigSep Finset.univ (wslotI D c 4 4) : sProp 𝕄) ⊢ iprop(∃ f, tPt c Finset.univ fullShare f) := by
  refine BIBase.Entails.trans (bigSep_mono fun s _ => ?_) (slots_glue c (tC D c 0))
  have hz : (4 + 1 - s.val) / 2 = 2 := by have := s.isLt; omega
  unfold wslotI wslotAt
  rw [hz, if_pos (Nat.le_refl 2)]
  show (_ : sProp 𝕄) ⊢ _
  iintro ⟨⟨%f, -, H⟩, -⟩
  iexists f
  iexact H

theorem chunks_done : (bigSep Finset.univ (chunkI D c 4 4) : sProp 𝕄) = hPt c Finset.univ fullShare (D.w c) := by
  rw [chunks_cut]
  exact bigSep_congr fun q _ => by unfold chunkI; rw [if_pos (Or.inr q.isLt)]

variable {D κ c}

/-- The last state of the body, in whole buffers, with every counter at zero. -/
theorem close_state {Z : sProp 𝕄} (hrest : E.rest = iprop(atPos ER (barC c) 1 ∅ 0 ∗ owns c a0 fullShare (E.D.x c) ∗ Z)) :
    Sn E 21 21 21 24 24 4 4 4
      ⊢ |={Set.univ}=> iprop((Scratch c ∗ hPt c Finset.univ fullShare (E.D.w c) ∗ oPt c Finset.univ fullShare (oC E.D c))
        ∗ (owns c a0 fullShare (E.D.x c) ∗ owns c E.arg2 fullShare E.X2 ∗ owns c E.arg3 fullShare E.X3 ∗ owns c E.arg4 fullShare E.X4)
        ∗ (∃ W, owes (c : Thread nD τ) 0 W) ∗ (bigSep Finset.univ fun k : Fin 76 => semVal ((c : Thread nD τ), osem k) 0) ∗ semVal (barC c) 0 ∗ Z) := by
  unfold Sn
  rw [sent_all, received_all, settled_all]
  unfold St envP owesI Scratch
  rw [hrest, owed_univ]
  iintro ⟨#Hc, ⟨H2, H3, H4, Hb, H0, HZ⟩, Hp, HO, -, -, Hg, Ho, Hs, Ht, Hh, Hw⟩
  imod (counters_close E.D E.κ c) $$ [Hp] with Hk
  · isplitr; · iexact Hc
    iexact Hp
  imod (bar_close E.D E.κ c) $$ [Hb] with Hb
  · isplitr; · iexact Hc
    iexact Hb
  imodintro
  isplitl [Hg Ho Hs Ht Hh Hw]
  · isplitr [Hh Ho]
    · isplitl [Hg]
      · iexists _
        iapply (pieces_done E.D c) $$ Hg
      isplitl [Hw]
      · unfold wrefI
        icases Hw with ⟨%f, -, Hw⟩
        iexists f
        iexact Hw
      isplitl [Ht]; · iapply (wslots_done E.D c) $$ Ht
      iapply (slots_done E.D c) $$ Hs
    isplitl [Hh]; · iapply (Entails.of_eq (chunks_done E.D c)) $$ Hh
    iapply (Entails.of_eq (out_done E.D c)) $$ Ho
  isplitl [H0 H2 H3 H4]
  · isplitl [H0]; · iexact H0
    isplitl [H2]; · iexact H2
    isplitl [H3]; · iexact H3
    iexact H4
  isplitl [HO]; · iexact HO
  isplitl [Hk]; · iexact Hk
  isplitl [Hb]; · iexact Hb
  iexact HZ

end Cert.Hyper

end
-- ==== Proof.Host.lean ====
/-
  The three tables as the host leaves them: on each device its own rows of the tables of all devices.
-/
module

public import proofs.«01_k».proof.Proof.State
public import proofs.«01_k».proof.Proof.Gen.KernelIdeal.Regions
public import Idealize.ShloMosaic.Lib.StableHlo.RunRead

@[expose] public section

noncomputable section

set_option maxRecDepth 4000

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-- The neighbours' table on device `c`: row `c` of the table of all devices. -/
def nbrRow (c : Dev nD) : S3.Idx → BitVec 32 :=
  shapeCast S3 (Host.dynamicSlice S1x3 (fun i => lit0 (S8x3.rowMajor i)) ![(c.val : Int), 0] sliceFits_S8x3_S1x3) shapeCasts_S1x3_S3

set_option maxHeartbeats 2000000 in
/-- What the first table holds when the kernel begins. -/
theorem host_nbr : V1 m c (Proc.devRef .tc main_v12) = (nbrRow c : S3.Idx → BitVec 32) := by
  unfold V1
  after_reads_simp
  funext i
  refine congrFun (congrArg (fun o => shapeCast S3 (Host.dynamicSlice S1x3 (fun i => lit0 (S8x3.rowMajor i)) o sliceFits_S8x3_S1x3) shapeCasts_S1x3_S3) ?_) i
  funext k
  fin_cases k
  · show BitVec.toInt ((StableHlo.upto (hostOps0 c) (V0 m c) 22 (Proc.devRef .tc main_v7) : S_.Idx → BitVec 32) (Shape.Idx.first h_S_)) = (c.val : Int)
    after_reads_simp
    fin_cases c <;> rfl
  · show BitVec.toInt ((StableHlo.upto (hostOps0 c) (V0 m c) 22 (Proc.devRef .tc main_v10) : S_.Idx → BitVec 32) (Shape.Idx.first h_S_)) = 0
    after_reads_simp
    rfl

theorem nbrRow_at : ∀ d, nbrRow c ((r2 d).emb (Shape.Idx.first ((first_r2 d).symm ▸ Nat.one_pos))) = BitVec.ofNat 32 (nbr c d).val := by
  intro d; revert c d; decide +kernel

/-- A table of arrivals on device `c`: slab `c` of the table `t` of all devices. -/
def slabOf (t : Fin 288 → BitVec 32) (c : Dev nD) : S3x3x4.Idx → BitVec 32 :=
  shapeCast S3x3x4 (Host.dynamicSlice S1x3x3x4 (fun i => t (S8x3x3x4.rowMajor i)) ![(c.val : Int), 0, 0, 0] sliceFits_S8x3x3x4_S1x3x3x4) shapeCasts_S1x3x3x4_S3x3x4

set_option maxHeartbeats 2000000 in
/-- What the second table holds when the kernel begins. -/
theorem host_snd : V1 m c (Proc.devRef .tc main_v26) = (slabOf lit1 c : S3x3x4.Idx → BitVec 32) := by
  unfold V1
  after_reads_simp
  funext i
  refine congrFun (congrArg (fun o => shapeCast S3x3x4 (Host.dynamicSlice S1x3x3x4 (fun i => lit1 (S8x3x3x4.rowMajor i)) o sliceFits_S8x3x3x4_S1x3x3x4) shapeCasts_S1x3x3x4_S3x3x4) ?_) i
  funext k
  fin_cases k
  · show BitVec.toInt ((StableHlo.upto (hostOps0 c) (V0 m c) 53 (Proc.devRef .tc main_v15) : S_.Idx → BitVec 32) (Shape.Idx.first h_S_)) = (c.val : Int)
    after_reads_simp
    fin_cases c <;> rfl
  · show BitVec.toInt ((StableHlo.upto (hostOps0 c) (V0 m c) 53 (Proc.devRef .tc main_v18) : S_.Idx → BitVec 32) (Shape.Idx.first h_S_)) = 0
    after_reads_simp
    rfl
  · show BitVec.toInt ((StableHlo.upto (hostOps0 c) (V0 m c) 53 (Proc.devRef .tc main_v21) : S_.Idx → BitVec 32) (Shape.Idx.first h_S_)) = 0
    after_reads_simp
    rfl
  · show BitVec.toInt ((StableHlo.upto (hostOps0 c) (V0 m c) 53 (Proc.devRef .tc main_v24) : S_.Idx → BitVec 32) (Shape.Idx.first h_S_)) = 0
    after_reads_simp
    rfl

set_option maxHeartbeats 2000000 in
/-- What the third table holds when the kernel begins. -/
theorem host_arr : V1 m c (Proc.devRef .tc main_v40) = (slabOf lit2 c : S3x3x4.Idx → BitVec 32) := by
  unfold V1
  after_reads_simp
  funext i
  refine congrFun (congrArg (fun o => shapeCast S3x3x4 (Host.dynamicSlice S1x3x3x4 (fun i => lit2 (S8x3x3x4.rowMajor i)) o sliceFits_S8x3x3x4_S1x3x3x4) shapeCasts_S1x3x3x4_S3x3x4) ?_) i
  funext k
  fin_cases k
  · show BitVec.toInt ((StableHlo.upto (hostOps0 c) (V0 m c) 84 (Proc.devRef .tc main_v29) : S_.Idx → BitVec 32) (Shape.Idx.first h_S_)) = (c.val : Int)
    after_reads_simp
    fin_cases c <;> rfl
  · show BitVec.toInt ((StableHlo.upto (hostOps0 c) (V0 m c) 84 (Proc.devRef .tc main_v32) : S_.Idx → BitVec 32) (Shape.Idx.first h_S_)) = 0
    after_reads_simp
    rfl
  · show BitVec.toInt ((StableHlo.upto (hostOps0 c) (V0 m c) 84 (Proc.devRef .tc main_v35) : S_.Idx → BitVec 32) (Shape.Idx.first h_S_)) = 0
    after_reads_simp
    rfl
  · show BitVec.toInt ((StableHlo.upto (hostOps0 c) (V0 m c) 84 (Proc.devRef .tc main_v38) : S_.Idx → BitVec 32) (Shape.Idx.first h_S_)) = 0
    after_reads_simp
    rfl

theorem snd_at : ∀ i : Site, slabOf lit1 c ((r3 i).emb (Shape.Idx.first ((first_r3 i).symm ▸ Nat.one_pos))) = BitVec.ofNat 32 (held c i.1 (jj i.2)).val := by
  intro i; revert c i; decide +kernel

theorem arr_at : ∀ i : Site, slabOf lit2 c ((r3 i).emb (Shape.Idx.first ((first_r3 i).symm ▸ Nat.one_pos))) = BitVec.ofNat 32 (held c i.1 i.2.succ).val := by
  intro i; revert c i; decide +kernel

end Cert.Hyper

end
-- ==== Proof.Region.lean ====
/-
  The kernel as the one region of the host program: what it finds in its buffers and what it leaves there.
-/
module

public import proofs.«01_k».proof.Proof.Ends
public import proofs.«01_k».proof.Proof.Body
public import proofs.«01_k».proof.Proof.Host
public import proofs.«01_k».proof.Proof.Gen.KernelIdeal.Points
public import Idealize.ShloMosaic.Lib.Pipeline.RegionTalk

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

section Whole

variable {c : Dev nD} {E : Env F c} {a0 : Memref sig .tc .vmem S512x4096 .f32} {h0 : a0.IsWhole} {h1 : hM.IsWhole}
  {h2 : E.arg2.IsWhole} {h3 : E.arg3.IsWhole} {h4 : E.arg4.IsWhole} {h5 : oM.IsWhole} {h6 : gM.IsWhole} {h7 : wM.IsWhole} {h8 : tM.IsWhole} {h9 : sM.IsWhole}

/-- The whole kernel on one device: from its tools, buffers and debts, to the finished output, every counter at zero and nothing owed. -/
theorem whole_run {Z : sProp 𝕄} (hrest : E.rest = iprop(atPos ER (barC c) 1 ∅ 0 ∗ owns c a0 fullShare (E.D.x c) ∗ Z)) :
    iprop(ctx E.D E.κ c ∗ Tools c ∗ Scratch c ∗ hPt c Finset.univ fullShare (E.D.w c) ∗ (∃ f, oPt c Finset.univ fullShare f)
        ∗ (owns c a0 fullShare (E.D.x c) ∗ owns c E.arg2 fullShare E.X2 ∗ owns c E.arg3 fullShare E.X3 ∗ owns c E.arg4 fullShare E.X4)
        ∗ (∃ W, owes (c : Thread nD τ) (O₀ c) W) ∗ Z)
      ⊢ ww c (cc0_body (F := F) a0 h0 hM h1 E.arg2 h2 E.arg3 h3 E.arg4 h4 oM h5 gM h6 wM h7 tM h8 sM h9 cc0_scratch4 cc0_scratch5 cc0_scratch6 cc0_scratch7)
          fun _ => iprop((Scratch c ∗ hPt c Finset.univ fullShare (E.D.w c) ∗ oPt c Finset.univ fullShare (oC E.D c))
            ∗ (owns c a0 fullShare (E.D.x c) ∗ owns c E.arg2 fullShare E.X2 ∗ owns c E.arg3 fullShare E.X3 ∗ owns c E.arg4 fullShare E.X4)
            ∗ (∃ W, owes (c : Thread nD τ) 0 W) ∗ (bigSep Finset.univ fun k : Fin 76 => semVal ((c : Thread nD τ), osem k) 0) ∗ semVal (barC c) 0 ∗ Z) := by
  refine BIBase.Entails.trans ?_ (wp_fupd _ _ _ _ _)
  exact open_state.trans (body_run (fun K' hK' => part1 hrest hK') (close_state hrest))

end Whole

variable (m : (ℓ : Loc nD τ sig) → Buf (Elt F) ℓ)

/-- The operands as they lie in memory at the start. -/
def data : Data F := ⟨fun o => m ((o : Thread nD τ).loc main_arg0), fun o => m ((o : Thread nD τ).loc main_arg1)⟩

/-- What the kernel leaves in the output on each device. -/
def outs : Gen.Outs (F := F) := fun _ r c => if h : r = main_v41 then h ▸ (oC (data m) c : S4096x1024.Idx → Elt F .f32) else m ((c : Thread nD τ).loc r)

/-- The tables of device `c`. -/
theorem tables_at (c : Dev nD) : Tabs (F := F) c (nbrRow c) (slabOf lit1 c) (slabOf lit2 c) :=
  ⟨nbrRow_at c, snd_at c, arr_at c⟩

/-- What the unscoped buffers hold before the kernel, and after it. -/
def Vin (c : Dev nD) : Valuation τ sig (Elt F) := V1 m c
def Vout (c : Dev nD) : Valuation τ sig (Elt F) := V2 m (outs m) c

theorem Vin_x (c : Dev nD) : Vin m c (Proc.devRef .tc main_arg0) = (data m).x c := V1_of m c main_arg0 (by decide)
theorem Vin_w (c : Dev nD) : Vin m c (Proc.devRef .tc main_arg1) = (data m).w c := V1_of m c main_arg1 (by decide)
theorem Vin_nbr (c : Dev nD) : Vin m c (Proc.devRef .tc main_v12) = (nbrRow c : S3.Idx → Elt F .i32) := host_nbr m c
theorem Vin_snd (c : Dev nD) : Vin m c (Proc.devRef .tc main_v26) = (slabOf lit1 c : S3x3x4.Idx → Elt F .i32) := host_snd m c
theorem Vin_arr (c : Dev nD) : Vin m c (Proc.devRef .tc main_v40) = (slabOf lit2 c : S3x3x4.Idx → Elt F .i32) := host_arr m c
theorem Vout_of (c : Dev nD) (r : Ref sig .tc) (h : r ≠ main_v41) : Vout m c (Proc.devRef .tc r) = Vin m c (Proc.devRef .tc r) :=
  V2_of m (outs m) c r (fun h' => h (List.mem_singleton.mp h'))
theorem Vout_o (c : Dev nD) : Vout m c (Proc.devRef .tc main_v41) = (oC (data m) c : S4096x1024.Idx → Elt F .f32) := by
  unfold Vout V2
  rw [Function.update_self]
  unfold outs
  rw [dif_pos rfl]

/-- The buffers the kernel addresses itself. -/
abbrev Hs : Finset (DevRef τ sig) := {Proc.devRef .tc main_arg1, Proc.devRef .tc main_v41}

/-- What the launch deals to device `c` beside the right to open its semaphores. -/
def Dealt (c : Dev nD) : sProp 𝕄 :=
  iprop(atPos ER (barC c) 0 ∅ 0 ∗ cred (tallyAt (barC c) () 3)
    ∗ (bigSep Finset.univ fun d : Fin 3 => iprop(dutyTok ER (barC (nbr c d)) 0 d ∗ reached ER (barC (nbr c d)) 0))
    ∗ (bigSep Finset.univ fun i : Site => iprop(dutyTok ER (sendC c i) 0 0 ∗ dutyTok ER (recvC (peer c i) i) 0 0))
    ∗ bigSep Finset.univ (recvI c ∅)
    ∗ (bigSep Finset.univ fun s : Fin 2 => bigSep (Finset.Ico 0 12) fun r => dutyTok ER (outC c s) r 0)
    ∗ bigSep Finset.univ fun s : Fin 2 => bigSep (Finset.Ico 0 2) fun r => dutyTok ER (wgtC c s) r 0)

/-- What the launch deals to device `c`. -/
def Tk (c : Dev nD) : sProp 𝕄 :=
  iprop(∃ κ, records (data m) κ ∗ (bigSep Finset.univ fun k : Fin 76 => openTok ER ((c : Thread nD τ), osem k)) ∗ Dealt c)

/-- The same once the semaphores are open. -/
def Xk (c : Dev nD) : sProp 𝕄 := iprop(∃ κ, ctx (data m) κ c ∗ Tools c)

/-- At the start no semaphore has been waited on. -/
theorem rnd_start (k : Fin 76) : rnd ∅ ∅ 0 0 (use (osem k)) = 0 := by
  have : ∀ k : Fin 76, rnd ∅ ∅ 0 0 (use (osem k)) = 0 := by decide +kernel
  exact this k

/-- Opening the kernel's semaphores as its region begins. -/
theorem open_all (c : Dev nD) : iprop(Tk m c ∗ Pipeline.ownSems0 osem c ∗ levAts L lv) ⊢ (|={Set.univ}=> Xk m c : sProp 𝕄) := by
  unfold Tk Xk Dealt Pipeline.ownSems0
  iintro ⟨⟨%κ, #HR, Hop, HD⟩, Hs, #HL⟩
  imod (Rounds.cells_open ER (Rd (data m)) Finset.univ (fun k : Fin 76 => ((c : Thread nD τ), osem k)) (fun k => κ ((c : Thread nD τ), osem k))
    (fun _ _ => Set.mem_univ _)) $$ [Hop Hs] with H
  · isplitl [Hop]
    · iapply (bigSep_with_persistent (R := records (data m) κ) (Φ := fun k : Fin 76 => openTok ER ((c : Thread nD τ), osem k)) fun k _ => by
        show (_ : sProp 𝕄) ⊢ _
        iintro ⟨#HR, H⟩
        isplitr; · iapply (records_own (data m) κ c k) $$ HR
        iexact H)
      isplitr; · iexact HR
      iexact Hop
    iexact Hs
  ihave H := (Entails.of_eq (bigSep_sep' _ _ _)) $$ H
  icases H with ⟨Hp, #Hr⟩
  imodintro
  iexists κ
  isplitr
  · unfold ctx
    isplitr; · iexact HR
    isplitr; · iexact HL
    iexact Hr
  unfold Tools posn
  isplitl [Hp]
  · iapply (Entails.of_eq (bigSep_congr (s := Finset.univ) fun k _ => by rw [rnd_start k]) :
      (bigSep Finset.univ fun k : Fin 76 => (atPos ER ((c : Thread nD τ), osem k) 0 ∅ 0 : sProp 𝕄)) ⊢
        bigSep Finset.univ fun k : Fin 76 => atPos ER ((c : Thread nD τ), osem k) (rnd ∅ ∅ 0 0 (use (osem k))) ∅ 0)
    iexact Hp
  iexact HD

/-- The region's own part of the state before its one point and after it. -/
def Before (c : Dev nD) : sProp 𝕄 :=
  iprop(Pipeline.scopedRest spec0 c ∗ (∃ r, prngReg c r) ∗ StableHlo.held (c : Thread nD τ) Hs (Vin m c) ∗ Xk m c)
def After (c : Dev nD) : sProp 𝕄 :=
  iprop(Pipeline.scopedRest spec0 c ∗ (∃ r, prngReg c r) ∗ StableHlo.held (c : Thread nD τ) Hs (Vout m c) ∗ Pipeline.ownSems0 osem c ∗ semVal (barC c) 0)

/-- The region's proof data: its operand and its tables, which it leaves as they are. -/
def dat (c : Dev nD) : Dat τ (Elt F) Unit ℕ UU ℕ cfg0 c where
  A w := match w with
    | 0 => (data m).x c
    | 1 => (nbrRow c : S3.Idx → Elt F .i32)
    | 2 => (slabOf lit1 c : S3x3x4.Idx → Elt F .i32)
    | 3 => (slabOf lit2 c : S3x3x4.Idx → Elt F .i32)
  after w := match w with
    | 0 => fun _ => (data m).x c
    | 1 => fun _ => (nbrRow c : S3.Idx → Elt F .i32)
    | 2 => fun _ => (slabOf lit1 c : S3x3x4.Idx → Elt F .i32)
    | 3 => fun _ => (slabOf lit2 c : S3x3x4.Idx → Elt F .i32)
  Φ t := if t.val = 0 then Before m c else After m c
  q _ := fullShare
  owed t := if t.val = 0 then O₀ c else 0

abbrev dats : (p : Fin 1) → (c : Dev nD) → Dat τ (Elt F) Unit ℕ UU ℕ (cfgs p) c := fun _ => dat m

theorem block_x (f : S512x4096.Idx → Elt F .f32) (d : S512x4096.Idx → Elt F .f32) :
    (cfg0.win 0).fill (cfg0.grid.coords t0_0) d (((cfg0.win 0).blk t0_0).view.read (Elt F) f) = f := by
  funext j
  refine congrArg f (funext fun a => Fin.ext ?_)
  match a with
  | 0 => show 0 + 1 * (j 0).val = (j 0).val; omega
  | 1 => show 0 + 1 * (j 1).val = (j 1).val; omega

theorem before_x (c : Dev nD) (t : Fin cfg0.N) (d) : (dat m c).before 0 t d = ((data m).x c : S512x4096.Idx → Elt F .f32) := by
  unfold Dat.before
  rw [if_pos (fetch0_0 t)]
  obtain rfl := fin_N0 t
  exact block_x ((data m).x c) d

theorem block_nbr (f : S3.Idx → Elt F .i32) (d : S3.Idx → Elt F .i32) :
    (cfg0.win 1).fill (cfg0.grid.coords t0_0) d (((cfg0.win 1).blk t0_0).view.read (Elt F) f) = f := by
  funext j
  refine congrArg f (funext fun a => Fin.ext ?_)
  match a with
  | 0 => show 0 + 1 * (j 0).val = (j 0).val; omega

theorem before_nbr (c : Dev nD) (t : Fin cfg0.N) (d) : (dat m c).before 1 t d = (nbrRow c : S3.Idx → Elt F .i32) := by
  unfold Dat.before
  rw [if_pos (fetch0_1 t)]
  obtain rfl := fin_N0 t
  exact block_nbr (nbrRow c) d

theorem block_snd (f : S3x3x4.Idx → Elt F .i32) (d : S3x3x4.Idx → Elt F .i32) :
    (cfg0.win 2).fill (cfg0.grid.coords t0_0) d (((cfg0.win 2).blk t0_0).view.read (Elt F) f) = f := by
  funext j
  refine congrArg f (funext fun a => Fin.ext ?_)
  match a with
  | 0 => show 0 + 1 * (j 0).val = (j 0).val; omega
  | 1 => show 0 + 1 * (j 1).val = (j 1).val; omega
  | 2 => show 0 + 1 * (j 2).val = (j 2).val; omega

theorem before_snd (c : Dev nD) (t : Fin cfg0.N) (d) : (dat m c).before 2 t d = (slabOf lit1 c : S3x3x4.Idx → Elt F .i32) := by
  unfold Dat.before
  rw [if_pos (fetch0_2 t)]
  obtain rfl := fin_N0 t
  exact block_snd (slabOf lit1 c) d

theorem block_arr (f : S3x3x4.Idx → Elt F .i32) (d : S3x3x4.Idx → Elt F .i32) :
    (cfg0.win 3).fill (cfg0.grid.coords t0_0) d (((cfg0.win 3).blk t0_0).view.read (Elt F) f) = f := by
  funext j
  refine congrArg f (funext fun a => Fin.ext ?_)
  match a with
  | 0 => show 0 + 1 * (j 0).val = (j 0).val; omega
  | 1 => show 0 + 1 * (j 1).val = (j 1).val; omega
  | 2 => show 0 + 1 * (j 2).val = (j 2).val; omega

theorem before_arr (c : Dev nD) (t : Fin cfg0.N) (d) : (dat m c).before 3 t d = (slabOf lit2 c : S3x3x4.Idx → Elt F .i32) := by
  unfold Dat.before
  rw [if_pos (fetch0_3 t)]
  obtain rfl := fin_N0 t
  exact block_arr (slabOf lit2 c) d

theorem arr_in (c : Dev nD) (w : Fin 4) : (dat m c).A w = Vin m c (Proc.devRef .tc (Pipeline.arrRef spec0 w)) :=
  match w with
  | 0 => (Vin_x m c).symm
  | 1 => (Vin_nbr m c).symm
  | 2 => (Vin_snd m c).symm
  | 3 => (Vin_arr m c).symm

theorem arr_out (c : Dev nD) (w : Fin 4) : (dat m c).A w = Vout m c (Proc.devRef .tc (Pipeline.arrRef spec0 w)) :=
  match w with
  | 0 => ((Vout_of m c main_arg0 (by decide)).trans (Vin_x m c)).symm
  | 1 => ((Vout_of m c main_v12 (by decide)).trans (Vin_nbr m c)).symm
  | 2 => ((Vout_of m c main_v26 (by decide)).trans (Vin_snd m c)).symm
  | 3 => ((Vout_of m c main_v40 (by decide)).trans (Vin_arr m c)).symm

theorem scratch_eq (c : Dev nD) : (Pipeline.scopedRest spec0 c : sProp 𝕄) = Scratch c := (scopedRest0_eq c).trans rfl

/-- The two buffers the kernel addresses itself, one by one. -/
theorem held_eq (c : Dev nD) (V : Valuation τ sig (Elt F)) (w o : S4096x1024.Idx → Elt F .f32) (hw : V (Proc.devRef .tc main_arg1) = w)
    (ho : V (Proc.devRef .tc main_v41) = o) :
    (StableHlo.held (c : Thread nD τ) Hs V : sProp 𝕄) = iprop(hPt c Finset.univ fullShare w ∗ oPt c Finset.univ fullShare o) := by
  subst hw ho
  unfold StableHlo.held
  rw [bigSep_insert (by decide), bigSep_singleton]
  rfl

/-- The surroundings of device `c`'s run. -/
def env (c : Dev nD) (κ : GSem nD τ sig → ℕ) : Env F c where
  D := data m
  κ := κ
  arg2 := st0_1 t0_0
  arg3 := st0_2 t0_0
  arg4 := st0_3 t0_0
  X2 := nbrRow c
  X3 := slabOf lit1 c
  X4 := slabOf lit2 c
  tabs := tables_at c
  rest := iprop(atPos ER (barC c) 1 ∅ 0 ∗ owns c (st0_0 t0_0) fullShare ((data m).x c) ∗ ∃ r, prngReg c r)

theorem owed_first (c : Dev nD) : (dat m c).owed 0 = O₀ c := by
  show (if (0 : Fin (cfg0.N + 1)).val = 0 then O₀ c else 0) = O₀ c
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem within_intro (c : Dev nD) (t : Fin (cfg0.N + 1)) {O : CellTallies nD τ sig Unit} (h : (dat m c).owed t = O) :
    (iprop(∃ W, owes (c : Thread nD τ) O W) : sProp 𝕄) ⊢ (dat m c).owesAt () t := by
  unfold Dat.owesAt Pipeline.owesWithin Dat.bound
  rw [h]
  iintro ⟨%W, H⟩
  iexists W
  isplitr
  · ipureintro; exact fun _ _ => Or.inl trivial
  iexact H
theorem within_elim (c : Dev nD) (t : Fin (cfg0.N + 1)) {O : CellTallies nD τ sig Unit} (h : (dat m c).owed t = O) :
    ((dat m c).owesAt () t : sProp 𝕄) ⊢ iprop(∃ W, owes (c : Thread nD τ) O W) := by
  unfold Dat.owesAt Pipeline.owesWithin
  rw [h]
  iintro ⟨%W, -, H⟩
  iexists W
  iexact H

/-- What the kernel leaves is what the region asks for after its point. -/
theorem left_ok (c : Dev nD) (κ : GSem nD τ sig → ℕ) :
    (iprop((Scratch c ∗ hPt c Finset.univ fullShare ((data m).w c) ∗ oPt c Finset.univ fullShare (oC (data m) c))
            ∗ (owns c (st0_0 t0_0) fullShare ((data m).x c) ∗ owns c (st0_1 t0_0) fullShare (nbrRow c : S3.Idx → Elt F .i32)
              ∗ owns c (st0_2 t0_0) fullShare (slabOf lit1 c : S3x3x4.Idx → Elt F .i32) ∗ owns c (st0_3 t0_0) fullShare (slabOf lit2 c : S3x3x4.Idx → Elt F .i32))
            ∗ (∃ W, owes (c : Thread nD τ) 0 W) ∗ (bigSep Finset.univ fun k : Fin 76 => semVal ((c : Thread nD τ), osem k) 0) ∗ semVal (barC c) 0 ∗ ∃ r, prngReg c r) : sProp 𝕄)
      ⊢ iprop((Scratch c ∗ (∃ r, prngReg c r) ∗ (hPt c Finset.univ fullShare ((data m).w c) ∗ oPt c Finset.univ fullShare (oC (data m) c)) ∗ Pipeline.ownSems0 osem c ∗ semVal (barC c) 0)
        ∗ (dat m c).owesAt () t0_0.succ
        ∗ (owns c (st0_0 t0_0) fullShare ((data m).x c) ∗ owns c (st0_1 t0_0) fullShare (nbrRow c : S3.Idx → Elt F .i32)
              ∗ owns c (st0_2 t0_0) fullShare (slabOf lit1 c : S3x3x4.Idx → Elt F .i32) ∗ owns c (st0_3 t0_0) fullShare (slabOf lit2 c : S3x3x4.Idx → Elt F .i32))) := by
  unfold Pipeline.ownSems0
  iintro ⟨⟨Hs, Hh, Ho⟩, H4, HO, Hk, Hb, Hp⟩
  isplitl [Hs Hh Ho Hk Hb Hp]
  · isplitl [Hs]; · iexact Hs
    isplitl [Hp]; · iexact Hp
    isplitl [Hh Ho]; · isplitl [Hh] <;> iassumption
    isplitl [Hk] <;> iassumption
  isplitl [HO]; · iapply (within_intro m c t0_0.succ (owed_last m c)) $$ HO
  iexact H4

/-- The kernel's body does what the region asks of it. -/
theorem body_ok (c : Dev nD) : BodyObligation (dat m c) defs₀ 𝒱₀ () Set.univ := fun t => by
  obtain rfl := fin_N0 t
  rw [bigSep_W0, bigSep_W0]
  rw [show (dat m c).Φ t0_0.castSucc = Before m c from rfl, show (dat m c).Φ t0_0.succ = After m c from rfl]
  simp only [before_x, before_nbr, before_snd, before_arr]
  unfold Before After Xk
  rw [scratch_eq, held_eq c (Vin m c) _ _ (Vin_w m c) rfl, held_eq c (Vout m c) _ _ ((Vout_of m c main_arg1 (by decide)).trans (Vin_w m c)) (Vout_o m c)]
  iintro ⟨⟨Hs, Hp, ⟨Hh, Ho⟩, ⟨%κ, Hc, HT⟩⟩, HO, ⟨%d0, H0⟩, ⟨%d1, H1⟩, ⟨%d2, H2⟩, ⟨%d3, H3⟩⟩
  ihave HO := (within_elim m c t0_0.castSucc (owed_first m c)) $$ HO
  iapply ((whole_run (E := env m c κ) (a0 := st0_0 t0_0) (Z := iprop(∃ r, prngReg c r)) rfl).trans (wp_mono _ _ _ fun _ => left_ok m c κ))
  isplitl [Hc]; · iexact Hc
  isplitl [HT]; · iexact HT
  isplitl [Hs]; · iexact Hs
  isplitl [Hh]; · iexact Hh
  isplitl [Ho]; · iexists _; iexact Ho
  isplitl [H0 H1 H2 H3]
  · isplitl [H0]; · iexact H0
    isplitl [H1]; · iexact H1
    isplitl [H2]; · iexact H2
    iexact H3
  isplitl [HO]; · iexact HO
  iexact Hp

/-! ## The levels -/

/-- Every cell of `O` is assigned and lies above the staging semaphores. -/
def Above (O : CellTallies nD τ sig Unit) : Prop := ∀ g i, 0 < O g i → i ∈ L g ∧ (0 : ℕ) < lv g i

theorem above_zero : Above 0 := fun _ _ h => absurd h (Nat.lt_irrefl 0)
theorem above_add {O P : CellTallies nD τ sig Unit} (hO : Above O) (hP : Above P) : Above (O + P) := fun g i h => by
  rw [Pi.add_apply, Finsupp.add_apply] at h
  exact (Nat.add_pos_iff_pos_or_pos.mp h).elim (hO g i) (hP g i)
theorem above_sum {ι : Type} [DecidableEq ι] (s : Finset ι) (f : ι → CellTallies nD τ sig Unit) (h : ∀ i ∈ s, Above (f i)) : Above (∑ i ∈ s, f i) :=
  Finset.sum_induction f Above (fun _ _ => above_add) above_zero h
theorem above_at (c : Dev nD) (sm : SemLoc sig) (n : ℕ) (h : 0 < levelOf (use sm)) : Above (tallyAt ((c : Thread nD τ), sm) () n) := fun g i hg => by
  rw [tallyAt_apply] at hg
  split at hg
  · next hh => obtain ⟨rfl, rfl⟩ := hh; exact ⟨by rw [L_tc]; exact Finset.mem_singleton_self _, h⟩
  · exact absurd hg (Nat.lt_irrefl 0)

theorem level_recv : ∀ i : Site, 0 < levelOf (use (.dma (recvS i) : SemLoc sig)) := by decide +kernel
theorem level_bar : 0 < levelOf (use (.reg barS : SemLoc sig)) := by decide

theorem above_owed (c : Dev nD) : Above (O₀ c) := by
  unfold O₀ owed
  refine above_add (above_add (above_add (above_sum _ _ fun i _ => ?_) ?_) ?_) ?_
  · rw [if_neg (Finset.notMem_empty i)]
    exact above_at _ _ _ (level_recv i)
  all_goals exact above_at _ _ _ level_bar

theorem level_stage : ∀ (w : Fin 4) (s : Fin (win0 w).nbuf), levelOf (use (.dma ((win0 w).sem s) : SemLoc sig)) ≤ 0 := by decide

theorem all_in : ∀ w : Fin 4, (win0 w).isOut = false := by decide

theorem cut_ok : Pipeline.LevelCutOwed (pcfgs (F := F)) adm (dats m) () L lv 0 (fun _ => (0 : ℕ)) where
  hι c w s := by rw [L_tc]; exact Finset.mem_singleton_self _
  hιb c w s := level_stage w s
  hD c t g i h := by
    have e : (dats m 0 c).owed t = if t.val = 0 then O₀ c else 0 := rfl
    rw [e] at h
    split at h
    · exact above_owed c g i h
    · exact above_zero g i h

/-! ## The region -/

/-- The unscoped buffers that are no window's array. -/
abbrev Sr : Finset (DevRef τ sig) := Pipeline.ucRefs τ sig \ Pipeline.arrRefs (τ := τ) spec0

/-- The kernel changes no other buffer than its output. -/
theorem kept_off (c : Dev nD) (b : DevRef τ sig) (hb : b ∈ Sr \ Hs) : Vout m c b = Vin m c b := by
  have h : b ≠ Proc.devRef .tc main_v41 := fun e => (Finset.mem_sdiff.mp hb).2 (Finset.mem_insert_of_mem (Finset.mem_singleton.mpr e))
  unfold Vout V2 Vin
  exact Function.update_of_ne h _ _

set_option backward.isDefEq.respectTransparency.types false in
/-- The kernel's region of the host program. -/
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    Hs Sr (by decide) (Pipeline.LaunchFacts.toP launch0) rfl (fun c => (body_ok m c).loose)
    (fun _ => 0) O₀ (fun c => (owed_first m c).trans (zero_add _).symm) (owed_last m) (fun _ => rfl) (fun c w => by unfold Dat.share; split <;> rfl)
    (Vin m) (Vout m) (fun c b hb => kept_off m c b hb)
    (Tk m) (fun c => semVal (barC c) 0) (Xk m) (fun c => semVal (barC c) 0) (open_all m) (fun c => BI.Entails.refl _) (fun c => BI.Entails.refl _)
    (fun c => by iintro H; imodintro; iexact H)
    (fun _ => 0) (cut_ok m) (fun _ => iprop(emp))
    (fun c w => arr_in m c w) (fun c w => (Dat.arrAt_in (dat m c) w (all_in w) _).trans (arr_out m c w))

end Cert.Hyper

end
-- ==== Proof.Launch.lean ====
/-
  The launch: the semaphores' records are made and each device is dealt its tokens and its credit.
-/
module

public import proofs.«01_k».proof.Proof.Region

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The launch's ghost state -/

/-- A duty of one device's semaphores: a unit at its barrier, a send, an arrival, a copy out, a copy in. -/
abbrev Tok : Type := Fin 3 ⊕ (Site ⊕ (Site ⊕ ((Fin 2 × Fin 12) ⊕ (Fin 2 × Fin 2))))

/-- The semaphore, the round and the duty. -/
def tokAt : Tok → SemLoc sig × ℕ × Fin 3
  | .inl d => (.reg barS, 0, d)
  | .inr (.inl i) => (.dma (sendS i), 0, 0)
  | .inr (.inr (.inl i)) => (.dma (recvS i), 0, 0)
  | .inr (.inr (.inr (.inl x))) => (.dma (outS x.1), x.2.val, 0)
  | .inr (.inr (.inr (.inr x))) => (.dma (wgtS x.1), x.2.val, 0)

instance (a b : Tok) : Decidable (tokAt a = tokAt b → a = b) := inferInstance

theorem tokAt_inj : Function.Injective tokAt := by
  have : ∀ a b : Tok, tokAt a = tokAt b → a = b := by decide +kernel
  exact fun a b => this a b

def barEmb : Dev nD ↪ GSem nD τ sig := ⟨fun c => barC c, fun _ _ h => congrArg (fun g : GSem nD τ sig => g.1.1) h⟩
theorem osem_inj : Function.Injective osem := by
  have : ∀ a b, osem a = osem b → a = b := by decide +kernel
  exact fun a b => this a b
theorem osem_ne_bar : ∀ k : Fin 76, osem k ≠ .reg barS := by decide
def ownEmb : Dev nD × Fin 76 ↪ GSem nD τ sig :=
  ⟨fun x => ((x.1 : Thread nD τ), osem x.2), fun _ _ h =>
    Prod.ext (congrArg (fun g : GSem nD τ sig => g.1.1) h) (osem_inj (congrArg Prod.snd h))⟩
def tokEmb : Dev nD × Tok ↪ GSem nD τ sig × ℕ × Fin 3 :=
  ⟨fun x => (((x.1 : Thread nD τ), (tokAt x.2).1), (tokAt x.2).2), fun _ _ h =>
    Prod.ext (congrArg (fun t : GSem nD τ sig × ℕ × Fin 3 => t.1.1.1) h)
      (tokAt_inj (Prod.ext (congrArg (fun t : GSem nD τ sig × ℕ × Fin 3 => t.1.2) h) (congrArg (fun t : GSem nD τ sig × ℕ × Fin 3 => t.2) h)))⟩

/-- The barriers, which the launch holds; the kernel's own semaphores, which it holds once its region begins; and all duties. -/
abbrev barCells : Finset (GSem nD τ sig) := Finset.univ.map barEmb
abbrev ownCells : Finset (GSem nD τ sig) := Finset.univ.map ownEmb
abbrev allToks : Finset (GSem nD τ sig × ℕ × Fin 3) := Finset.univ.map tokEmb

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- The launch's element of the exchange's algebra. -/
abbrev exch : Rounds.URounds (GSem nD τ sig) (Fin 3) := launchOf barCells ownCells allToks

def u₀ : UU :=
  (initOf (Pipeline.cells cfgs cellOf_inj) (Pipeline.launchToks cfgs cellOf_inj), exch)

/-- All of it on one device until the launch deals it. -/
def G (c : Dev nD) : sProp 𝕄 := if c = 0 then BI.own (ER exch) else iprop(emp)

theorem G_all : (bigSep Finset.univ (G (F := F)) : sProp 𝕄) = BI.own (ER exch) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem u₀_split : (ownU u₀ : sProp 𝕄) ⊢ |={Set.univ}=> iprop(BI.own (EP (initOf (Pipeline.cells cfgs cellOf_inj) (Pipeline.launchToks cfgs cellOf_inj))) ∗ bigSep Finset.univ G) := by
  rw [G_all]
  unfold u₀
  iintro Hu
  ihave H := (ownU_pair _ _) $$ Hu
  icases H with ⟨HP, HX⟩
  imodintro
  isplitl [HP]; · iexact HP
  iexact HX

/-! ## The tokens, each to the device that pays its duty -/

/-- A device and a dimension, seen from the neighbour in that dimension. -/
def acrossD : Dev nD × Fin 3 ≃ Dev nD × Fin 3 :=
  ⟨fun x => (nbr x.1 x.2, x.2), fun x => (nbr x.1 x.2, x.2), fun x => by simp only [nbr_nbr], fun x => by simp only [nbr_nbr]⟩
/-- A device and a site, seen from the site's other end. -/
def acrossI : Dev nD × Site ≃ Dev nD × Site :=
  ⟨fun x => (peer x.1 x.2, x.2), fun x => (peer x.1 x.2, x.2), fun x => by simp only [peer_peer], fun x => by simp only [peer_peer]⟩

theorem swap_bar (f : Dev nD → Fin 3 → sProp 𝕄) :
    (bigSep Finset.univ fun c => bigSep Finset.univ fun d => f c d) = bigSep Finset.univ fun c => bigSep Finset.univ fun d => f (nbr c d) d := by
  rw [← bigSep_univ_prod (fun x : Dev nD × Fin 3 => f x.1 x.2), bigSep_univ_equiv acrossD, bigSep_univ_prod]
  rfl
theorem swap_site (f : Dev nD → Site → sProp 𝕄) :
    (bigSep Finset.univ fun c => bigSep Finset.univ fun i => f c i) = bigSep Finset.univ fun c => bigSep Finset.univ fun i => f (peer c i) i := by
  rw [← bigSep_univ_prod (fun x : Dev nD × Site => f x.1 x.2), bigSep_univ_equiv acrossI, bigSep_univ_prod]
  rfl

theorem ico_fin (n : ℕ) (Φ : ℕ → sProp 𝕄) : (bigSep (Finset.Ico 0 n) Φ) = bigSep Finset.univ fun r : Fin n => Φ r.val := by
  refine Eq.trans (congrArg (fun s => bigSep s Φ) ?_) (bigSep_map (s := Finset.univ) (Fin.valEmbedding : Fin n ↪ ℕ) (Φ := Φ))
  ext x
  simp only [Finset.mem_Ico, Finset.mem_map, Finset.mem_univ, true_and, Fin.valEmbedding_apply, Nat.zero_le]
  exact ⟨fun h => ⟨⟨x, h⟩, rfl⟩, fun ⟨y, h⟩ => h ▸ y.isLt⟩

/-- The tokens of the duties that device `c` pays. -/
def Paid (c : Dev nD) : sProp 𝕄 :=
  iprop((bigSep Finset.univ fun d : Fin 3 => dutyTok ER (barC (nbr c d)) 0 d)
    ∗ (bigSep Finset.univ fun i : Site => dutyTok ER (sendC c i) 0 0)
    ∗ (bigSep Finset.univ fun i : Site => dutyTok ER (recvC (peer c i) i) 0 0)
    ∗ (bigSep Finset.univ fun s : Fin 2 => bigSep (Finset.Ico 0 12) fun r => dutyTok ER (outC c s) r 0)
    ∗ bigSep Finset.univ fun s : Fin 2 => bigSep (Finset.Ico 0 2) fun r => dutyTok ER (wgtC c s) r 0)

theorem toks_dealt : (bigSep allToks (fun x => dutyTok ER x.1 x.2.1 x.2.2) : sProp 𝕄) = bigSep Finset.univ fun c : Dev nD => Paid c := by
  unfold Paid
  simp only [ico_fin]
  rw [bigSep_map, bigSep_univ_prod]
  rw [bigSep_sep', bigSep_sep', bigSep_sep', bigSep_sep',
    ← swap_bar (fun c d => dutyTok ER (barC c) 0 d), ← swap_site (fun c i => dutyTok ER (recvC c i) 0 0),
    ← bigSep_sep', ← bigSep_sep', ← bigSep_sep', ← bigSep_sep']
  refine bigSep_congr fun c _ => ?_
  rw [BI.bigSep_univ_sum, BI.bigSep_univ_sum, BI.bigSep_univ_sum, BI.bigSep_univ_sum,
    ← bigSep_univ_prod (fun x : Fin 2 × Fin 12 => (dutyTok ER (outC c x.1) x.2.val 0 : sProp 𝕄)),
    ← bigSep_univ_prod (fun x : Fin 2 × Fin 2 => (dutyTok ER (wgtC c x.1) x.2.val 0 : sProp 𝕄))]
  rfl

/-! ## The credit, of what the others owe -/

theorem bar_inj {c d : Dev nD} (h : (barC c : GSem nD τ sig) = barC d) : c = d := congrArg (fun g : GSem nD τ sig => g.1.1) h
theorem recv_inj {c d : Dev nD} {i j : Site} (h : (recvC c i : GSem nD τ sig) = recvC d j) : c = d ∧ i = j :=
  ⟨congrArg (fun g : GSem nD τ sig => g.1.1) h, by
    have : ∀ a b : Site, (SemLoc.dma (recvS a) : SemLoc sig) = .dma (recvS b) → a = b := by decide +kernel
    exact this i j (congrArg Prod.snd h)⟩
theorem bar_ne_recv {c d : Dev nD} {i : Site} : (barC c : GSem nD τ sig) ≠ recvC d i :=
  fun h => by have h' := congrArg Prod.snd h; cases h'

theorem owed_at_recv (d c : Dev nD) (i : Site) : owed ∅ d (recvC c i) () = if d = peer c i then NB i.1 else 0 := by
  unfold owed
  rw [Finset.sum_apply, Finsupp.finset_sum_apply, Finset.sum_eq_single i]
  · rw [if_neg (Finset.notMem_empty i), tallyAt_apply]
    by_cases h : d = peer c i
    · rw [h, peer_peer, if_pos ⟨rfl, rfl⟩, if_pos rfl]
    · rw [if_neg fun hh => h (by rw [(recv_inj hh.1).1, peer_peer]), if_neg h]
  · intro j _ hj
    rw [if_neg (Finset.notMem_empty j), tallyAt_apply, if_neg fun hh => hj (recv_inj hh.1).2.symm]
  · exact fun h => absurd (Finset.mem_univ i) h

theorem owed_at_bar (d c : Dev nD) : owed ∅ d (barC c) () = 0 := by
  unfold owed
  rw [Finset.sum_apply, Finsupp.finset_sum_apply]
  refine Finset.sum_eq_zero fun j _ => ?_
  rw [if_neg (Finset.notMem_empty j), tallyAt_apply, if_neg fun hh => bar_ne_recv hh.1]

theorem bar_at_bar (d c : Dev nD) (k : Fin 3) :
    (tallyAt (barC (nbr d k)) () 1 : CellTallies nD τ sig Unit) (barC c) () = if d = nbr c k then 1 else 0 := by
  rw [tallyAt_apply]
  by_cases h : d = nbr c k
  · rw [h, nbr_nbr, if_pos ⟨rfl, rfl⟩, if_pos rfl]
  · rw [if_neg fun hh => h (by rw [bar_inj hh.1, nbr_nbr]), if_neg h]

theorem bar_at_recv (d c : Dev nD) (i : Site) : (tallyAt (barC d) () 1 : CellTallies nD τ sig Unit) (recvC c i) () = 0 := by
  rw [tallyAt_apply, if_neg fun hh => bar_ne_recv hh.1.symm]

theorem owed_recv (d c : Dev nD) (i : Site) : O₀ d (recvC c i) () = if d = peer c i then NB i.1 else 0 := by
  unfold O₀
  simp only [Pi.add_apply, Finsupp.add_apply]
  rw [owed_at_recv, bar_at_recv, bar_at_recv, bar_at_recv]
  rfl

theorem owed_bar (d c : Dev nD) : O₀ d (barC c) () = ∑ k : Fin 3, if d = nbr c k then 1 else 0 := by
  unfold O₀
  simp only [Pi.add_apply, Finsupp.add_apply]
  rw [owed_at_bar, bar_at_bar, bar_at_bar, bar_at_bar, Fin.sum_univ_three, Nat.zero_add]
  omega

theorem credit_recv (c : Dev nD) (i : Site) :
    tallyOn (recvC c i) (launchCredit (Pipeline.owing O₀) 0 (recvC c i)) = (tallyAt (recvC c i) () (NB i.1) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (peer c i) fun _ => NB i.1,
    if_pos (Finset.mem_univ _)]
theorem credit_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (nbr c k) fun _ => 1).trans (if_pos (Finset.mem_univ _))]
  rfl

def recvEmb : Site ↪ SemLoc sig := ⟨fun i => .dma (recvS i), by
  have : ∀ a b : Site, (SemLoc.dma (recvS a) : SemLoc sig) = .dma (recvS b) → a = b := by decide +kernel
  exact fun a b => this a b⟩

theorem credits (c : Dev nD) : (Pipeline.launchCred O₀ c : sProp 𝕄) ⊢ iprop(cred (tallyAt (barC c) () 3) ∗ bigSep Finset.univ (recvI c ∅)) := by
  unfold Pipeline.launchCred
  rw [bigSep_univ_at _ (SemLoc.reg barS), credit_bar]
  refine sep_mono_right ?_
  refine (bigSep_subset (t := Finset.univ.map recvEmb) fun sm h => ?_).trans ?_
  · obtain ⟨i, -, rfl⟩ := Finset.mem_map.mp h
    exact Finset.mem_erase.mpr ⟨(fun e => by cases e), Finset.mem_univ _⟩
  rw [bigSep_map]
  refine Entails.of_eq (bigSep_congr fun i _ => ?_)
  unfold recvI
  rw [if_neg (Finset.notMem_empty i), ← credit_recv]
  rfl

end Cert.Hyper

end
-- ==== Proof.Run.lean ====
/-
  The run of the whole program: the launch, the host's tables, the kernel on eight devices, and what is left in memory.
-/
module

public import proofs.«01_k».proof.Proof.Launch

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Seg HostSeg RegionSeg)

variable (m : (ℓ : Loc nD τ sig) → Buf (Elt F) ℓ) (ρ : Dev nD → PrngReg)

theorem together {I : Type} [Fintype I] [DecidableEq I] {Φ Ψ : I → sProp 𝕄} :
    iprop(bigSep Finset.univ Φ ∗ bigSep Finset.univ Ψ) ⊢ bigSep Finset.univ fun i => iprop(Φ i ∗ Ψ i) :=
  Entails.of_eq (bigSep_sep' _ _ _).symm
theorem apart {I : Type} [Fintype I] [DecidableEq I] {Φ Ψ : I → sProp 𝕄} :
    (bigSep Finset.univ fun i => iprop(Φ i ∗ Ψ i)) ⊢ iprop(bigSep Finset.univ Φ ∗ bigSep Finset.univ Ψ) :=
  Entails.of_eq (bigSep_sep' _ _ _)

/-! ## What the launch deals -/

/-- What every device may read: the records of all cells, and that every barrier has begun. -/
def known (κ : GSem nD τ sig → ℕ) : sProp 𝕄 :=
  iprop(records (data m) κ ∗ bigSep Finset.univ fun c : Dev nD => reached ER (barC c) 0)
instance (κ : GSem nD τ sig → ℕ) : BI.Persistent (known m κ) := by unfold known; infer_instance

/-- What one device alone is dealt. -/
def alone (c : Dev nD) : sProp 𝕄 :=
  iprop(atPos ER (barC c) 0 ∅ 0 ∗ (bigSep Finset.univ fun k : Fin 76 => openTok ER ((c : Thread nD τ), osem k)) ∗ Paid c)

/-- Of the machine's own: its credit, its random register, what it owes. -/
def given (c : Dev nD) : sProp 𝕄 :=
  iprop((cred (tallyAt (barC c) () 3) ∗ bigSep Finset.univ (recvI c ∅)) ∗ (∃ r, prngReg c r) ∗ ∃ W, owes (c : Thread nD τ) (O₀ c) W)

/-- The rests: before the kernel the region's stock, after it the barrier at zero and nothing owed. -/
def rest : Fin 2 → Dev nD → sProp 𝕄
  | 0, c => iprop((∃ r, prngReg c r) ∗ Tk m c ∗ ∃ W, owes (c : Thread nD τ) (O₀ c) W)
  | 1, c => iprop(semVal (barC c) 0 ∗ ∃ W, owes (c : Thread nD τ) (0 : CellTallies nD τ sig Unit) W)

theorem stock (κ : GSem nD τ sig → ℕ) (c : Dev nD) : iprop(known m κ ∗ (alone c ∗ given c)) ⊢ (rest m 0 c : sProp 𝕄) := by
  unfold known alone given Paid
  show (_ : sProp 𝕄) ⊢ iprop((∃ r, prngReg c r) ∗ Tk m c ∗ ∃ W, owes (c : Thread nD τ) (O₀ c) W)
  unfold Tk Dealt
  iintro ⟨⟨#Hrec, #Hre⟩, ⟨Hat, Hop, Hb, Hs, Hr, Ho, Hw⟩, ⟨Hc, Hi⟩, Hp, HO⟩
  isplitl [Hp]; · iexact Hp
  isplitr [HO]
  · iexists κ
    isplitr; · iexact Hrec
    isplitl [Hop]; · iexact Hop
    isplitl [Hat]; · iexact Hat
    isplitl [Hc]; · iexact Hc
    isplitl [Hb]
    · have hb : iprop((bigSep Finset.univ fun c : Dev nD => reached ER (barC c) 0) ∗ bigSep Finset.univ fun d : Fin 3 => dutyTok ER (barC (nbr c d)) 0 d)
          ⊢ (bigSep Finset.univ fun d : Fin 3 => iprop(dutyTok ER (barC (nbr c d)) 0 d ∗ reached ER (barC (nbr c d)) 0) : sProp 𝕄) := by
        refine bigSep_with_persistent (R := bigSep Finset.univ fun c : Dev nD => reached ER (barC c) 0) fun d _ => ?_
        iintro ⟨#H, Hd⟩
        isplitl [Hd]; · iexact Hd
        ihave H' := (show (bigSep Finset.univ fun c : Dev nD => reached ER (barC c) 0) ⊢ (reached ER (barC (nbr c d)) 0 : sProp 𝕄) from bigSep_elim (Finset.mem_univ (nbr c d))) $$ H
        iexact H'
      iapply hb
      isplitr; · iexact Hre
      iexact Hb
    isplitl [Hs Hr]
    · iapply together
      isplitl [Hs] <;> iassumption
    isplitl [Hi]; · iexact Hi
    isplitl [Ho] <;> iassumption
  · iexact HO

/-- The records as the launch makes them. -/
theorem records_all (κ : GSem nD τ sig → ℕ) :
    (bigSep (barCells ∪ ownCells) fun g => cellInv ER (Rd (data m)) (κ g) g) ⊢ (records (data m) κ : sProp 𝕄) := by
  unfold records
  rw [bigSep_union cells_disjoint, bigSep_map, bigSep_map]
  exact .rfl

set_option backward.isDefEq.respectTransparency.types false in
/-- From the machine's launch every device has its stock. -/
theorem stock_all : iprop((bigSep Finset.univ fun c : Dev nD => iprop(unscopedSems0 c ∗ owes (c : Thread nD τ) (O₀ c) ∅ ∗ Pipeline.launchCred O₀ c ∗ prngReg c (ρ c) ∗ G c)) ∗ levAts L lv)
    ⊢ (|={Set.univ}=> bigSep Finset.univ (rest m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(given c ∗ (semVal (barC c) 0 ∗ G c)) : sProp 𝕄) := by
    unfold given
    have hb : (unscopedSems0 c : sProp 𝕄) = semVal (barC c) 0 := by
      unfold unscopedSems0
      rw [show (Finset.univ.filter fun sm : SemLoc sig => ¬ sm.isScoped .tc) = {.reg barS} from by decide, bigSep_singleton]
    rw [hb]
    iintro ⟨Hb, HO, Hc, Hp, HG⟩
    isplitr [Hb HG]
    · isplitl [Hc]; · iapply (credits c) $$ Hc
      isplitl [Hp]; · iexists (ρ c); iexact Hp
      iexists ∅; iexact HO
    isplitl [Hb] <;> iassumption
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(given c ∗ (semVal (barC c) 0 ∗ G c)) : sProp 𝕄) from bigSep_mono fun c _ => hcore c) $$ H
  ihave H2 := apart $$ H'; icases H2 with ⟨HB, H3⟩
  ihave H4 := apart $$ H3; icases H4 with ⟨Hv, HG⟩
  ihave Hu := (Entails.of_eq (G_all (F := F))) $$ HG
  imod (Rounds.fund_launch ER (Rd (data m)) cells_disjoint (fun g _ h => h) allToks) $$ [Hv Hu] with ⟨%κ, -, #Hinv, #Hr, Hat, Hopen, Htok⟩
  · isplitl [Hv]
    · iapply (show (bigSep Finset.univ fun c : Dev nD => semVal (barC c) 0) ⊢ (bigSep barCells fun g => semVal g 0 : sProp 𝕄) from Entails.of_eq (bigSep_map (s := Finset.univ) barEmb (Φ := fun g : GSem nD τ sig => (semVal g 0 : sProp 𝕄))).symm) $$ Hv
    · iexact Hu
  imodintro
  iapply (bigSep_with_persistent (R := known m κ) (Φ := fun c => iprop(alone c ∗ given c)) fun c _ => stock m κ c)
  isplitr
  · unfold known
    isplitr; · iapply (records_all m κ) $$ Hinv
    iapply (show (bigSep barCells fun g => reached ER g 0) ⊢ (bigSep Finset.univ fun c : Dev nD => reached ER (barC c) 0 : sProp 𝕄) from Entails.of_eq (bigSep_map _)) $$ Hr
  iapply together
  isplitr [HB]
  · unfold alone
    iapply together
    isplitl [Hat]
    · iapply (show (bigSep barCells fun g => atPos ER g 0 ∅ 0) ⊢ (bigSep Finset.univ fun c : Dev nD => atPos ER (barC c) 0 ∅ 0 : sProp 𝕄) from Entails.of_eq (bigSep_map _)) $$ Hat
    iapply together
    isplitl [Hopen]
    · iapply (show (bigSep ownCells fun g => openTok ER g) ⊢ (bigSep Finset.univ fun c : Dev nD => bigSep Finset.univ fun k : Fin 76 => openTok ER ((c : Thread nD τ), osem k) : sProp 𝕄) from
        Entails.of_eq ((bigSep_map _).trans (bigSep_univ_prod _))) $$ Hopen
    iapply (Entails.of_eq (toks_dealt (F := F))) $$ Htok
  · iexact HB

/-! ## Into the region and out of it -/

theorem arr_uc : Pipeline.arrRefs spec0 ⊆ Pipeline.ucRefs τ sig := by decide

set_option backward.isDefEq.respectTransparency.types false in
theorem enter (c : Dev nD) :
    iprop(StableHlo.held (c : Thread nD τ) (Pipeline.ucRefs τ sig) (V1 m c) ∗ rest m 0 c) ⊢ (region m).pre c := by
  show iprop(StableHlo.held (c : Thread nD τ) (Pipeline.ucRefs τ sig) (Vin m c) ∗ ((∃ r, prngReg c r) ∗ Tk m c ∗ ∃ W, owes (c : Thread nD τ) (O₀ c) W))
    ⊢ iprop(StableHlo.held (c : Thread nD τ) (Pipeline.arrRefs spec0) (Vin m c) ∗ (∃ r, prngReg c r)
        ∗ (StableHlo.held (c : Thread nD τ) Sr (Vin m c) ∗ emp) ∗ Tk m c ∗ ∃ Wd, owes (c : Thread nD τ) (0 + O₀ c) Wd)
  rw [zero_add, StableHlo.held_sub_split (c : Thread nD τ) arr_uc (Vin m c)]
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

set_option backward.isDefEq.respectTransparency.types false in
theorem leave (c : Dev nD) :
    (region m).post c ⊢ iprop(StableHlo.held (c : Thread nD τ) (Pipeline.ucRefs τ sig) (V2 m (outs m) c) ∗ rest m 1 c) := by
  show iprop(StableHlo.held (c : Thread nD τ) (Pipeline.arrRefs spec0) (Vout m c) ∗ (∃ r, prngReg c r)
        ∗ (StableHlo.held (c : Thread nD τ) Sr (Vout m c) ∗ emp) ∗ semVal (barC c) 0 ∗ ∃ Wd, owes (c : Thread nD τ) (0 : CellTallies nD τ sig Unit) Wd)
    ⊢ iprop(StableHlo.held (c : Thread nD τ) (Pipeline.ucRefs τ sig) (Vout m c) ∗ (semVal (barC c) 0 ∗ ∃ W, owes (c : Thread nD τ) (0 : CellTallies nD τ sig Unit) W))
  rw [StableHlo.held_sub_split (c : Thread nD τ) arr_uc (Vout m c)]
  iintro ⟨Ha, -, ⟨Hs, -⟩, Hb, HO⟩
  isplitl [Ha Hs]
  · isplitl [Ha] <;> iassumption
  isplitl [Hb] <;> iassumption

/-! ## The run -/

theorem unscoped_bar : ∀ sm : SemLoc sig, sm.isScoped .tc = false → sm = .reg barS := by decide

theorem Vout_x (c : Dev nD) : Vout m c (Proc.devRef .tc main_arg0) = m ((c.tc : Thread nD τ).loc main_arg0) :=
  (Vout_of m c main_arg0 (by decide)).trans (Vin_x m c)
theorem Vout_w (c : Dev nD) : Vout m c (Proc.devRef .tc main_arg1) = m ((c.tc : Thread nD τ).loc main_arg1) :=
  (Vout_of m c main_arg1 (by decide)).trans (Vin_w m c)

theorem uc_mem (r : Ref sig .tc) (h : ¬ (Proc.devRef .tc r : DevRef τ sig).isScoped = true) : Proc.devRef .tc r ∈ Pipeline.ucRefs τ sig :=
  Finset.mem_filter.mpr ⟨StableHlo.devRef_mem_tcRefs r, h⟩

set_option maxRecDepth 1200 in
set_option backward.isDefEq.respectTransparency.types false in
/-- From any memory with all counters at zero, every fair execution of the program ends; then each device's arguments are as launched,
    its result is its columns of the product, and every counter is zero again. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v41) = (oC (data m) c : S4096x1024.Idx → Elt F .f32))
    ∧ r.2.sem = fun _ => 0) := by
  refine Pipeline.θ_run_regions_kit_dev_sems (pcfgs (F := F)) adm (dats m) () cellOf_inj EP defs₀ 𝒱₀ L lv m ρ main
    (segs m 𝒱₀ L lv (rest m) () (dats m) (region m))
    (fun c Q => by
      rewrite [main_chain c, Seg.run_eq_chain,
        show (segs m 𝒱₀ L lv (rest m) () (dats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ u₀_split
    (T₀ := fun c => iprop(StableHlo.held (c : Thread nD τ) (Pipeline.ucRefs τ sig) (V0 m c) ∗ rest m 0 c))
    (Tₙ := fun c => iprop(StableHlo.held (c : Thread nD τ) (Pipeline.ucRefs τ sig) (Vout m c) ∗ semVal (barC c) 0))
    (hch := fun c => ⟨.rfl, enter m c, (leave m c).trans ?_⟩)
    (hinit := ?_)
    (QY := fun c s => (s.mem ((c.tc : Thread nD τ).loc main_arg0) = Vout m c (Proc.devRef .tc main_arg0)
      ∧ s.mem ((c.tc : Thread nD τ).loc main_arg1) = Vout m c (Proc.devRef .tc main_arg1)
      ∧ s.mem ((c.tc : Thread nD τ).loc main_v41) = Vout m c (Proc.devRef .tc main_v41)) ∧ s.sem (barC c) = 0)
    (hfin := fun c s' => ?_) (hQ := fun s h hs => ?_)
  · show iprop(StableHlo.held (c : Thread nD τ) (Pipeline.ucRefs τ sig) (Vout m c) ∗ (semVal (barC c) 0 ∗ ∃ W, owes (c : Thread nD τ) (0 : CellTallies nD τ sig Unit) W))
      ⊢ iprop((StableHlo.held (c : Thread nD τ) (Pipeline.ucRefs τ sig) (Vout m c) ∗ semVal (barC c) 0) ∗ ∃ W, owes (c : Thread nD τ) (0 : CellTallies nD τ sig Unit) W)
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (stock_all m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vout m c) s') $$ [Hh HSI]
    · isplitl [Hh] <;> iassumption
    icases Hr with ⟨%h, HSI⟩
    imodintro
    isplitr
    · ipureintro
      exact ⟨⟨h _ (uc_mem main_arg0 (by decide)), h _ (uc_mem main_arg1 (by decide)), h _ (uc_mem main_v41 (by decide))⟩, by simpa using hb⟩
    · iexact HSI
  · refine ⟨fun c => ?_, sem_eq_zero hs fun c sm hsm => by obtain rfl := unscoped_bar sm hsm; exact (h c).2⟩
    obtain ⟨⟨hx, hw, ho⟩, -⟩ := h c
    exact ⟨hx.trans (Vout_x m c), hw.trans (Vout_w m c), ho.trans (Vout_o m c)⟩

end Cert.Hyper

end
-- ==== Proof.Same.lean ====
/-
  The two printed programs have the same text: the kernel at bit patterns is the kernel over any float values, read there.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F] [hK : Kernel.Facts] [hI : KernelIdeal.Facts]

-- two long texts are compared
set_option maxHeartbeats 4000000
set_option cleanup.letToHave false

/-- The bodies are the same function. -/
theorem body_same : @Kernel.cc0_body F _ hK = @KernelIdeal.cc0_body F _ hI := (rfl)

/-- So are the tables of bodies. -/
theorem defs₀_same : @Kernel.defs₀ F _ hK = @KernelIdeal.defs₀ F _ hI := by
  unfold Kernel.defs₀ KernelIdeal.defs₀
  rw [body_same]
  refine congrArg (Defs.onTc (nD := KernelIdeal.nD) (τ := KernelIdeal.τ) (sig := KernelIdeal.sig) (Λ := KernelIdeal.Λ₀)) ?_
  funext l a
  match l, a with
  | 0, (t, s) => exact (rfl)

/-- The first part of the host program. -/
theorem main0_same : @Kernel.main_part0 F hK = @KernelIdeal.main_part0 F hI := (rfl)

/-- The second part, with the call. -/
theorem main1_same : @Kernel.main_part1 F hK = @KernelIdeal.main_part1 F hI := (rfl)

/-- The tables of bodies with the pipeline's entries. -/
theorem defs_same : @Kernel.defs F _ hK = @KernelIdeal.defs F _ hI := by
  unfold Kernel.defs KernelIdeal.defs
  rw [defs₀_same]
  exact (rfl)

/-- The host programs. -/
theorem main_same : @Kernel.main F hK = @KernelIdeal.main F hI := by
  unfold Kernel.main KernelIdeal.main
  rw [main0_same, main1_same]

omit [FloatOps F] hK hI in
/-- What every run of a program gives, every run of an equal program gives. -/
theorem run_same {nD : ℕ} {τ : Topo} {sig : RefSig} {Λ : Labels} {d d' : Defs nD τ sig (Elt F) Λ}
    {p p' : Dev nD → Prog (TpuEff nD τ sig (Elt F) Λ .tc) PUnit} (hd : d = d') (hp : p = p') {s} {Q}
    (h : θ_run d' (onTc p') s Q) : θ_run d (onTc p) s Q := by
  subst hd hp
  exact h

end Cert.Same
end
-- ==== Proof.Value.lean ====
/-
  The values over the extended reals: each device's result is its columns of the reference's.
-/
module

public import proofs.«01_k».proof.Proof.Views
public import proofs.«01_k».proof.Proof.Gen.ReferenceIdeal
public import Idealize.ShloMosaic.Lib.Layout
public import Idealize.ShloMosaic.Lib.MatmulPlain
public import Idealize.ShloMosaic.Lib.StackMember
public import Idealize.ShloMosaic.PureOps.Ideal

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx
open scoped BigOperators

/-! ## A row times a column -/

/-- Row `r` of `x` times column `j` of `w`, cut off at zero. -/
def rowCol {M N : Nat} (x : Fin M → Fin 4096 → EReal) (w : Fin 4096 → Fin N → EReal) (r : Fin M) (j : Fin N) : EReal :=
  max (∑ k : Fin 4096, x r k * w k j) (Ideal.ofBits .f32 0x00000000#32)

theorem zero_word : Ideal.ofBits .f32 0x00000000#32 = 0 := Ideal.ofBits_zero_f32

/-- A band, without its leading axis, at an index. -/
theorem drop_at {a b : Nat} {α : Type} (f : (⟨3, ![1, a, b]⟩ : Shape).Idx → α) (h : (⟨3, ![1, a, b]⟩ : Shape).ShapeCasts ⟨2, ![a, b]⟩)
    (r : Fin a) (k : Fin b) : shapeCast ⟨2, ![a, b]⟩ f h (ix2 r k) = f (ix3 ⟨0, Nat.one_pos⟩ r k) :=
  congrArg f (unsqueeze h (ix2 r k) (ix3 ⟨0, Nat.one_pos⟩ r k) rfl rfl)
theorem drop_at' {a b : Nat} {α : Type} (f : (⟨3, ![1, a, b]⟩ : Shape).Idx → α) (h : (⟨3, ![1, a, b]⟩ : Shape).ShapeCasts ⟨2, ![a, b]⟩)
    (i : (⟨2, ![a, b]⟩ : Shape).Idx) : shapeCast ⟨2, ![a, b]⟩ f h i = f (ix3 ⟨0, Nat.one_pos⟩ (i 0) (i 1)) :=
  congrArg f (unsqueeze h i (ix3 ⟨0, Nat.one_pos⟩ (i 0) (i 1)) rfl rfl)

/-- An array with a leading axis put before it, at an index. -/
theorem lead_at {a b : Nat} {α : Type} (f : (⟨2, ![a, b]⟩ : Shape).Idx → α) (h : (⟨2, ![a, b]⟩ : Shape).ShapeCasts ⟨3, ![1, a, b]⟩)
    (y : (⟨3, ![1, a, b]⟩ : Shape).Idx) : shapeCast ⟨3, ![1, a, b]⟩ f h y = f (ix2 (y 1) (y 2)) := by
  refine congrArg f (Shape.reshapeEquiv_eq_of_rowMajor h ?_)
  have h0 : (y 0).val = 0 := Nat.lt_one_iff.mp (y 0).isLt
  rw [Shape.rowMajor_val_two, Shape.rowMajor_val_three, h0]
  show (y 1).val * b + (y 2).val = (0 * a + (y 1).val) * b + (y 2).val
  rw [Nat.zero_mul, Nat.zero_add]

/-- An array cast to its own shape is itself. -/
theorem same_cast {s : Shape} {α : Type} (f : s.Idx → α) (h : s.ShapeCasts s) : shapeCast s f h = f :=
  funext fun j => congrArg f (Shape.reshapeEquiv_eq_of_rowMajor h rfl)

/-- A band of `R` rows times the weight, cut off at zero, at an index. -/
theorem band_at {R : Nat} (b : FVec Ideal ⟨3, ![1, R, 4096]⟩ .bf16) (w : FVec Ideal S4096x1024 .bf16)
    (h : (⟨3, ![1, R, 4096]⟩ : Shape).ShapeCasts ⟨2, ![R, 4096]⟩) (h' : (⟨2, ![R, 1024]⟩ : Shape).ShapeCasts ⟨3, ![1, R, 1024]⟩)
    (y : (⟨3, ![1, R, 1024]⟩ : Shape).Idx) :
    shapeCast ⟨3, ![1, R, 1024]⟩ (maximumf (matmul (DotDims.plain R 4096 1024) none (shapeCast ⟨2, ![R, 4096]⟩ b h) w (constant ⟨2, ![R, 1024]⟩ .f32 0x00000000#32))
        (broadcast ⟨2, ![R, 1024]⟩ (Scalar.ofBits (F := Ideal) .f32 0x00000000#32))) h' y
      = rowCol (fun r k => b (ix3 ⟨0, Nat.one_pos⟩ r k)) (fun k j => w (ix2 k j)) (y 1) (y 2) := by
  refine (lead_at _ h' y).trans ?_
  unfold rowCol
  refine congrArg (fun z => max z (Ideal.ofBits .f32 0x00000000#32)) ((Ideal.matmul_plain_apply none _ w _ (y 1) (y 2)).trans ?_)
  refine Eq.trans (congrArg (fun z => z + _) zero_word) ((zero_add _).trans ?_)
  exact Finset.sum_congr rfl fun k _ => congrArg (fun z => z * _) (drop_at b h (y 1) k)

/-- What is staged for a band, at an index. -/
theorem prodP_at : ∀ (t : Fin 3) (b : Vec Ideal (bShape3 t) .bf16) (w : Vec Ideal S4096x1024 .bf16) (y : (oShape3 t).Idx) (b' : Fin 4096 → EReal) (j : Fin 1024),
    (∀ k : Fin 4096, ∀ z : (bShape3 t).Idx, (z 1).val = (y 1).val → (z 2).val = k.val → b z = b' k) → (y 2).val = j.val →
    prodP (F := Ideal) t b w y = max (∑ k : Fin 4096, b' k * w (ix2 k j)) (Ideal.ofBits .f32 0x00000000#32)
  | 0, b, w, y, b', j, hb, hj => by
    have e : y 2 = j := Fin.ext hj
    refine (band_at (R := 176) b w _ _ y).trans ?_
    unfold rowCol
    rw [e]
    exact congrArg (fun z => max z _) (Finset.sum_congr rfl fun k _ => congrArg (fun z => z * _) (hb k _ rfl rfl))
  | 1, b, w, y, b', j, hb, hj => by
    have e : y 2 = j := Fin.ext hj
    refine (band_at (R := 176) b w _ _ y).trans ?_
    unfold rowCol
    rw [e]
    exact congrArg (fun z => max z _) (Finset.sum_congr rfl fun k _ => congrArg (fun z => z * _) (hb k _ rfl rfl))
  | 2, b, w, y, b', j, hb, hj => by
    have e : y 2 = j := Fin.ext hj
    refine (band_at (R := 160) b w _ _ y).trans ?_
    unfold rowCol
    rw [e]
    exact congrArg (fun z => max z _) (Finset.sum_congr rfl fun k _ => congrArg (fun z => z * _) (hb k _ rfl rfl))

/-! ## What the devices' buffers hold over the reals -/

variable (D : Data Ideal)

/-- The rounded weight is the weight. -/
theorem wC_at (c : Dev nD) (k : Fin 4096) (j : Fin 1024) : wC D c (ix2 k j) = D.w c (ix2 k j) := by
  unfold wC
  unfold k0_pay2
  show shapeCast S1024x1024 (shapeCast S1024x1024 (chunkC D c _) _) _ _ = _
  rw [same_cast]
  refine (drop_at' _ _ _).trans ?_
  unfold chunkC tC
  refine congrArg _ (funext fun a => ?_)
  match a with
  | 0 => exact Fin.ext (Nat.div_add_mod k.val 1024)
  | 1 => rfl

/-- A gathered block is its device's rows. -/
theorem gC_at (o : Dev nD) (r : Fin 512) (k : Fin 4096) : gC D (ix3 o r k) = D.x o (ix2 r k) := by
  unfold gC k0_pay1
  show shapeCast S1x512x4096 (shapeCast S512x4096 (D.x o) _) _ _ = _
  rw [same_cast]
  exact lead_at (D.x o) _ _

/-- A band of a gathered block has the block's rows from the band's first on. -/
theorem bandC_at (o : Dev nD) (t : Fin 3) (z : (bShape3 t).Idx) (r : Fin 512) (k : Fin 4096) (hr : boff t + (z 1).val = r.val) (hk : (z 2).val = k.val) :
    bandC D o t z = D.x o (ix2 r k) := by
  rw [← gC_at]
  show gC D ((pieceR o t).emb z) = _
  have h0 : (z 0).val = 0 := Nat.lt_one_iff.mp (z 0).isLt
  refine congrArg _ (funext fun a => ?_)
  match a with
  | 0 => exact Fin.ext (by show o.val + 1 * (z 0).val = o.val; omega)
  | 1 => exact Fin.ext (by show boff t + 1 * (z 1).val = r.val; omega)
  | 2 => exact Fin.ext (by show 0 + 1 * (z 2).val = k.val; omega)

/-- A device's result at an index: the row of the device that has it times the column, cut off at zero. -/
theorem oC_at (c : Dev nD) (o : Dev nD) (r : Fin 512) (i : S4096x1024.Idx) (j : Fin 1024) (h0 : (i 0).val = 512 * o.val + r.val) (h1 : (i 1).val = j.val) :
    oC D c i = max (∑ k : Fin 4096, D.x o (ix2 r k) * D.w c (ix2 k j)) (Ideal.ofBits .f32 0x00000000#32) := by
  unfold oC
  have hr := r.isLt
  have ho : (⟨(i 0).val / 512, by have h : (i 0).val < 4096 := (i 0).isLt; show _ < 8; omega⟩ : Dev nD) = o := Fin.ext (by show (i 0).val / 512 = o.val; omega)
  have hm : (i 0).val % 512 = r.val := by omega
  rw [prodP_at _ _ _ _ (fun k => D.x o (ix2 r k)) j]
  · exact congrArg (fun z => max z _) (Finset.sum_congr rfl fun k _ => congrArg (fun z => _ * z) (wC_at D c k j))
  · intro k z hz1 hz2
    rw [ho]
    refine bandC_at D o _ z r k ?_ hz2
    have hs := bandOf_spec ((i 0).val % 512) (Nat.mod_lt _ (by decide))
    refine Eq.trans (congrArg (fun n => boff (bandOf ((i 0).val % 512)) + n) hz1) ?_
    show boff (bandOf ((i 0).val % 512)) + ((i 0).val % 512 - boff (bandOf ((i 0).val % 512))) = r.val
    omega
  · exact h1

/-! ## The reference -/

/-- The reference's result over the whole arrays. -/
abbrev refOut (x : ReferenceIdeal.S4096x4096.Idx → EReal) (w : ReferenceIdeal.S4096x8192.Idx → EReal) : ReferenceIdeal.S4096x8192.Idx → EReal :=
  maximumf (F := Ideal) (φ := .f32)
    (Host.dotGeneral (F := Ideal) (φ₁ := .f32) (φ₂ := .f32) ReferenceIdeal.dot_S4096x4096_S4096x8192_S4096x8192_1_0_0_1_n_n none x w)
    (broadcastInDim ReferenceIdeal.S4096x8192 ![] ReferenceIdeal.Gen.bcast_S_S4096x8192 (constant (F := Ideal) ReferenceIdeal.S_ .f32 0x00000000#32))

theorem refOut_at (x : ReferenceIdeal.S4096x4096.Idx → EReal) (w : ReferenceIdeal.S4096x8192.Idx → EReal) (r : Fin 4096) (j : Fin 8192) :
    refOut x w (ix2 r j) = max (∑ k : Fin 4096, x (ix2 r k) * w (ix2 k j)) (Ideal.ofBits .f32 0x00000000#32) := by
  refine congrArg (fun z => max z (Ideal.ofBits .f32 0x00000000#32)) ?_
  exact StackMember.dotGeneral_plain_apply none x w r j

/-- When each device has its rows of `x` and its columns of `w`, its result is its columns of the reference's. -/
theorem oC_block (x : ReferenceIdeal.S4096x4096.Idx → EReal) (w : ReferenceIdeal.S4096x8192.Idx → EReal)
    (hx : ∀ c : Dev nD, D.x c = Layout.block ⟨2, ![512, 4096]⟩ ⟨2, ![4096, 4096]⟩ 0 8 c x)
    (hw : ∀ c : Dev nD, D.w c = Layout.block ⟨2, ![4096, 1024]⟩ ⟨2, ![4096, 8192]⟩ 1 8 c w) (c : Dev nD) :
    oC D c = Layout.block ⟨2, ![4096, 1024]⟩ ⟨2, ![4096, 8192]⟩ 1 8 c (refOut x w) := by
  funext i
  have hi0 : (i 0).val < 4096 := (i 0).isLt
  have hi1 : (i 1).val < 1024 := (i 1).isLt
  have hc : c.val < 8 := c.isLt
  rw [oC_at D c ⟨(i 0).val / 512, by show _ < 8; omega⟩ ⟨(i 0).val % 512, Nat.mod_lt _ (by decide)⟩ i ⟨(i 1).val, hi1⟩
    (by show (i 0).val = 512 * ((i 0).val / 512) + (i 0).val % 512; omega) rfl, hx, hw]
  rw [Layout.block_apply]
  have ho : (Layout.Tiles.idx (S := ⟨2, ![4096, 1024]⟩) (T := ⟨2, ![4096, 8192]⟩) (a := 1) (k := 8) (by decide) c i)
      = ix2 ⟨(i 0).val, hi0⟩ ⟨c.val * 1024 + (i 1).val, by omega⟩ := by
    funext a
    match a with
    | 0 => rfl
    | 1 => rfl
  refine Eq.trans ?_ (congrArg (refOut x w) ho).symm
  rw [refOut_at]
  refine congrArg (fun z => max z _) (Finset.sum_congr rfl fun k _ => ?_)
  rw [Layout.block_apply, Layout.block_apply]
  refine congrArg₂ (fun a b => x a * w b) (funext fun a => ?_) (funext fun a => ?_)
  · match a with
    | 0 => exact Fin.ext (by show (i 0).val / 512 * 512 + (i 0).val % 512 = (i 0).val; omega)
    | 1 => rfl
  · match a with
    | 0 => rfl
    | 1 => rfl

end Cert.Hyper

end
-- ==== Proof.lean ====
/-
  The proof of the five claims: the three frames, the idealization, and the value over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The run at bit patterns, without the result. -/
theorem run_bits (m : (ℓ : Loc KernelIdeal.nD KernelIdeal.τ KernelIdeal.sig) → Buf (Elt Bits) ℓ) (ρ : Dev KernelIdeal.nD → PrngReg) :
    θ_run (KernelIdeal.defs (F := Bits)) (onTc (τ := KernelIdeal.τ) (KernelIdeal.main (F := Bits))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run Cert.KernelIdeal.defs _ _).mono (fun _ h => ⟨fun c => ⟨(h.1 c).1, (h.1 c).2.1⟩, h.2⟩) (Cert.Hyper.run_main (F := Bits) m ρ)

/-- The kernel as compiled ends, keeps its arguments and leaves every counter at zero: the one run, read at bit patterns. -/
theorem frame_kernel : Cert.quiescent_Kernel := fun m ρ _ => Cert.Same.run_same Cert.Same.defs_same Cert.Same.main_same (run_bits m ρ)

/-- The same of the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Hyper.run_main (F := Ideal) m ρ)

/-- The reference ends and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On eight devices that have their blocks of the reference's arguments, each device's result is its block of the reference's result. -/
theorem value : Cert.algebraic_KernelIdeal_ReferenceIdeal := fun m ρ m' ρ' _ hm =>
  ⟨Cert.Hyper.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans
        (Cert.Hyper.oC_block (Cert.Hyper.data m) _ _ (fun c => (hm c).1) (fun c => (hm c).2) c), (h.1 c).1, (h.1 c).2.1⟩)
      (Cert.Hyper.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
